-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_3)) (v2 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_3) = v1 c
          ∧ r.2.mem ((c.tc : Thread Cert.Kernel3Ideal.nD Cert.Kernel3Ideal.τ).loc Cert.Kernel3Ideal.main_v0_4) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v57) = v1 c
          ∧ r.2.mem ((c.tc : Thread Cert.Reference7Ideal.nD Cert.Reference7Ideal.τ).loc Cert.Reference7Ideal.main_v55) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_2)) (v2 : (c : Dev Cert.Kernel13Ideal.nD) → Buf (Elt Ideal) ((c.tc : Thread Cert.Kernel13Ideal.nD Cert.Kernel13Ideal.τ).loc Cert.Kernel13Ideal.main_v0_8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_2) = v1 c
          ∧ r.2.mem ((c.tc : Thread Cert.Kernel13Ideal.nD Cert.Kernel13Ideal.τ).loc Cert.Kernel13Ideal.main_v0_8) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v49) = v1 c
          ∧ r.2.mem ((c.tc : Thread Cert.Reference13Ideal.nD Cert.Reference13Ideal.τ).loc Cert.Reference13Ideal.main_v45) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S2x2048x1024 : Shape := ⟨3, ![2, 2048, 1024]⟩
abbrev S_ : Shape := ⟨0, ![]⟩

class Facts : Prop where
  bitsLt_bf16_f32 : FTy.bits .bf16 < FTy.bits .f32
  bcast_S_S2x2048x2048 : S_.BroadcastsInDim S2x2048x2048 (![] : Fin 0 → Fin S2x2048x2048.rank)
  bcast_S_S2x2304x2048 : S_.BroadcastsInDim S2x2304x2048 (![] : Fin 0 → Fin S2x2304x2048.rank)
  bcast_S_S2x2304x1024 : S_.BroadcastsInDim S2x2304x1024 (![] : Fin 0 → Fin S2x2304x1024.rank)
  bcast_S_S2x2048x1024 : S_.BroadcastsInDim S2x2048x1024 (![] : Fin 0 → Fin S2x2048x1024.rank)

variable [Facts]

def fn {F : FTy → Type} [FloatOps F] (main_arg0 : FVec F S2x2048x2048 .bf16) (main_arg1 : FVec F S2x2304x2048 .bf16) (main_arg2 : FVec F S2x2304x1024 .bf16) (main_arg3 : FVec F S2x2048x1024 .f32) : IVec S2x2048x2048 1 × IVec S2x2304x2048 1 × IVec S2x2304x1024 1 × IVec S2x2048x1024 1 :=
  let main_v0 : FVec F S2x2048x2048 .f32 := (extf .f32 · bitsLt_bf16_f32) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_v4 : FVec F S2x2304x2048 .f32 := (extf .f32 · bitsLt_bf16_f32) main_arg1
  let main_v5 : FVec F S2x2304x2048 .f32 := Host.absf main_v4
  let main_cst_0 : FVec F S_ .f32 := constant S_ .f32 0x7F800000#32
  let main_v6 : FVec F S2x2304x2048 .f32 := broadcastInDim S2x2304x2048 ![] bcast_S_S2x2304x2048 main_cst_0
  let main_v7 : IVec S2x2304x2048 1 := cmpf .olt main_v5 main_v6
  let main_v8 : FVec F S2x2304x1024 .f32 := (extf .f32 · bitsLt_bf16_f32) main_arg2
  let main_v9 : FVec F S2x2304x1024 .f32 := Host.absf main_v8
  let main_cst_1 : FVec F S_ .f32 := constant S_ .f32 0x7F800000#32
  let main_v10 : FVec F S2x2304x1024 .f32 := broadcastInDim S2x2304x1024 ![] bcast_S_S2x2304x1024 main_cst_1
  let main_v11 : IVec S2x2304x1024 1 := cmpf .olt main_v9 main_v10
  let main_v12 : FVec F S2x2048x1024 .f32 := Host.absf main_arg3
  let main_cst_2 : FVec F S_ .f32 := constant S_ .f32 0x7F800000#32
  let main_v13 : FVec F S2x2048x1024 .f32 := broadcastInDim S2x2048x1024 ![] bcast_S_S2x2048x1024 main_cst_2
  let main_v14 : IVec S2x2048x1024 1 := cmpf .olt main_v12 main_v13
  (main_v3, main_v7, main_v11, main_v14)
-- ==== Pre_finite2.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S_ : Shape := ⟨0, ![]⟩

class Facts : Prop where
  bitsLt_bf16_f32 : FTy.bits .bf16 < FTy.bits .f32
  bcast_S_S2x2048x2048 : S_.BroadcastsInDim S2x2048x2048 (![] : Fin 0 → Fin S2x2048x2048.rank)
  bcast_S_S2x2304x2048 : S_.BroadcastsInDim S2x2304x2048 (![] : Fin 0 → Fin S2x2304x2048.rank)

variable [Facts]

def fn {F : FTy → Type} [FloatOps F] (main_arg0 : FVec F S2x2048x2048 .bf16) (main_arg1 : FVec F S2x2304x2048 .bf16) (main_arg2 : FVec F S2x2304x1024 .bf16) : IVec S2x2048x2048 1 × IVec S2x2304x2048 1 :=
  let main_v0 : FVec F S2x2048x2048 .f32 := (extf .f32 · bitsLt_bf16_f32) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_v4 : FVec F S2x2304x2048 .f32 := (extf .f32 · bitsLt_bf16_f32) main_arg1
  let main_v5 : FVec F S2x2304x2048 .f32 := Host.absf main_v4
  let main_cst_0 : FVec F S_ .f32 := constant S_ .f32 0x7F800000#32
  let main_v6 : FVec F S2x2304x2048 .f32 := broadcastInDim S2x2304x2048 ![] bcast_S_S2x2304x2048 main_cst_0
  let main_v7 : IVec S2x2304x2048 1 := cmpf .olt main_v5 main_v6
  (main_v3, main_v7)
-- ==== Kernel.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S2x2048x1024 : Shape := ⟨3, ![2, 2048, 1024]⟩
abbrev S2x2048x8x256 : Shape := ⟨4, ![2, 2048, 8, 256]⟩
abbrev S2x2304x8x256 : Shape := ⟨4, ![2, 2304, 8, 256]⟩
abbrev S2x2304x8x128 : Shape := ⟨4, ![2, 2304, 8, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x128 : Shape := ⟨4, ![2, 2048, 8, 128]⟩
abbrev S1x2048x256 : Shape := ⟨3, ![1, 2048, 256]⟩
abbrev S1x2304x256 : Shape := ⟨3, ![1, 2304, 256]⟩
abbrev S1x2304x128 : Shape := ⟨3, ![1, 2304, 128]⟩
abbrev S1x2048x128 : Shape := ⟨3, ![1, 2048, 128]⟩
abbrev S1x1x2048x1 : Shape := ⟨4, ![1, 1, 2048, 1]⟩
abbrev S2048x2304 : Shape := ⟨2, ![2048, 2304]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S1x1x128x1 : Shape := ⟨4, ![1, 1, 128, 1]⟩
abbrev S128x1 : Shape := ⟨2, ![128, 1]⟩
abbrev S128 : Shape := ⟨1, ![128]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S2304x256 : Shape := ⟨2, ![2304, 256]⟩
abbrev S2048x256 : Shape := ⟨2, ![2048, 256]⟩
abbrev S2048x128 : Shape := ⟨2, ![2048, 128]⟩
abbrev S2304x128 : Shape := ⟨2, ![2304, 128]⟩

abbrev nBuf : Space → Nat
  | .hbm => 59
  | .vmem => 20
  | .smem => 0
  | _ => 0

abbrev bufTy : (tb : Table) → Fin (tcTables nBuf tb) → BufTy
  | .hbm, ⟨0, _⟩ => ⟨S2x2048x2048, .bf16⟩
  | .hbm, ⟨1, _⟩ => ⟨S2x2304x2048, .bf16⟩
  | .hbm, ⟨2, _⟩ => ⟨S2x2304x1024, .bf16⟩
  | .hbm, ⟨3, _⟩ => ⟨S2x2048x1024, .f32⟩
  | .hbm, ⟨4, _⟩ => ⟨S2x2048x2048, .f32⟩
  | .hbm, ⟨5, _⟩ => ⟨S2x2048x8x256, .f32⟩
  | .hbm, ⟨6, _⟩ => ⟨S2x2304x2048, .f32⟩
  | .hbm, ⟨7, _⟩ => ⟨S2x2304x8x256, .f32⟩
  | .hbm, ⟨8, _⟩ => ⟨S2x2304x1024, .f32⟩
  | .hbm, ⟨9, _⟩ => ⟨S2x2304x8x128, .f32⟩
  | .hbm, ⟨10, _⟩ => ⟨S2x8x2048x2304, .f32⟩
  | .hbm, ⟨11, _⟩ => ⟨S_, .f32⟩
  | .hbm, ⟨12, _⟩ => ⟨S_, .f32⟩
  | .hbm, ⟨13, _⟩ => ⟨S2x8x2048x2304, .f32⟩
  | .hbm, ⟨14, _⟩ => ⟨S2x8x2048x2304, .f32⟩
  | .hbm, ⟨15, _⟩ => ⟨S_, .f32⟩
  | .hbm, ⟨16, _⟩ => ⟨S2x8x2048, .f32⟩
  | .hbm, ⟨17, _⟩ => ⟨S_, .f32⟩
  | .hbm, ⟨18, _⟩ => ⟨S2x8x2048, .f32⟩
  | .hbm, ⟨19, _⟩ => ⟨S2x8x2048, .f32⟩
  | .hbm, ⟨20, _⟩ => ⟨S2x8x2048x1, .f32⟩
  | .hbm, ⟨21, _⟩ => ⟨S2x8x2048x2304, .f32⟩
  | .hbm, ⟨22, _⟩ => ⟨S2x8x2048x2304, .f32⟩
  | .hbm, ⟨23, _⟩ => ⟨S2x8x2048x2304, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x2304, .f32⟩
  | .hbm, ⟨28, _⟩ => ⟨S2x8x2048x2304, .f32⟩
  | .hbm, ⟨29, _⟩ => ⟨S2x8x128x2048, .f32⟩
  | .hbm, ⟨30, _⟩ => ⟨S2x2048x8x128, .f32⟩
  | .hbm, ⟨31, _⟩ => ⟨S2x2048x1024, .f32⟩
  | .hbm, ⟨32, _⟩ => ⟨S2x2048x2048, .f32⟩
  | .hbm, ⟨33, _⟩ => ⟨S2x2048x8x256, .f32⟩
  | .hbm, ⟨34, _⟩ => ⟨S2x2304x2048, .f32⟩
  | .hbm, ⟨35, _⟩ => ⟨S2x2304x8x256, .f32⟩
  | .hbm, ⟨36, _⟩ => ⟨S2x8x2048x2304, .f32⟩
  | .hbm, ⟨37, _⟩ => ⟨S_, .f32⟩
  | .hbm, ⟨38, _⟩ => ⟨S_, .f32⟩
  | .hbm, ⟨39, _⟩ => ⟨S2x8x2048x2304, .f32⟩
  | .hbm, ⟨40, _⟩ => ⟨S2x8x2048x2304, .f32⟩
  | .hbm, ⟨41, _⟩ => ⟨S_, .f32⟩
  | .hbm, ⟨42, _⟩ => ⟨S2x8x2048, .f32⟩
  | .hbm, ⟨43, _⟩ => ⟨S2x8x2048x1, .f32⟩
  | .hbm, ⟨44, _⟩ => ⟨S2x8x2048x2304, .f32⟩
  | .hbm, ⟨45, _⟩ => ⟨S2x8x2048x2304, .f32⟩
  | .hbm, ⟨46, _⟩ => ⟨S2x8x2048x2304, .f32⟩
  | .hbm, ⟨47, _⟩ => ⟨S_, .f32⟩
  | .hbm, ⟨48, _⟩ => ⟨S2x8x2048, .f32⟩
  | .hbm, ⟨49, _⟩ => ⟨S2x8x2048x1, .f32⟩
  | .hbm, ⟨50, _⟩ => ⟨S2x8x2048x1, .f32⟩
  | .hbm, ⟨51, _⟩ => ⟨S2x8x2048x1, .f32⟩
  | .hbm, ⟨52, _⟩ => ⟨S_, .f32⟩
  | .hbm, ⟨53, _⟩ => ⟨S_, .f32⟩
  | .hbm, ⟨54, _⟩ => ⟨S2x8x2048x1, .f32⟩
  | .hbm, ⟨55, _⟩ => ⟨S2x8x2048x1, .f32⟩
  | .hbm, ⟨56, _⟩ => ⟨S2x2048x2048, .f32⟩
  | .hbm, ⟨57, _⟩ => ⟨S2x2304x2048, .f32⟩
  | .hbm, ⟨58, _⟩ => ⟨S2x2304x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x2048x1, .f32⟩
  | .local _ .vmem, ⟨9, _⟩ => ⟨S1x1x2048x1, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x256, .f32⟩
  | .local _ .vmem, ⟨13, _⟩ => ⟨S1x2048x256, .f32⟩
  | .local _ .vmem, ⟨14, _⟩ => ⟨S1x2304x256, .f32⟩
  | .local _ .vmem, ⟨15, _⟩ => ⟨S1x2304x256, .f32⟩
  | .local _ .vmem, ⟨16, _⟩ => ⟨S1x2304x128, .f32⟩
  | .local _ .vmem, ⟨17, _⟩ => ⟨S1x2304x128, .f32⟩
  | .local _ .vmem, ⟨18, _⟩ => ⟨S2048x2304, .bf16⟩
  | .local _ .vmem, ⟨19, _⟩ => ⟨S2048x2304, .bf16⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg2 : BitVec 32 := BitVec.ofNat 32 (i 2).val
  let c0_i32 : BitVec 32 := 0#32
  let v2868 : BitVec 1 := Scalar.cmpi .eq arg2 c0_i32
  let v2869 : BitVec 32 := Scalar.extui v2868
  let c0_i32_1337 : BitVec 32 := 0#32
  let v2870 : BitVec 1 := Scalar.cmpi .ne v2869 c0_i32_1337
  v2870

def k0_cond2 (i : grid0.Coords) : BitVec 1 :=
  let arg2 : BitVec 32 := BitVec.ofNat 32 (i 2).val
  let c0_i32_1338 : BitVec 32 := 0#32
  let v2871 : BitVec 1 := Scalar.cmpi .ne arg2 c0_i32_1338
  let v2872 : BitVec 32 := Scalar.extui v2871
  let c0_i32_1339 : BitVec 32 := 0#32
  let v2873 : BitVec 1 := Scalar.cmpi .ne v2872 c0_i32_1339
  v2873

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2304x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S2x2048x1024 : Shape := ⟨3, ![2, 2048, 1024]⟩
abbrev S2x2048x8x256 : Shape := ⟨4, ![2, 2048, 8, 256]⟩
abbrev S2x2304x8x256 : Shape := ⟨4, ![2, 2304, 8, 256]⟩
abbrev S2x2304x8x128 : Shape := ⟨4, ![2, 2304, 8, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x128 : Shape := ⟨4, ![2, 2048, 8, 128]⟩
abbrev S2x8x128x2304 : Shape := ⟨4, ![2, 8, 128, 2304]⟩
abbrev S2x8x2304x256 : Shape := ⟨4, ![2, 8, 2304, 256]⟩
abbrev S2x8x2048x256 : Shape := ⟨4, ![2, 8, 2048, 256]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2304x2048, .bf16⟩
  | .hbm, ⟨2, _⟩ => ⟨S2x2304x1024, .bf16⟩
  | .hbm, ⟨3, _⟩ => ⟨S2x2048x1024, .f32⟩
  | .hbm, ⟨4, _⟩ => ⟨S2x2048x2048, .f32⟩
  | .hbm, ⟨5, _⟩ => ⟨S2x2304x2048, .f32⟩
  | .hbm, ⟨6, _⟩ => ⟨S2x2304x1024, .f32⟩
  | .hbm, ⟨7, _⟩ => ⟨S2x2048x8x256, .f32⟩
  | .hbm, ⟨8, _⟩ => ⟨S2x2304x8x256, .f32⟩
  | .hbm, ⟨9, _⟩ => ⟨S2x2304x8x128, .f32⟩
  | .hbm, ⟨10, _⟩ => ⟨S2x8x2048x2304, .f32⟩
  | .hbm, ⟨11, _⟩ => ⟨S_, .f32⟩
  | .hbm, ⟨12, _⟩ => ⟨S_, .f32⟩
  | .hbm, ⟨13, _⟩ => ⟨S2x8x2048x2304, .f32⟩
  | .hbm, ⟨14, _⟩ => ⟨S2x8x2048x2304, .f32⟩
  | .hbm, ⟨15, _⟩ => ⟨S_, .f32⟩
  | .hbm, ⟨16, _⟩ => ⟨S2x8x2048, .f32⟩
  | .hbm, ⟨17, _⟩ => ⟨S2x8x2048x1, .f32⟩
  | .hbm, ⟨18, _⟩ => ⟨S2x8x2048x2304, .f32⟩
  | .hbm, ⟨19, _⟩ => ⟨S2x8x2048x2304, .i1⟩
  | .hbm, ⟨20, _⟩ => ⟨S2x8x2048x2304, .f32⟩
  | .hbm, ⟨21, _⟩ => ⟨S_, .f32⟩
  | .hbm, ⟨22, _⟩ => ⟨S2x8x2048, .f32⟩
  | .hbm, ⟨23, _⟩ => ⟨S_, .f32⟩
  | .hbm, ⟨24, _⟩ => ⟨S2x8x2048, .f32⟩
  | .hbm, ⟨25, _⟩ => ⟨S2x8x2048, .f32⟩
  | .hbm, ⟨26, _⟩ => ⟨S_, .f32⟩
  | .hbm, ⟨27, _⟩ => ⟨S2x8x2048, .f32⟩
  | .hbm, ⟨28, _⟩ => ⟨S2x8x2048, .i1⟩
  | .hbm, ⟨29, _⟩ => ⟨S_, .f32⟩
  | .hbm, ⟨30, _⟩ => ⟨S2x8x2048, .f32⟩
  | .hbm, ⟨31, _⟩ => ⟨S2x8x2048, .i1⟩
  | .hbm, ⟨32, _⟩ => ⟨S_, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S_, .f32⟩
  | .hbm, ⟨37, _⟩ => ⟨S2x8x2048, .f32⟩
  | .hbm, ⟨38, _⟩ => ⟨S2x8x2048, .f32⟩
  | .hbm, ⟨39, _⟩ => ⟨S2x8x2048, .f32⟩
  | .hbm, ⟨40, _⟩ => ⟨S2x8x2048x1, .f32⟩
  | .hbm, ⟨41, _⟩ => ⟨S2x8x2048x2304, .f32⟩
  | .hbm, ⟨42, _⟩ => ⟨S2x8x2048x2304, .f32⟩
  | .hbm, ⟨43, _⟩ => ⟨S2x8x2048x2304, .f32⟩
  | .hbm, ⟨44, _⟩ => ⟨S_, .f32⟩
  | .hbm, ⟨45, _⟩ => ⟨S2x8x2048, .f32⟩
  | .hbm, ⟨46, _⟩ => ⟨S2x8x2048x1, .f32⟩
  | .hbm, ⟨47, _⟩ => ⟨S2x8x2048x2304, .f32⟩
  | .hbm, ⟨48, _⟩ => ⟨S2x8x2048x2304, .f32⟩
  | .hbm, ⟨49, _⟩ => ⟨S2x8x2048x1, .f32⟩
  | .hbm, ⟨50, _⟩ => ⟨S_, .f32⟩
  | .hbm, ⟨51, _⟩ => ⟨S2x8x2048x1, .f32⟩
  | .hbm, ⟨52, _⟩ => ⟨S2x8x2048x1, .f32⟩
  | .hbm, ⟨53, _⟩ => ⟨S2x8x128x2048, .f32⟩
  | .hbm, ⟨54, _⟩ => ⟨S2x2048x8x128, .f32⟩
  | .hbm, ⟨55, _⟩ => ⟨S2x2048x1024, .f32⟩
  | .hbm, ⟨56, _⟩ => ⟨S2x2048x8x128, .f32⟩
  | .hbm, ⟨57, _⟩ => ⟨S2x8x128x2048, .f32⟩
  | .hbm, ⟨58, _⟩ => ⟨S2x8x2048x2304, .f32⟩
  | .hbm, ⟨59, _⟩ => ⟨S2x8x128x2304, .f32⟩
  | .hbm, ⟨60, _⟩ => ⟨S2x2304x8x128, .f32⟩
  | .hbm, ⟨61, _⟩ => ⟨S2x8x2048x2304, .f32⟩
  | .hbm, ⟨62, _⟩ => ⟨S2x8x2048x2304, .f32⟩
  | .hbm, ⟨63, _⟩ => ⟨S2x8x2048x2304, .f32⟩
  | .hbm, ⟨64, _⟩ => ⟨S_, .f32⟩
  | .hbm, ⟨65, _⟩ => ⟨S2x8x2048, .f32⟩
  | .hbm, ⟨66, _⟩ => ⟨S2x8x2048x1, .f32⟩
  | .hbm, ⟨67, _⟩ => ⟨S2x8x2048x1, .f32⟩
  | .hbm, ⟨68, _⟩ => ⟨S2x8x2048x2304, .f32⟩
  | .hbm, ⟨69, _⟩ => ⟨S2x8x2048x2304, .f32⟩
  | .hbm, ⟨70, _⟩ => ⟨S_, .f32⟩
  | .hbm, ⟨71, _⟩ => ⟨S2x8x2048, .f32⟩
  | .hbm, ⟨72, _⟩ => ⟨S2x8x2048x2304, .f32⟩
  | .hbm, ⟨73, _⟩ => ⟨S2x8x2048x2304, .f32⟩
  | .hbm, ⟨74, _⟩ => ⟨S2x8x2048x2304, .f32⟩
  | .hbm, ⟨75, _⟩ => ⟨S2x8x2048x2304, .f32⟩
  | .hbm, ⟨76, _⟩ => ⟨S2x8x2048x2304, .f32⟩
  | .hbm, ⟨77, _⟩ => ⟨S2x8x2304x256, .f32⟩
  | .hbm, ⟨78, _⟩ => ⟨S2x2304x8x256, .f32⟩
  | .hbm, ⟨79, _⟩ => ⟨S2x8x2048x256, .f32⟩
  | .hbm, ⟨80, _⟩ => ⟨S2x2048x8x256, .f32⟩
  | .hbm, ⟨81, _⟩ => ⟨S2x2304x1024, .f32⟩
  | .hbm, ⟨82, _⟩ => ⟨S2x2304x2048, .f32⟩
  | .hbm, ⟨83, _⟩ => ⟨S2x2048x2048, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S2x2048x1024 : Shape := ⟨3, ![2, 2048, 1024]⟩
abbrev S2x8x2048x1 : Shape := ⟨4, ![2, 8, 2048, 1]⟩
abbrev S1x1024x256 : Shape := ⟨3, ![1, 1024, 256]⟩
abbrev S1x2304x256 : Shape := ⟨3, ![1, 2304, 256]⟩
abbrev S1x2304x128 : Shape := ⟨3, ![1, 2304, 128]⟩
abbrev S1x1024x128 : Shape := ⟨3, ![1, 1024, 128]⟩
abbrev S1x1x1024x1 : Shape := ⟨4, ![1, 1, 1024, 1]⟩
abbrev S1024x256 : Shape := ⟨2, ![1024, 256]⟩
abbrev S2304x256 : Shape := ⟨2, ![2304, 256]⟩
abbrev S1024x2304 : Shape := ⟨2, ![1024, 2304]⟩
abbrev S1024 : Shape := ⟨1, ![1024]⟩
abbrev S1024x1 : Shape := ⟨2, ![1024, 1]⟩
abbrev S2304x128 : Shape := ⟨2, ![2304, 128]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x2048x2048, .bf16⟩
  | .hbm, ⟨1, _⟩ => ⟨S2x2304x2048, .bf16⟩
  | .hbm, ⟨2, _⟩ => ⟨S2x2304x1024, .bf16⟩
  | .hbm, ⟨3, _⟩ => ⟨S2x2048x1024, .f32⟩
  | .hbm, ⟨4, _⟩ => ⟨S2x8x2048x1, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1x1024x1, .f32⟩
  | .local _ .vmem, ⟨9, _⟩ => ⟨S1x1x1024x1, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel2Ideal.lean ====
variable {F : FTy → Type} [FloatOps F] [Named F]
def κ : String → Option EReal := fun
  | "log2e" => some (((Real.log 2)⁻¹ : ℝ) : EReal)
  | _ => none
-- ==== Reference2Ideal.lean ====
abbrev S2x2048x2048 : Shape := ⟨3, ![2, 2048, 2048]⟩
abbrev S2x2304x2048 : Shape := ⟨3, ![2, 2304, 2048]⟩
abbrev S2x2304x1024 : Shape := ⟨3, ![2, 2304, 1024]⟩
abbrev S2x2048x8x256 : Shape := ⟨4, ![2, 2048, 8, 256]⟩
abbrev S2x2304x8x256 : Shape := ⟨4, ![2, 2304, 8, 256]⟩
abbrev S2x2304x8x128 : Shape := ⟨4, ![2, 2304, 8, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x128 : Shape := ⟨4, ![2, 2048, 8, 128]⟩
abbrev S2x2048x1024 : Shape := ⟨3, ![2, 2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2304x2048, .bf16⟩
  | .hbm, ⟨2, _⟩ => ⟨S2x2304x1024, .bf16⟩
  | .hbm, ⟨3, _⟩ => ⟨S2x2048x2048, .f32⟩
  | .hbm, ⟨4, _⟩ => ⟨S2x2048x8x256, .f32⟩
  | .hbm, ⟨5, _⟩ => ⟨S2x2304x2048, .f32⟩
  | .hbm, ⟨6, _⟩ => ⟨S2x2304x8x256, .f32⟩
  | .hbm, ⟨7, _⟩ => ⟨S2x2304x1024, .f32⟩
  | .hbm, ⟨8, _⟩ => ⟨S2x2304x8x128, .f32⟩
  | .hbm, ⟨9, _⟩ => ⟨S2x8x2048x2304, .f32⟩
  | .hbm, ⟨10, _⟩ => ⟨S_, .f32⟩
  | .hbm, ⟨11, _⟩ => ⟨S_, .f32⟩
  | .hbm, ⟨12, _⟩ => ⟨S2x8x2048x2304, .f32⟩
  | .hbm, ⟨13, _⟩ => ⟨S2x8x2048x2304, .f32⟩
  | .hbm, ⟨14, _⟩ => ⟨S_, .f32⟩
  | .hbm, ⟨15, _⟩ => ⟨S2x8x2048, .f32⟩
  | .hbm, ⟨16, _⟩ => ⟨S_, .f32⟩
  | .hbm, ⟨17, _⟩ => ⟨S2x8x2048, .f32⟩
  | .hbm, ⟨18, _⟩ => ⟨S2x8x2048, .f32⟩
  | .hbm, ⟨19, _⟩ => ⟨S2x8x2048x1, .f32⟩
  | .hbm, ⟨20, _⟩ => ⟨S2x8x2048x2304, .f32⟩
  | .hbm, ⟨21, _⟩ => ⟨S2x8x2048x2304, .f32⟩
  | .hbm, ⟨22, _⟩ => ⟨S2x8x2048x2304, .f32⟩
  | .hbm, ⟨23, _⟩ => ⟨S_, .f32⟩
  | .hbm, ⟨24, _⟩ => ⟨S2x8x2048, .f32⟩
  | .hbm, ⟨25, _⟩ => ⟨S2x8x2048x1, .f32⟩
  | .hbm, ⟨26, _⟩ => ⟨S2x8x2048x2304, .f32⟩
  | .hbm, ⟨27, _⟩ => ⟨S2x8x2048x2304, .f32⟩
  | .hbm, ⟨28, _⟩ => ⟨S2x8x128x2048, .f32⟩
  | .hbm, ⟨29, _⟩ => ⟨S2x2048x8x128, .f32⟩
  | .hbm, ⟨30, _⟩ => ⟨S2x2048x1024, .f32⟩
  | .hbm, ⟨31, _⟩ => ⟨S2x2048x2048, .f32⟩
  | .hbm, ⟨32, _⟩ => ⟨S2x2048x8x256, .f32⟩
  | .hbm, ⟨33, _⟩ => ⟨S2x2304x2048, .f32⟩
  | .hbm, ⟨34, _⟩ => ⟨S2x2304x8x256, .f32⟩
  | .hbm, ⟨35, _⟩ => ⟨S2x8x2048x2304, .f32⟩
  | .hbm, ⟨36, _⟩ => ⟨S_, .f32⟩
  | .hbm, ⟨37, _⟩ => ⟨S_, .f32⟩
  | .hbm, ⟨38, _⟩ => ⟨S2x8x2048x2304, .f32⟩
  | .hbm, ⟨39, _⟩ => ⟨S2x8x2048x2304, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2304, .f32⟩
  | .hbm, ⟨44, _⟩ => ⟨S2x8x2048x2304, .f32⟩
  | .hbm, ⟨45, _⟩ => ⟨S2x8x2048x2304, .f32⟩
  | .hbm, ⟨46, _⟩ => ⟨S_, .f32⟩
  | .hbm, ⟨47, _⟩ => ⟨S2x8x2048, .f32⟩
  | .hbm, ⟨48, _⟩ => ⟨S2x8x2048x1, .f32⟩
  | .hbm, ⟨49, _⟩ => ⟨S2x8x2048x1, .f32⟩
  | .hbm, ⟨50, _⟩ => ⟨S2x8x2048x1, .f32⟩
  | .hbm, ⟨51, _⟩ => ⟨S_, .f32⟩
  | .hbm, ⟨52, _⟩ => ⟨S_, .f32⟩
  | .hbm, ⟨53, _⟩ => ⟨S2x8x2048x1, .f32⟩
  | .hbm, ⟨54, _⟩ => ⟨S2x8x2048x1, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S4x1024x768 : Shape := ⟨3, ![4, 1024, 768]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S1024x256 : Shape := ⟨2, ![1024, 256]⟩
abbrev S1024x512 : Shape := ⟨2, ![1024, 512]⟩
abbrev S1024 : Shape := ⟨1, ![1024]⟩
abbrev S1x1024x768 : Shape := ⟨3, ![1, 1024, 768]⟩
abbrev S1x1024x256 : Shape := ⟨3, ![1, 1024, 256]⟩
abbrev S1x1024x512 : Shape := ⟨3, ![1, 1024, 512]⟩

abbrev nBuf : Space → Nat
  | .hbm => 14
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2x1x1024, .f32⟩
  | .hbm, ⟨11, _⟩ => ⟨S2x2x1x1024, .f32⟩
  | .hbm, ⟨12, _⟩ => ⟨S1x1024, .f32⟩
  | .hbm, ⟨13, _⟩ => ⟨S4x1024x768, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x1024, .f32⟩
  | .local _ .vmem, ⟨23, _⟩ => ⟨S4x1024x768, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v93 : BitVec 1 := Scalar.cmpi .eq arg1 c0_i32
  let c8_i32 : BitVec 32 := 8#32
  let v94 : BitVec 1 := Scalar.cmpi .eq arg1 c8_i32
  let v95 : BitVec 1 := Scalar.ori v93 v94
  let v96 : BitVec 32 := Scalar.extui v95
  let c0_i32_47 : BitVec 32 := 0#32
  let v97 : BitVec 1 := Scalar.cmpi .ne v96 c0_i32_47
  v97

def k0_cond2 (i : grid0.Coords) : BitVec 1 :=
  let arg1 : BitVec 32 := BitVec.ofNat 32 (i 1).val
  let c0_i32 : BitVec 32 := 0#32
  let v93 : BitVec 1 := Scalar.cmpi .eq arg1 c0_i32
  let c8_i32 : BitVec 32 := 8#32
  let v94 : BitVec 1 := Scalar.cmpi .eq arg1 c8_i32
  let v95 : BitVec 1 := Scalar.ori v93 v94
  let v_true : BitVec 1 := 1#1
  let v98 : BitVec 1 := Scalar.xori v95 v_true
  let v99 : BitVec 32 := Scalar.extui v98
  let c0_i32_48 : BitVec 32 := 0#32
  let v100 : BitVec 1 := Scalar.cmpi .ne v99 c0_i32_48
  v100

def k0_cond3 (i : grid0.Coords) : BitVec 1 :=
  let arg1 : BitVec 32 := BitVec.ofNat 32 (i 1).val
  let c0_i32 : BitVec 32 := 0#32
  let v93 : BitVec 1 := Scalar.cmpi .eq arg1 c0_i32
  let c8_i32 : BitVec 32 := 8#32
  let v94 : BitVec 1 := Scalar.cmpi .eq arg1 c8_i32
  let v95 : BitVec 1 := Scalar.ori v93 v94
  let v101 : BitVec 32 := Scalar.extui v95
  let c0_i32_49 : BitVec 32 := 0#32
  let v102 : BitVec 1 := Scalar.cmpi .ne v101 c0_i32_49
  v102

def k0_cond4 (i : grid0.Coords) : BitVec 1 :=
  let arg1 : BitVec 32 := BitVec.ofNat 32 (i 1).val
  let c0_i32 : BitVec 32 := 0#32
  let v93 : BitVec 1 := Scalar.cmpi .eq arg1 c0_i32
  let c8_i32 : BitVec 32 := 8#32
  let v94 : BitVec 1 := Scalar.cmpi .eq arg1 c8_i32
  let v95 : BitVec 1 := Scalar.ori v93 v94
  let true_50 : BitVec 1 := 1#1
  let v103 : BitVec 1 := Scalar.xori v95 true_50
  let v104 : BitVec 32 := Scalar.extui v103
  let c0_i32_51 : BitVec 32 := 0#32
  let v105 : BitVec 1 := Scalar.cmpi .ne v104 c0_i32_51
  v105

def k0_cond5 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v109 : BitVec 32 := Scalar.extui v108
  let c0_i32_54 : BitVec 32 := 0#32
  let v110 : BitVec 1 := Scalar.cmpi .ne v109 c0_i32_54
  v110

def k0_cond6 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_55 : BitVec 1 := 1#1
  let v111 : BitVec 1 := Scalar.xori v108 true_55
  let v112 : BitVec 32 := Scalar.extui v111
  let c0_i32_56 : BitVec 32 := 0#32
  let v113 : BitVec 1 := Scalar.cmpi .ne v112 c0_i32_56
  v113

def k0_cond7 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v114 : BitVec 32 := Scalar.extui v108
  let c0_i32_58 : BitVec 32 := 0#32
  let v115 : BitVec 1 := Scalar.cmpi .ne v114 c0_i32_58
  v115

def k0_cond8 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_59 : BitVec 1 := 1#1
  let v116 : BitVec 1 := Scalar.xori v108 true_59
  let v117 : BitVec 32 := Scalar.extui v116
  let c0_i32_61 : BitVec 32 := 0#32
  let v118 : BitVec 1 := Scalar.cmpi .ne v117 c0_i32_61
  v118

def k0_cond9 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v119 : BitVec 32 := Scalar.extui v108
  let c0_i32_62 : BitVec 32 := 0#32
  let v120 : BitVec 1 := Scalar.cmpi .ne v119 c0_i32_62
  v120

def k0_cond10 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_63 : BitVec 1 := 1#1
  let v121 : BitVec 1 := Scalar.xori v108 true_63
  let v122 : BitVec 32 := Scalar.extui v121
  let c0_i32_65 : BitVec 32 := 0#32
  let v123 : BitVec 1 := Scalar.cmpi .ne v122 c0_i32_65
  v123

def k0_cond11 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v124 : BitVec 32 := Scalar.extui v108
  let c0_i32_67 : BitVec 32 := 0#32
  let v125 : BitVec 1 := Scalar.cmpi .ne v124 c0_i32_67
  v125

def k0_cond12 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_68 : BitVec 1 := 1#1
  let v126 : BitVec 1 := Scalar.xori v108 true_68
  let v127 : BitVec 32 := Scalar.extui v126
  let c0_i32_70 : BitVec 32 := 0#32
  let v128 : BitVec 1 := Scalar.cmpi .ne v127 c0_i32_70
  v128

def k0_cond13 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v129 : BitVec 32 := Scalar.extui v108
  let c0_i32_71 : BitVec 32 := 0#32
  let v130 : BitVec 1 := Scalar.cmpi .ne v129 c0_i32_71
  v130

def k0_cond14 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_72 : BitVec 1 := 1#1
  let v131 : BitVec 1 := Scalar.xori v108 true_72
  let v132 : BitVec 32 := Scalar.extui v131
  let c0_i32_74 : BitVec 32 := 0#32
  let v133 : BitVec 1 := Scalar.cmpi .ne v132 c0_i32_74
  v133

def k0_cond15 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v134 : BitVec 32 := Scalar.extui v108
  let c0_i32_76 : BitVec 32 := 0#32
  let v135 : BitVec 1 := Scalar.cmpi .ne v134 c0_i32_76
  v135

def k0_cond16 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_77 : BitVec 1 := 1#1
  let v136 : BitVec 1 := Scalar.xori v108 true_77
  let v137 : BitVec 32 := Scalar.extui v136
  let c0_i32_79 : BitVec 32 := 0#32
  let v138 : BitVec 1 := Scalar.cmpi .ne v137 c0_i32_79
  v138

def k0_cond17 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let v139 : BitVec 32 := Scalar.extui v108
  let c0_i32_80 : BitVec 32 := 0#32
  let v140 : BitVec 1 := Scalar.cmpi .ne v139 c0_i32_80
  v140

def k0_cond18 (i : grid0.Coords) : BitVec 1 :=
  let arg0 : BitVec 32 := BitVec.ofNat 32 (i 0).val
  let c0_i32_52 : BitVec 32 := 0#32
  let v106 : BitVec 1 := Scalar.cmpi .eq arg0 c0_i32_52
  let arg1 : BitVec 32 := BitVec.ofNat 32 (i 1).val
  let c0_i32_53 : BitVec 32 := 0#32
  let v107 : BitVec 1 := Scalar.cmpi .eq arg1 c0_i32_53
  let v108 : BitVec 1 := Scalar.andi v106 v107
  let true_81 : BitVec 1 := 1#1
  let v141 : BitVec 1 := Scalar.xori v108 true_81
  let v142 : BitVec 32 := Scalar.extui v141
  let c0_i32_83 : BitVec 32 := 0#32
  let v143 : BitVec 1 := Scalar.cmpi .ne v142 c0_i32_83
  v143

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_10 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x1024x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference3Ideal.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x2048x3072 : Shape := ⟨3, ![2, 2048, 3072]⟩
abbrev S3072x1024 : Shape := ⟨2, ![3072, 1024]⟩
abbrev S1024 : Shape := ⟨1, ![1024]⟩
abbrev S1024x4x768 : Shape := ⟨3, ![1024, 4, 768]⟩
abbrev S4x1024x768 : Shape := ⟨3, ![4, 1024, 768]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S1024x3072, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x1x1x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x1x1x1024, .f32⟩
  | .hbm, ⟨38, _⟩ => ⟨S2x1x1024, .f32⟩
  | .hbm, ⟨39, _⟩ => ⟨S2x2048x1024, .f32⟩
  | .hbm, ⟨40, _⟩ => ⟨S2x2048x1024, .f32⟩
  | .hbm, ⟨41, _⟩ => ⟨S2x2048x3072, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x3072, .f32⟩
  | .hbm, ⟨46, _⟩ => ⟨S3072x1024, .f32⟩
  | .hbm, ⟨47, _⟩ => ⟨S1024x3072, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2x2048x1024, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S1024x4x768, .f32⟩
  | .hbm, ⟨79, _⟩ => ⟨S4x1024x768, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel4.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 8
  | .vmem => 14
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S2x2304x1024, .f32⟩
  | .hbm, ⟨6, _⟩ => ⟨S2x2304x1024, .f32⟩
  | .hbm, ⟨7, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x2048x3072 : Shape := ⟨3, ![2, 2048, 3072]⟩
abbrev S2x256x1024 : Shape := ⟨3, ![2, 256, 1024]⟩
abbrev S2x256 : Shape := ⟨2, ![2, 256]⟩
abbrev S2x256x1 : Shape := ⟨3, ![2, 256, 1]⟩
abbrev S2x256x3072 : Shape := ⟨3, ![2, 256, 3072]⟩
abbrev S2x2304x3072 : Shape := ⟨3, ![2, 2304, 3072]⟩

abbrev nBuf : Space → Nat
  | .hbm => 69
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S1024x3072, .f32⟩
  | .hbm, ⟨34, _⟩ => ⟨S2x2048x3072, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S2x256x1, .f32⟩
  | .hbm, ⟨47, _⟩ => ⟨S2x256x1024, .f32⟩
  | .hbm, ⟨48, _⟩ => ⟨S2x256x1024, .f32⟩
  | .hbm, ⟨49, _⟩ => ⟨S1x1x1024, .f32⟩
  | .hbm, ⟨50, _⟩ => ⟨S2x256x1024, .f32⟩
  | .hbm, ⟨51, _⟩ => ⟨S2x256x1024, .f32⟩
  | .hbm, ⟨52, _⟩ => ⟨S2x1x1x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x256x1024, .f32⟩
  | .hbm, ⟨58, _⟩ => ⟨S2x256x1024, .f32⟩
  | .hbm, ⟨59, _⟩ => ⟨S2x1x1x1024, .f32⟩
  | .hbm, ⟨60, _⟩ => ⟨S2x1x1024, .f32⟩
  | .hbm, ⟨61, _⟩ => ⟨S2x256x1024, .f32⟩
  | .hbm, ⟨62, _⟩ => ⟨S2x256x1024, .f32⟩
  | .hbm, ⟨63, _⟩ => ⟨S1024x3072, .f32⟩
  | .hbm, ⟨64, _⟩ => ⟨S2x256x3072, .f32⟩
  | .hbm, ⟨65, _⟩ => ⟨S2x2304x3072, .f32⟩
  | .hbm, ⟨66, _⟩ => ⟨S2x2304x1024, .f32⟩
  | .hbm, ⟨67, _⟩ => ⟨S2x2304x1024, .f32⟩
  | .hbm, ⟨68, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Kernel5.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x2048 : Shape := ⟨2, ![1024, 2048]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x2048, .bf16⟩
  | .hbm, ⟨5, _⟩ => ⟨S2x2304x1024, .f32⟩
  | .hbm, ⟨6, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x2048 : Shape := ⟨2, ![1024, 2048]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x2048x2048 : Shape := ⟨3, ![2, 2048, 2048]⟩
abbrev S2x256x1024 : Shape := ⟨3, ![2, 256, 1024]⟩
abbrev S2x256 : Shape := ⟨2, ![2, 256]⟩
abbrev S2x256x1 : Shape := ⟨3, ![2, 256, 1]⟩
abbrev S2x256x2048 : Shape := ⟨3, ![2, 256, 2048]⟩
abbrev S2x2304x2048 : Shape := ⟨3, ![2, 2304, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x2048, .bf16⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S1024x2048, .f32⟩
  | .hbm, ⟨34, _⟩ => ⟨S2x2048x2048, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S2x256x1, .f32⟩
  | .hbm, ⟨47, _⟩ => ⟨S2x256x1024, .f32⟩
  | .hbm, ⟨48, _⟩ => ⟨S2x256x1024, .f32⟩
  | .hbm, ⟨49, _⟩ => ⟨S1x1x1024, .f32⟩
  | .hbm, ⟨50, _⟩ => ⟨S2x256x1024, .f32⟩
  | .hbm, ⟨51, _⟩ => ⟨S2x256x1024, .f32⟩
  | .hbm, ⟨52, _⟩ => ⟨S2x1x1x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x256x1024, .f32⟩
  | .hbm, ⟨58, _⟩ => ⟨S2x256x1024, .f32⟩
  | .hbm, ⟨59, _⟩ => ⟨S2x1x1x1024, .f32⟩
  | .hbm, ⟨60, _⟩ => ⟨S2x1x1024, .f32⟩
  | .hbm, ⟨61, _⟩ => ⟨S2x256x1024, .f32⟩
  | .hbm, ⟨62, _⟩ => ⟨S2x256x1024, .f32⟩
  | .hbm, ⟨63, _⟩ => ⟨S1024x2048, .f32⟩
  | .hbm, ⟨64, _⟩ => ⟨S2x256x2048, .f32⟩
  | .hbm, ⟨65, _⟩ => ⟨S2x2304x2048, .f32⟩
  | .hbm, ⟨66, _⟩ => ⟨S2x2304x1024, .f32⟩
  | .hbm, ⟨67, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 8
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S1024x3072 : Shape := ⟨2, ![1024, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x2048x3072 : Shape := ⟨3, ![2, 2048, 3072]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x3072, .bf16⟩
  | .hbm, ⟨5, _⟩ => ⟨S1024x3072, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x3072, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel7.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x1728 : Shape := ⟨2, ![1024, 1728]⟩
abbrev S1024x320 : Shape := ⟨2, ![1024, 320]⟩
abbrev S_ : Shape := ⟨0, ![]⟩
abbrev S1024x64 : Shape := ⟨2, ![1024, 64]⟩
abbrev S1024x1408 : Shape := ⟨2, ![1024, 1408]⟩
abbrev S1024x1792 : Shape := ⟨2, ![1024, 1792]⟩
abbrev S2x2304x256 : Shape := ⟨3, ![2, 2304, 256]⟩
abbrev S2x2304x128 : Shape := ⟨3, ![2, 2304, 128]⟩
abbrev S2x2304x384 : Shape := ⟨3, ![2, 2304, 384]⟩
abbrev S1x256x1024 : Shape := ⟨3, ![1, 256, 1024]⟩
abbrev S1x1x1x1024 : Shape := ⟨4, ![1, 1, 1, 1024]⟩
abbrev S1x256x256 : Shape := ⟨3, ![1, 256, 256]⟩
abbrev S1x256x128 : Shape := ⟨3, ![1, 256, 128]⟩
abbrev S1x256x384 : Shape := ⟨3, ![1, 256, 384]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩
abbrev S256x256 : Shape := ⟨2, ![256, 256]⟩
abbrev S256x128 : Shape := ⟨2, ![256, 128]⟩
abbrev S256x384 : Shape := ⟨2, ![256, 384]⟩

abbrev nBuf : Space → Nat
  | .hbm => 14
  | .vmem => 16
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x1728, .bf16⟩
  | .hbm, ⟨5, _⟩ => ⟨S1024x320, .bf16⟩
  | .hbm, ⟨6, _⟩ => ⟨S_, .bf16⟩
  | .hbm, ⟨7, _⟩ => ⟨S1024x64, .bf16⟩
  | .hbm, ⟨8, _⟩ => ⟨S1024x1408, .bf16⟩
  | .hbm, ⟨9, _⟩ => ⟨S1024x1792, .bf16⟩
  | .hbm, ⟨10, _⟩ => ⟨S2x2304x256, .f32⟩
  | .hbm, ⟨11, _⟩ => ⟨S2x2304x128, .f32⟩
  | .hbm, ⟨12, _⟩ => ⟨S2x2304x384, .f32⟩
  | .hbm, ⟨13, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x256x256, .f32⟩
  | .local _ .vmem, ⟨9, _⟩ => ⟨S1x256x256, .f32⟩
  | .local _ .vmem, ⟨10, _⟩ => ⟨S1x256x128, .f32⟩
  | .local _ .vmem, ⟨11, _⟩ => ⟨S1x256x128, .f32⟩
  | .local _ .vmem, ⟨12, _⟩ => ⟨S1x256x384, .f32⟩
  | .local _ .vmem, ⟨13, _⟩ => ⟨S1x256x384, .f32⟩
  | .local _ .vmem, ⟨14, _⟩ => ⟨S1x256x1024, .f32⟩
  | .local _ .vmem, ⟨15, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x1728 : Shape := ⟨2, ![1024, 1728]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x2048x1728 : Shape := ⟨3, ![2, 2048, 1728]⟩
abbrev S2x256x1024 : Shape := ⟨3, ![2, 256, 1024]⟩
abbrev S2x256 : Shape := ⟨2, ![2, 256]⟩
abbrev S2x256x1 : Shape := ⟨3, ![2, 256, 1]⟩
abbrev S2x256x1728 : Shape := ⟨3, ![2, 256, 1728]⟩
abbrev S2x2304x1728 : Shape := ⟨3, ![2, 2304, 1728]⟩
abbrev S2x2304x256 : Shape := ⟨3, ![2, 2304, 256]⟩
abbrev S2x2304x64 : Shape := ⟨3, ![2, 2304, 64]⟩
abbrev S2x2304x384 : Shape := ⟨3, ![2, 2304, 384]⟩
abbrev S2x2304x128 : Shape := ⟨3, ![2, 2304, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2x1x1024, .f32⟩
  | .hbm, ⟨2, _⟩ => ⟨S2x2x1x1024, .f32⟩
  | .hbm, ⟨3, _⟩ => ⟨S1x1024, .f32⟩
  | .hbm, ⟨4, _⟩ => ⟨S1024x1728, .bf16⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x1x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S1024x1728, .f32⟩
  | .hbm, ⟨34, _⟩ => ⟨S2x2048x1728, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256, .f32⟩
  | .hbm, ⟨39, _⟩ => ⟨S2x256x1, .f32⟩
  | .hbm, ⟨40, _⟩ => ⟨S_, .f32⟩
  | .hbm, ⟨41, _⟩ => ⟨S2x256x1, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S2x256x1, .f32⟩
  | .hbm, ⟨47, _⟩ => ⟨S2x256x1024, .f32⟩
  | .hbm, ⟨48, _⟩ => ⟨S2x256x1024, .f32⟩
  | .hbm, ⟨49, _⟩ => ⟨S1x1x1024, .f32⟩
  | .hbm, ⟨50, _⟩ => ⟨S2x256x1024, .f32⟩
  | .hbm, ⟨51, _⟩ => ⟨S2x256x1024, .f32⟩
  | .hbm, ⟨52, _⟩ => ⟨S2x1x1x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x256x1024, .f32⟩
  | .hbm, ⟨58, _⟩ => ⟨S2x256x1024, .f32⟩
  | .hbm, ⟨59, _⟩ => ⟨S2x1x1x1024, .f32⟩
  | .hbm, ⟨60, _⟩ => ⟨S2x1x1024, .f32⟩
  | .hbm, ⟨61, _⟩ => ⟨S2x256x1024, .f32⟩
  | .hbm, ⟨62, _⟩ => ⟨S2x256x1024, .f32⟩
  | .hbm, ⟨63, _⟩ => ⟨S1024x1728, .f32⟩
  | .hbm, ⟨64, _⟩ => ⟨S2x256x1728, .f32⟩
  | .hbm, ⟨65, _⟩ => ⟨S2x2304x1728, .f32⟩
  | .hbm, ⟨66, _⟩ => ⟨S2x2304x256, .f32⟩
  | .hbm, ⟨67, _⟩ => ⟨S2x2304x64, .f32⟩
  | .hbm, ⟨68, _⟩ => ⟨S2x2304x384, .f32⟩
  | .hbm, ⟨69, _⟩ => ⟨S2x2304x1024, .f32⟩
  | .hbm, ⟨70, _⟩ => ⟨S_, .i32⟩
  | .hbm, ⟨71, _⟩ => ⟨S_, .f32⟩
  | .hbm, ⟨72, _⟩ => ⟨S2x2304x128, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c : Ref sig .tc := ⟨.hbm, 70, rfl⟩
abbrev main_call0_v0 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel8.lean ====
abbrev S2x2048x1024 : Shape := ⟨3, ![2, 2048, 1024]⟩
abbrev S2x2x1x1024 : Shape := ⟨4, ![2, 2, 1, 1024]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2x1x1024, .f32⟩
  | .hbm, ⟨4, _⟩ => ⟨S1024x1024, .bf16⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2x1x1024, .f32⟩
  | .hbm, ⟨9, _⟩ => ⟨S1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let c4_i32 : BitVec 32 := 4#32
  let v46 : BitVec 1 := Scalar.cmpi .eq arg1 c4_i32
  let v47 : BitVec 1 := Scalar.ori v45 v46
  let v49 : BitVec 32 := Scalar.extui v47
  let c0_i32_29 : BitVec 32 := 0#32
  let v50 : BitVec 1 := Scalar.cmpi .ne v49 c0_i32_29
  v50

def k0_cond2 (i : grid0.Coords) : BitVec 1 :=
  let arg1 : BitVec 32 := BitVec.ofNat 32 (i 1).val
  let c0_i32 : BitVec 32 := 0#32
  let v45 : BitVec 1 := Scalar.cmpi .eq arg1 c0_i32
  let c4_i32 : BitVec 32 := 4#32
  let v46 : BitVec 1 := Scalar.cmpi .eq arg1 c4_i32
  let v47 : BitVec 1 := Scalar.ori v45 v46
  let v_true : BitVec 1 := 1#1
  let v51 : BitVec 1 := Scalar.xori v47 v_true
  let v52 : BitVec 32 := Scalar.extui v51
  let c0_i32_30 : BitVec 32 := 0#32
  let v53 : BitVec 1 := Scalar.cmpi .ne v52 c0_i32_30
  v53

def k0_cond3 (i : grid0.Coords) : BitVec 1 :=
  let arg0 : BitVec 32 := BitVec.ofNat 32 (i 0).val
  let c0_i32_31 : BitVec 32 := 0#32
  let v54 : BitVec 1 := Scalar.cmpi .eq arg0 c0_i32_31
  let arg1 : BitVec 32 := BitVec.ofNat 32 (i 1).val
  let c0_i32_32 : BitVec 32 := 0#32
  let v55 : BitVec 1 := Scalar.cmpi .eq arg1 c0_i32_32
  let v56 : BitVec 1 := Scalar.andi v54 v55
  let v57 : BitVec 32 := Scalar.extui v56
  let c0_i32_33 : BitVec 32 := 0#32
  let v58 : BitVec 1 := Scalar.cmpi .ne v57 c0_i32_33
  v58

def k0_cond4 (i : grid0.Coords) : BitVec 1 :=
  let arg0 : BitVec 32 := BitVec.ofNat 32 (i 0).val
  let c0_i32_31 : BitVec 32 := 0#32
  let v54 : BitVec 1 := Scalar.cmpi .eq arg0 c0_i32_31
  let arg1 : BitVec 32 := BitVec.ofNat 32 (i 1).val
  let c0_i32_32 : BitVec 32 := 0#32
  let v55 : BitVec 1 := Scalar.cmpi .eq arg1 c0_i32_32
  let v56 : BitVec 1 := Scalar.andi v54 v55
  let true_34 : BitVec 1 := 1#1
  let v59 : BitVec 1 := Scalar.xori v56 true_34
  let v60 : BitVec 32 := Scalar.extui v59
  let c0_i32_35 : BitVec 32 := 0#32
  let v61 : BitVec 1 := Scalar.cmpi .ne v60 c0_i32_35
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference8Ideal.lean ====
abbrev S2x2048x1024 : Shape := ⟨3, ![2, 2048, 1024]⟩
abbrev S2x2x1x1024 : Shape := ⟨4, ![2, 2, 1, 1024]⟩
abbrev S1024x1024 : Shape := ⟨2, ![1024, 1024]⟩
abbrev S2x1x1x1024 : Shape := ⟨4, ![2, 1, 1, 1024]⟩
abbrev S2x1x1024 : Shape := ⟨3, ![2, 1, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2x1x1024, .f32⟩
  | .hbm, ⟨4, _⟩ => ⟨S1024x1024, .bf16⟩
  | .hbm, ⟨5, _⟩ => ⟨S2x2048x1024, .f32⟩
  | .hbm, ⟨6, _⟩ => ⟨S1024x1024, .f32⟩
  | .hbm, ⟨7, _⟩ => ⟨S2x1x1x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S1024x1024, .f32⟩
  | .hbm, ⟨30, _⟩ => ⟨S1024x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel9.lean ====
abbrev S2x2048x1024 : Shape := ⟨3, ![2, 2048, 1024]⟩
abbrev S2x2x1x1024 : Shape := ⟨4, ![2, 2, 1, 1024]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2x1x1024, .f32⟩
  | .hbm, ⟨4, _⟩ => ⟨S1024x1024, .bf16⟩
  | .hbm, ⟨5, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2x2048x1024 : Shape := ⟨3, ![2, 2048, 1024]⟩
abbrev S2x2x1x1024 : Shape := ⟨4, ![2, 2, 1, 1024]⟩
abbrev S1024x1024 : Shape := ⟨2, ![1024, 1024]⟩
abbrev S2x1x1x1024 : Shape := ⟨4, ![2, 1, 1, 1024]⟩
abbrev S2x1x1024 : Shape := ⟨3, ![2, 1, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2x1x1024, .f32⟩
  | .hbm, ⟨4, _⟩ => ⟨S1024x1024, .bf16⟩
  | .hbm, ⟨5, _⟩ => ⟨S2x1x1x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S1024x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel10.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x1024 : Shape := ⟨2, ![1024, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2304x1024, .f32⟩
  | .hbm, ⟨3, _⟩ => ⟨S2x2x1x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x256x1024, .f32⟩
  | .local _ .vmem, ⟨12, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S2x2304x1024 : Shape := ⟨3, ![2, 2304, 1024]⟩
abbrev S2x2x1x1024 : Shape := ⟨4, ![2, 2, 1, 1024]⟩
abbrev S1x1024 : Shape := ⟨2, ![1, 1024]⟩
abbrev S1024x1024 : Shape := ⟨2, ![1024, 1024]⟩
abbrev S_ : Shape := ⟨0, ![]⟩
abbrev S2x2304 : Shape := ⟨2, ![2, 2304]⟩
abbrev S2x2304x1 : Shape := ⟨3, ![2, 2304, 1]⟩
abbrev S1x1x1024 : Shape := ⟨3, ![1, 1, 1024]⟩
abbrev S2x2048x1024 : Shape := ⟨3, ![2, 2048, 1024]⟩
abbrev S2x1x1x1024 : Shape := ⟨4, ![2, 1, 1, 1024]⟩
abbrev S2x1x1024 : Shape := ⟨3, ![2, 1, 1024]⟩
abbrev S2x256x1024 : Shape := ⟨3, ![2, 256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2304x1024, .f32⟩
  | .hbm, ⟨3, _⟩ => ⟨S2x2x1x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S_, .f32⟩
  | .hbm, ⟨8, _⟩ => ⟨S2x2304, .f32⟩
  | .hbm, ⟨9, _⟩ => ⟨S2x2304x1, .f32⟩
  | .hbm, ⟨10, _⟩ => ⟨S_, .f32⟩
  | .hbm, ⟨11, _⟩ => ⟨S2x2304x1, .f32⟩
  | .hbm, ⟨12, _⟩ => ⟨S2x2304x1, .f32⟩
  | .hbm, ⟨13, _⟩ => ⟨S2x2304x1024, .f32⟩
  | .hbm, ⟨14, _⟩ => ⟨S2x2304x1024, .f32⟩
  | .hbm, ⟨15, _⟩ => ⟨S2x2304x1024, .f32⟩
  | .hbm, ⟨16, _⟩ => ⟨S_, .f32⟩
  | .hbm, ⟨17, _⟩ => ⟨S2x2304, .f32⟩
  | .hbm, ⟨18, _⟩ => ⟨S2x2304x1, .f32⟩
  | .hbm, ⟨19, _⟩ => ⟨S_, .f32⟩
  | .hbm, ⟨20, _⟩ => ⟨S2x2304x1, .f32⟩
  | .hbm, ⟨21, _⟩ => ⟨S2x2304x1, .f32⟩
  | .hbm, ⟨22, _⟩ => ⟨S2x2304x1024, .f32⟩
  | .hbm, ⟨23, _⟩ => ⟨S2x2304x1024, .f32⟩
  | .hbm, ⟨24, _⟩ => ⟨S_, .f32⟩
  | .hbm, ⟨25, _⟩ => ⟨S2x2304x1, .f32⟩
  | .hbm, ⟨26, _⟩ => ⟨S2x2304x1, .f32⟩
  | .hbm, ⟨27, _⟩ => ⟨S2x2304x1, .f32⟩
  | .hbm, ⟨28, _⟩ => ⟨S2x2304x1024, .f32⟩
  | .hbm, ⟨29, _⟩ => ⟨S2x2304x1024, .f32⟩
  | .hbm, ⟨30, _⟩ => ⟨S1x1x1024, .f32⟩
  | .hbm, ⟨31, _⟩ => ⟨S2x2304x1024, .f32⟩
  | .hbm, ⟨32, _⟩ => ⟨S2x2304x1024, .f32⟩
  | .hbm, ⟨33, _⟩ => ⟨S1x1x1024, .f32⟩
  | .hbm, ⟨34, _⟩ => ⟨S2x2304x1024, .f32⟩
  | .hbm, ⟨35, _⟩ => ⟨S2x2304x1024, .f32⟩
  | .hbm, ⟨36, _⟩ => ⟨S2x2304x1024, .f32⟩
  | .hbm, ⟨37, _⟩ => ⟨S2x2304x1024, .f32⟩
  | .hbm, ⟨38, _⟩ => ⟨S_, .f32⟩
  | .hbm, ⟨39, _⟩ => ⟨S2x2304x1024, .f32⟩
  | .hbm, ⟨40, _⟩ => ⟨S2x2304x1024, .f32⟩
  | .hbm, ⟨41, _⟩ => ⟨S_, .f32⟩
  | .hbm, ⟨42, _⟩ => ⟨S2x2304x1024, .f32⟩
  | .hbm, ⟨43, _⟩ => ⟨S2x2304x1024, .f32⟩
  | .hbm, ⟨44, _⟩ => ⟨S2x2304x1024, .f32⟩
  | .hbm, ⟨45, _⟩ => ⟨S2x2304x1024, .f32⟩
  | .hbm, ⟨46, _⟩ => ⟨S2x2304x1024, .f32⟩
  | .hbm, ⟨47, _⟩ => ⟨S_, .f32⟩
  | .hbm, ⟨48, _⟩ => ⟨S2x2304x1024, .f32⟩
  | .hbm, ⟨49, _⟩ => ⟨S2x2304x1024, .f32⟩
  | .hbm, ⟨50, _⟩ => ⟨S_, .f32⟩
  | .hbm, ⟨51, _⟩ => ⟨S2x2304x1024, .f32⟩
  | .hbm, ⟨52, _⟩ => ⟨S2x2304x1024, .f32⟩
  | .hbm, ⟨53, _⟩ => ⟨S2x2304x1024, .f32⟩
  | .hbm, ⟨54, _⟩ => ⟨S2x2304x1024, .f32⟩
  | .hbm, ⟨55, _⟩ => ⟨S2x2048x1024, .f32⟩
  | .hbm, ⟨56, _⟩ => ⟨S2x2048x1024, .f32⟩
  | .hbm, ⟨57, _⟩ => ⟨S2x1x1x1024, .f32⟩
  | .hbm, ⟨58, _⟩ => ⟨S2x1x1024, .f32⟩
  | .hbm, ⟨59, _⟩ => ⟨S1024x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x256x1024, .f32⟩
  | .hbm, ⟨65, _⟩ => ⟨S2x256x1024, .f32⟩
  | .hbm, ⟨66, _⟩ => ⟨S2x1x1x1024, .f32⟩
  | .hbm, ⟨67, _⟩ => ⟨S2x1x1024, .f32⟩
  | .hbm, ⟨68, _⟩ => ⟨S1024x1024, .f32⟩
  | .hbm, ⟨69, _⟩ => ⟨S2x256x1024, .f32⟩
  | .hbm, ⟨70, _⟩ => ⟨S2x256x1024, .f32⟩
  | .hbm, ⟨71, _⟩ => ⟨S2x256x1024, .f32⟩
  | .hbm, ⟨72, _⟩ => ⟨S2x256x1024, .f32⟩
  | .hbm, ⟨73, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Kernel11.lean ====
abbrev S2x2304x1024 : Shape := ⟨3, ![2, 2304, 1024]⟩
abbrev S2x2x1x1024 : Shape := ⟨4, ![2, 2, 1, 1024]⟩
abbrev S4x256x256 : Shape := ⟨3, ![4, 256, 256]⟩
abbrev S1x1024 : Shape := ⟨2, ![1, 1024]⟩
abbrev S1024x1024 : Shape := ⟨2, ![1024, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 8
  | .vmem => 13
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2304x1024, .f32⟩
  | .hbm, ⟨3, _⟩ => ⟨S2x2x1x1024, .f32⟩
  | .hbm, ⟨4, _⟩ => ⟨S4x256x256, .f32⟩
  | .hbm, ⟨5, _⟩ => ⟨S1x1024, .f32⟩
  | .hbm, ⟨6, _⟩ => ⟨S1024x1024, .bf16⟩
  | .hbm, ⟨7, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S4x256x256, .f32⟩
  | .local _ .vmem, ⟨9, _⟩ => ⟨S1x1024, .f32⟩
  | .local _ .vmem, ⟨10, _⟩ => ⟨S1024x1024, .bf16⟩
  | .local _ .vmem, ⟨11, _⟩ => ⟨S1x256x1024, .f32⟩
  | .local _ .vmem, ⟨12, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S2x2304x1024 : Shape := ⟨3, ![2, 2304, 1024]⟩
abbrev S2x2x1x1024 : Shape := ⟨4, ![2, 2, 1, 1024]⟩
abbrev S4x256x256 : Shape := ⟨3, ![4, 256, 256]⟩
abbrev S1x1024 : Shape := ⟨2, ![1, 1024]⟩
abbrev S1024x1024 : Shape := ⟨2, ![1024, 1024]⟩
abbrev S2x2304x4x256 : Shape := ⟨4, ![2, 2304, 4, 256]⟩
abbrev S4x256x2x2304 : Shape := ⟨4, ![4, 256, 2, 2304]⟩
abbrev S1x1x1024 : Shape := ⟨3, ![1, 1, 1024]⟩
abbrev S_ : Shape := ⟨0, ![]⟩
abbrev S2x2048x1024 : Shape := ⟨3, ![2, 2048, 1024]⟩
abbrev S2x1x1x1024 : Shape := ⟨4, ![2, 1, 1, 1024]⟩
abbrev S2x1x1024 : Shape := ⟨3, ![2, 1, 1024]⟩
abbrev S2x256x1024 : Shape := ⟨3, ![2, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2304x1024, .f32⟩
  | .hbm, ⟨3, _⟩ => ⟨S2x2x1x1024, .f32⟩
  | .hbm, ⟨4, _⟩ => ⟨S4x256x256, .f32⟩
  | .hbm, ⟨5, _⟩ => ⟨S1x1024, .f32⟩
  | .hbm, ⟨6, _⟩ => ⟨S1024x1024, .bf16⟩
  | .hbm, ⟨7, _⟩ => ⟨S2x2304x4x256, .f32⟩
  | .hbm, ⟨8, _⟩ => ⟨S4x256x2x2304, .f32⟩
  | .hbm, ⟨9, _⟩ => ⟨S2x2304x4x256, .f32⟩
  | .hbm, ⟨10, _⟩ => ⟨S2x2304x1024, .f32⟩
  | .hbm, ⟨11, _⟩ => ⟨S1x1x1024, .f32⟩
  | .hbm, ⟨12, _⟩ => ⟨S2x2304x1024, .f32⟩
  | .hbm, ⟨13, _⟩ => ⟨S2x2304x1024, .f32⟩
  | .hbm, ⟨14, _⟩ => ⟨S2x2304x1024, .f32⟩
  | .hbm, ⟨15, _⟩ => ⟨S2x2304x1024, .f32⟩
  | .hbm, ⟨16, _⟩ => ⟨S_, .f32⟩
  | .hbm, ⟨17, _⟩ => ⟨S2x2304x1024, .f32⟩
  | .hbm, ⟨18, _⟩ => ⟨S2x2304x1024, .f32⟩
  | .hbm, ⟨19, _⟩ => ⟨S_, .f32⟩
  | .hbm, ⟨20, _⟩ => ⟨S2x2304x1024, .f32⟩
  | .hbm, ⟨21, _⟩ => ⟨S2x2304x1024, .f32⟩
  | .hbm, ⟨22, _⟩ => ⟨S2x2304x1024, .f32⟩
  | .hbm, ⟨23, _⟩ => ⟨S2x2304x1024, .f32⟩
  | .hbm, ⟨24, _⟩ => ⟨S2x2048x1024, .f32⟩
  | .hbm, ⟨25, _⟩ => ⟨S2x2048x1024, .f32⟩
  | .hbm, ⟨26, _⟩ => ⟨S2x1x1x1024, .f32⟩
  | .hbm, ⟨27, _⟩ => ⟨S2x1x1024, .f32⟩
  | .hbm, ⟨28, _⟩ => ⟨S1024x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x256x1024, .f32⟩
  | .hbm, ⟨34, _⟩ => ⟨S2x256x1024, .f32⟩
  | .hbm, ⟨35, _⟩ => ⟨S2x1x1x1024, .f32⟩
  | .hbm, ⟨36, _⟩ => ⟨S2x1x1024, .f32⟩
  | .hbm, ⟨37, _⟩ => ⟨S1024x1024, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel12.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S8x128x128 : Shape := ⟨3, ![8, 128, 128]⟩
abbrev S128x8 : Shape := ⟨2, ![128, 8]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 11
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2x1x1024, .f32⟩
  | .hbm, ⟨5, _⟩ => ⟨S1x1024, .f32⟩
  | .hbm, ⟨6, _⟩ => ⟨S1x1024, .f32⟩
  | .hbm, ⟨7, _⟩ => ⟨S8x128x128, .f32⟩
  | .hbm, ⟨8, _⟩ => ⟨S128x8, .f32⟩
  | .hbm, ⟨9, _⟩ => ⟨S1024x1024, .bf16⟩
  | .hbm, ⟨10, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x8, .f32⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S8x128x128 : Shape := ⟨3, ![8, 128, 128]⟩
abbrev S128x8 : Shape := ⟨2, ![128, 8]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S8x2x16x128x128 : Shape := ⟨5, ![8, 2, 16, 128, 128]⟩
abbrev S128x8x1 : Shape := ⟨3, ![128, 8, 1]⟩
abbrev S1x1x128x8x1 : Shape := ⟨5, ![1, 1, 128, 8, 1]⟩
abbrev S2x1x1x1024 : Shape := ⟨4, ![2, 1, 1, 1024]⟩
abbrev S2x1x1024 : Shape := ⟨3, ![2, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2x1x1024, .f32⟩
  | .hbm, ⟨5, _⟩ => ⟨S1x1024, .f32⟩
  | .hbm, ⟨6, _⟩ => ⟨S1x1024, .f32⟩
  | .hbm, ⟨7, _⟩ => ⟨S8x128x128, .f32⟩
  | .hbm, ⟨8, _⟩ => ⟨S128x8, .f32⟩
  | .hbm, ⟨9, _⟩ => ⟨S1024x1024, .bf16⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x16x128x8x128, .f32⟩
  | .hbm, ⟨40, _⟩ => ⟨S8x2x16x128x128, .f32⟩
  | .hbm, ⟨41, _⟩ => ⟨S2x16x128x8x128, .f32⟩
  | .hbm, ⟨42, _⟩ => ⟨S128x8x1, .f32⟩
  | .hbm, ⟨43, _⟩ => ⟨S1x1x128x8x1, .f32⟩
  | .hbm, ⟨44, _⟩ => ⟨S2x16x128x8x128, .f32⟩
  | .hbm, ⟨45, _⟩ => ⟨S2x16x128x8x128, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x1x1x1024, .f32⟩
  | .hbm, ⟨59, _⟩ => ⟨S2x1x1024, .f32⟩
  | .hbm, ⟨60, _⟩ => ⟨S1024x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Kernel13.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S8x128x128 : Shape := ⟨3, ![8, 128, 128]⟩
abbrev S128x8 : Shape := ⟨2, ![128, 8]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S1x128x128 : Shape := ⟨3, ![1, 128, 128]⟩
abbrev S128x128 : Shape := ⟨2, ![128, 128]⟩
abbrev S128x1 : Shape := ⟨2, ![128, 1]⟩
abbrev S1024 : Shape := ⟨1, ![1024]⟩
abbrev S128 : Shape := ⟨1, ![128]⟩
abbrev S128x7 : Shape := ⟨2, ![128, 7]⟩
abbrev S128x896 : Shape := ⟨2, ![128, 896]⟩
abbrev S7x128x128 : Shape := ⟨3, ![7, 128, 128]⟩
abbrev S128x6 : Shape := ⟨2, ![128, 6]⟩
abbrev S128x768 : Shape := ⟨2, ![128, 768]⟩
abbrev S6x128x128 : Shape := ⟨3, ![6, 128, 128]⟩
abbrev S128x5 : Shape := ⟨2, ![128, 5]⟩
abbrev S128x2 : Shape := ⟨2, ![128, 2]⟩
abbrev S128x640 : Shape := ⟨2, ![128, 640]⟩
abbrev S128x256 : Shape := ⟨2, ![128, 256]⟩
abbrev S5x128x128 : Shape := ⟨3, ![5, 128, 128]⟩
abbrev S2x128x128 : Shape := ⟨3, ![2, 128, 128]⟩
abbrev S128x4 : Shape := ⟨2, ![128, 4]⟩
abbrev S128x3 : Shape := ⟨2, ![128, 3]⟩
abbrev S128x512 : Shape := ⟨2, ![128, 512]⟩
abbrev S128x384 : Shape := ⟨2, ![128, 384]⟩
abbrev S4x128x128 : Shape := ⟨3, ![4, 128, 128]⟩
abbrev S3x128x128 : Shape := ⟨3, ![3, 128, 128]⟩
abbrev S384x1024 : Shape := ⟨2, ![384, 1024]⟩
abbrev S256x1024 : Shape := ⟨2, ![256, 1024]⟩

abbrev nBuf : Space → Nat
  | .hbm => 20
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2x1x1024, .f32⟩
  | .hbm, ⟨5, _⟩ => ⟨S1x1024, .f32⟩
  | .hbm, ⟨6, _⟩ => ⟨S1x1024, .f32⟩
  | .hbm, ⟨7, _⟩ => ⟨S8x128x128, .f32⟩
  | .hbm, ⟨8, _⟩ => ⟨S128x8, .f32⟩
  | .hbm, ⟨9, _⟩ => ⟨S1024x1024, .bf16⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2x1x1024, .f32⟩
  | .hbm, ⟨15, _⟩ => ⟨S1x1024, .f32⟩
  | .hbm, ⟨16, _⟩ => ⟨S1x1024, .f32⟩
  | .hbm, ⟨17, _⟩ => ⟨S8x128x128, .f32⟩
  | .hbm, ⟨18, _⟩ => ⟨S128x8, .f32⟩
  | .hbm, ⟨19, _⟩ => ⟨S1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x8, .f32⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1024, .f32⟩
  | .local _ .vmem, ⟨26, _⟩ => ⟨S1x1024, .f32⟩
  | .local _ .vmem, ⟨27, _⟩ => ⟨S8x128x128, .f32⟩
  | .local _ .vmem, ⟨28, _⟩ => ⟨S128x8, .f32⟩
  | .local _ .vmem, ⟨29, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v1180 : BitVec 1 := Scalar.cmpi .eq arg1 c0_i32
  let c4_i32 : BitVec 32 := 4#32
  let v1181 : BitVec 1 := Scalar.cmpi .eq arg1 c4_i32
  let v1182 : BitVec 1 := Scalar.ori v1180 v1181
  let v1184 : BitVec 32 := Scalar.extui v1182
  let c0_i32_292 : BitVec 32 := 0#32
  let v1185 : BitVec 1 := Scalar.cmpi .ne v1184 c0_i32_292
  v1185

def k0_cond2 (i : grid0.Coords) : BitVec 1 :=
  let arg1 : BitVec 32 := BitVec.ofNat 32 (i 1).val
  let c0_i32 : BitVec 32 := 0#32
  let v1180 : BitVec 1 := Scalar.cmpi .eq arg1 c0_i32
  let c4_i32 : BitVec 32 := 4#32
  let v1181 : BitVec 1 := Scalar.cmpi .eq arg1 c4_i32
  let v1182 : BitVec 1 := Scalar.ori v1180 v1181
  let v_true : BitVec 1 := 1#1
  let v1186 : BitVec 1 := Scalar.xori v1182 v_true
  let v1187 : BitVec 32 := Scalar.extui v1186
  let c0_i32_293 : BitVec 32 := 0#32
  let v1188 : BitVec 1 := Scalar.cmpi .ne v1187 c0_i32_293
  v1188

def k0_cond3 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let v1196 : BitVec 32 := Scalar.extui v1191
  let c0_i32_296 : BitVec 32 := 0#32
  let v1197 : BitVec 1 := Scalar.cmpi .ne v1196 c0_i32_296
  v1197

def k0_cond4 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let true_297 : BitVec 1 := 1#1
  let v1198 : BitVec 1 := Scalar.xori v1191 true_297
  let v1199 : BitVec 32 := Scalar.extui v1198
  let c0_i32_298 : BitVec 32 := 0#32
  let v1200 : BitVec 1 := Scalar.cmpi .ne v1199 c0_i32_298
  v1200

def k0_cond5 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let v1201 : BitVec 32 := Scalar.extui v1191
  let c0_i32_299 : BitVec 32 := 0#32
  let v1202 : BitVec 1 := Scalar.cmpi .ne v1201 c0_i32_299
  v1202

def k0_cond6 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let true_300 : BitVec 1 := 1#1
  let v1203 : BitVec 1 := Scalar.xori v1191 true_300
  let v1204 : BitVec 32 := Scalar.extui v1203
  let c0_i32_301 : BitVec 32 := 0#32
  let v1205 : BitVec 1 := Scalar.cmpi .ne v1204 c0_i32_301
  v1205

def k0_cond7 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let v1206 : BitVec 32 := Scalar.extui v1191
  let c0_i32_302 : BitVec 32 := 0#32
  let v1207 : BitVec 1 := Scalar.cmpi .ne v1206 c0_i32_302
  v1207

def k0_cond8 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let true_303 : BitVec 1 := 1#1
  let v1208 : BitVec 1 := Scalar.xori v1191 true_303
  let v1209 : BitVec 32 := Scalar.extui v1208
  let c0_i32_304 : BitVec 32 := 0#32
  let v1210 : BitVec 1 := Scalar.cmpi .ne v1209 c0_i32_304
  v1210

def k0_cond9 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let v1211 : BitVec 32 := Scalar.extui v1191
  let c0_i32_305 : BitVec 32 := 0#32
  let v1212 : BitVec 1 := Scalar.cmpi .ne v1211 c0_i32_305
  v1212

def k0_cond10 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let true_306 : BitVec 1 := 1#1
  let v1213 : BitVec 1 := Scalar.xori v1191 true_306
  let v1214 : BitVec 32 := Scalar.extui v1213
  let c0_i32_307 : BitVec 32 := 0#32
  let v1215 : BitVec 1 := Scalar.cmpi .ne v1214 c0_i32_307
  v1215

def k0_cond11 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let v1216 : BitVec 32 := Scalar.extui v1191
  let c0_i32_308 : BitVec 32 := 0#32
  let v1217 : BitVec 1 := Scalar.cmpi .ne v1216 c0_i32_308
  v1217

def k0_cond12 (i : grid0.Coords) : BitVec 1 :=
  let arg0 : BitVec 32 := BitVec.ofNat 32 (i 0).val
  let c0_i32_294 : BitVec 32 := 0#32
  let v1189 : BitVec 1 := Scalar.cmpi .eq arg0 c0_i32_294
  let arg1 : BitVec 32 := BitVec.ofNat 32 (i 1).val
  let c0_i32_295 : BitVec 32 := 0#32
  let v1190 : BitVec 1 := Scalar.cmpi .eq arg1 c0_i32_295
  let v1191 : BitVec 1 := Scalar.andi v1189 v1190
  let true_309 : BitVec 1 := 1#1
  let v1218 : BitVec 1 := Scalar.xori v1191 true_309
  let v1219 : BitVec 32 := Scalar.extui v1218
  let c0_i32_310 : BitVec 32 := 0#32
  let v1220 : BitVec 1 := Scalar.cmpi .ne v1219 c0_i32_310
  v1220

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_14 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Reference13Ideal.lean ====
abbrev S2x2048x1024 : Shape := ⟨3, ![2, 2048, 1024]⟩
abbrev S2x2x1x1024 : Shape := ⟨4, ![2, 2, 1, 1024]⟩
abbrev S1x1024 : Shape := ⟨2, ![1, 1024]⟩
abbrev S8x128x128 : Shape := ⟨3, ![8, 128, 128]⟩
abbrev S128x8 : Shape := ⟨2, ![128, 8]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S8x2x16x128x128 : Shape := ⟨5, ![8, 2, 16, 128, 128]⟩
abbrev S128x8x1 : Shape := ⟨3, ![128, 8, 1]⟩
abbrev S1x1x128x8x1 : Shape := ⟨5, ![1, 1, 128, 8, 1]⟩
abbrev S2x1x1x1024 : Shape := ⟨4, ![2, 1, 1, 1024]⟩
abbrev S2x1x1024 : Shape := ⟨3, ![2, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2x1x1024, .f32⟩
  | .hbm, ⟨5, _⟩ => ⟨S1x1024, .f32⟩
  | .hbm, ⟨6, _⟩ => ⟨S1x1024, .f32⟩
  | .hbm, ⟨7, _⟩ => ⟨S8x128x128, .f32⟩
  | .hbm, ⟨8, _⟩ => ⟨S128x8, .f32⟩
  | .hbm, ⟨9, _⟩ => ⟨S1024x1024, .bf16⟩
  | .hbm, ⟨10, _⟩ => ⟨S2x2048x1024, .f32⟩
  | .hbm, ⟨11, _⟩ => ⟨S1024x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S2x16x128x8x128, .f32⟩
  | .hbm, ⟨42, _⟩ => ⟨S8x2x16x128x128, .f32⟩
  | .hbm, ⟨43, _⟩ => ⟨S2x16x128x8x128, .f32⟩
  | .hbm, ⟨44, _⟩ => ⟨S128x8x1, .f32⟩
  | .hbm, ⟨45, _⟩ => ⟨S1x1x128x8x1, .f32⟩
  | .hbm, ⟨46, _⟩ => ⟨S2x16x128x8x128, .f32⟩
  | .hbm, ⟨47, _⟩ => ⟨S2x16x128x8x128, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x1x1x1024, .f32⟩
  | .hbm, ⟨65, _⟩ => ⟨S2x1x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S1024x1024, .f32⟩
  | .hbm, ⟨73, _⟩ => ⟨S1024x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v34_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v34_1 : Ref sig .tc := ⟨.hbm, 61, rfl⟩
abbrev main_v34_0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v49 : Ref sig .tc := ⟨.hbm, 80, rfl⟩
abbrev main_v50 : Ref sig .tc := ⟨.hbm, 81, rfl⟩

abbrev nD : Nat := 1
abbrev τ : Topo := Topo.v7x

variable {F : FTy → Type} [FloatOps F]
-- ==== Proof.Softmax.lean ====
/- The mathematics of one row of the attention over the reals: the softmax of a row of scores, its two spellings
   (quotient by the row's sum; power of two off the row's saved log-sum-exp), and its derivative's two spellings. -/
module

public import Idealize.ShloMosaic.PureOps.Ideal
public import Mathlib.Analysis.SpecialFunctions.Pow.Real

@[expose] public section

noncomputable section

namespace Cert.Attn

open Idealize.ShloMosaic

variable {n m : ℕ}

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softmax of a row of real scores. -/
def sm (x : Fin n → ℝ) (j : Fin n) : ℝ := Real.exp (x j) / ∑ k, Real.exp (x k)

/-- A row's sum of exponentials is positive. -/
theorem sum_exp_pos (hn : 0 < n) (x : Fin n → ℝ) (μ : ℝ) : 0 < ∑ k, Real.exp (x k - μ) :=
  Finset.sum_pos (fun _ _ => Real.exp_pos _) ⟨⟨0, hn⟩, Finset.mem_univ _⟩

/-- The quotient does not depend on the shift. -/
theorem shift_div (x : Fin n → ℝ) (μ : ℝ) (j : Fin n) :
    Real.exp (x j - μ) / ∑ k, Real.exp (x k - μ) = sm x j := by
  simp only [Real.exp_sub, sm, ← Finset.sum_div]
  rw [div_div_div_cancel_right₀ (Real.exp_pos μ).ne']

/-- The row's exponentials off a real shift. -/
theorem exp_sub_coe {X : Fin n → EReal} {x : Fin n → ℝ} (hX : ∀ j, X j = (x j : EReal)) (μ : ℝ) (j : Fin n) :
    Ideal.exp (X j - (μ : EReal)) = (Real.exp (x j - μ) : EReal) := by
  rw [hX, ← EReal.coe_sub, Ideal.exp_coe]

/-- The row's sum of exponentials. -/
theorem sum_exp_coe {X : Fin n → EReal} {x : Fin n → ℝ} (hX : ∀ j, X j = (x j : EReal)) (μ : ℝ) :
    ∑ j, Ideal.exp (X j - (μ : EReal)) = ((∑ j, Real.exp (x j - μ) : ℝ) : EReal) := by
  rw [coe_sum]
  exact Finset.sum_congr rfl fun j _ => exp_sub_coe hX μ j

/-- Exponential over the row's sum is the softmax. -/
theorem div_sum_exp (hn : 0 < n) {X : Fin n → EReal} {x : Fin n → ℝ} (hX : ∀ j, X j = (x j : EReal)) (μ : ℝ) (j : Fin n) :
    Ideal.div (Ideal.exp (X j - (μ : EReal))) (∑ k, Ideal.exp (X k - (μ : EReal))) = (sm x j : EReal) := by
  rw [sum_exp_coe hX, exp_sub_coe hX, Ideal.div_coe (sum_exp_pos hn x μ).ne', ← EReal.coe_mul, mul_one_div, shift_div]

/-- The row's log-sum-exp in base 2 gives the softmax back: `2 ^ (s - lse)`. -/
theorem exp2_sub_lse (hn : 0 < n) {S : Fin n → EReal} {s : Fin n → ℝ} (hS : ∀ j, S j = (s j : EReal)) (μ : ℝ) (j : Fin n) :
    Ideal.exp2 (S j - Ideal.div ((μ : EReal) + Ideal.log (∑ k, Ideal.exp (S k * ((Real.log 2 : ℝ) : EReal) - (μ : EReal))))
      ((Real.log 2 : ℝ) : EReal)) = (sm (fun k => s k * Real.log 2) j : EReal) := by
  have hX : ∀ k, S k * ((Real.log 2 : ℝ) : EReal) = ((s k * Real.log 2 : ℝ) : EReal) := fun k => by
    rw [hS, EReal.coe_mul]
  have hl : (0 : ℝ) < Real.log 2 := Real.log_pos one_lt_two
  have hp := sum_exp_pos hn (fun k => s k * Real.log 2) μ
  rw [sum_exp_coe hX, Ideal.log_coe, if_neg hp.not_ge, ← EReal.coe_add, Ideal.div_coe hl.ne', ← EReal.coe_mul, hS,
    ← EReal.coe_sub, Ideal.exp2_coe, ← shift_div _ μ]
  congr 1
  rw [Real.rpow_eq_pow, Real.rpow_def_of_pos two_pos, eq_div_iff hp.ne']
  nth_rw 2 [← Real.exp_log hp]
  rw [← Real.exp_add]
  congr 1
  field_simp
  ring

/-- The derivative of the softmax' scores as reverse differentiation of the quotient spells it: `(dp / l - Σ dp e / l²) e`. -/
theorem dscore_host (hn : 0 < n) {X D : Fin n → EReal} {x d : Fin n → ℝ} (hX : ∀ j, X j = (x j : EReal))
    (hD : ∀ j, D j = (d j : EReal)) (μ : ℝ) (j : Fin n) :
    (Ideal.div (D j) (∑ k, Ideal.exp (X k - (μ : EReal)))
      + -(∑ i, D i * Ideal.div 1 ((∑ k, Ideal.exp (X k - (μ : EReal))) * (∑ k, Ideal.exp (X k - (μ : EReal))))
          * Ideal.exp (X i - (μ : EReal)))) * Ideal.exp (X j - (μ : EReal))
      = ((sm x j * (d j - ∑ i, sm x i * d i) : ℝ) : EReal) := by
  have hp := sum_exp_pos hn x μ
  rw [sum_exp_coe hX]
  simp only [exp_sub_coe hX, hD, ← EReal.coe_mul]
  rw [Ideal.div_coe hp.ne', Ideal.div_coe (mul_pos hp hp).ne', one_mul]
  simp only [← EReal.coe_mul, ← coe_sum, ← EReal.coe_neg, ← EReal.coe_add]
  congr 1
  simp only [← shift_div x μ]
  set l := ∑ k, Real.exp (x k - μ) with hl
  have h1 : ∀ i, d i * (1 / (l * l)) * Real.exp (x i - μ) = (Real.exp (x i - μ) / l * d i) / l := fun i => by
    field_simp
  simp only [h1, ← Finset.sum_div]
  field_simp
  ring

end Cert.Attn

end
-- ==== Proof.Host.lean ====
/- The host lines of the attention (scores, their rows' maxima and sums, the softmax) read at an index. -/
module

public import proofs.«01_k».proof.Proof.Gen.ReferenceIdeal
public import proofs.«01_k».proof.Proof.Softmax
public import Idealize.ShloMosaic.Lib.Pointwise

@[expose] public section

set_option maxRecDepth 16384

noncomputable section

namespace Cert.Attn

open Idealize.ShloMosaic Idealize.ShloMosaic.TcCoe Idealize.SL.Sem Cert.ReferenceIdeal Cert.ReferenceIdeal.Gen

/-- Row `i`, lane `d` of head `h` of the queries. -/
abbrev qAt (q : FVec Ideal S2x2048x2048 .bf16) (b : Fin 2) (h : Fin 8) (i : Fin 2048) (d : Fin 256) : EReal :=
  q (ix3 b i ⟨h * 256 + d, by omega⟩)
/-- Row `j`, lane `d` of head `h` of the keys. -/
abbrev kAt (k : FVec Ideal S2x2304x2048 .bf16) (b : Fin 2) (h : Fin 8) (j : Fin 2304) (d : Fin 256) : EReal :=
  k (ix3 b j ⟨h * 256 + d, by omega⟩)
/-- Row `j`, lane `d` of head `h` of the values. -/
abbrev vAt (v : FVec Ideal S2x2304x1024 .bf16) (b : Fin 2) (h : Fin 8) (j : Fin 2304) (d : Fin 128) : EReal :=
  v (ix3 b j ⟨h * 128 + d, by omega⟩)
/-- Row `i`, lane `d` of head `h` of the result's cotangent. -/
abbrev gAt (g : FVec Ideal S2x2048x1024 .f32) (b : Fin 2) (h : Fin 8) (i : Fin 2048) (d : Fin 128) : EReal :=
  g (ix3 b i ⟨h * 128 + d, by omega⟩)

/-- The scores, the scale `log 2` included. -/
def scores (q : FVec Ideal S2x2048x2048 .bf16) (k : FVec Ideal S2x2304x2048 .bf16) : FVec Ideal S2x8x2048x2304 .f32 :=
  mulf (Host.dotGeneral dot_S2x2048x8x256_S2x2304x8x256_S2x8x2048x2304_3_3_1_1_02_02 none
      (shapeCast _ (extf .f32 q bitsLt_bf16_f32) shapeCasts_S2x2048x2048_S2x2048x8x256)
      (shapeCast _ (extf .f32 k bitsLt_bf16_f32) shapeCasts_S2x2304x2048_S2x2304x8x256))
    (broadcastInDim S2x8x2048x2304 ![] bcast_S_S2x8x2048x2304 (Host.log (constant S_ .f32 0x40000000#32)))

/-- The f32 word of two. -/
theorem ofBits_two_f32 : Ideal.ofBits .f32 0x40000000#32 = ((2 : ℝ) : EReal) := by
  simp [Ideal.ofBits, Ideal.ieee, -EReal.coe_mul]; norm_num

/-- The f32 word of minus infinity. -/
theorem ofBits_neg_inf_f32 : Ideal.ofBits .f32 0xFF800000#32 = ⊥ := by
  simp [Ideal.ofBits, Ideal.ieee, -EReal.coe_mul]

/-- The host's logarithm of two. -/
theorem log_two : Ideal.log (Ideal.ofBits .f32 0x40000000#32) = ((Real.log 2 : ℝ) : EReal) := by
  rw [ofBits_two_f32, Ideal.log_coe, if_neg (by norm_num)]

/-- The maximum of two vectors at an index. -/
theorem maximumf_at {s : Shape} (x y : FVec Ideal s .f32) (i : s.Idx) : maximumf x y i = max (x i) (y i) := rfl

/-- Minus infinity everywhere is neutral for the maximum. -/
theorem max_bot_left {s : Shape} (x y : FVec Ideal s .f32) (hx : ∀ i, x i = ⊥) : maximumf x y = y := by
  funext i
  rw [maximumf_at, hx]
  exact max_eq_right bot_le

/-- A constant spread from a scalar is that constant everywhere. -/
theorem bcast_const_at {T : Shape} (h : (⟨0, ![]⟩ : Shape).BroadcastsInDim T ![]) (w : BitVec 32) (i : T.Idx) :
    (broadcastInDim T ![] h (constant (F := Ideal) ⟨0, ![]⟩ .f32 w) : FVec Ideal T .f32) i = Ideal.ofBits .f32 w := rfl

theorem scores_at (q : FVec Ideal S2x2048x2048 .bf16) (k : FVec Ideal S2x2304x2048 .bf16)
    (b : Fin 2) (h : Fin 8) (i : Fin 2048) (j : Fin 2304) :
    scores q k (ix4 b h i j) = (∑ d, qAt q b h i d * kAt k b h j d) * ((Real.log 2 : ℝ) : EReal) := by
  rw [← log_two]
  pointwise [scores]

/-- The rows' maxima, as the host's reduction has them. -/
def rowMax0 (s : FVec Ideal S2x8x2048x2304 .f32) : FVec Ideal S2x8x2048 .f32 :=
  Host.reduce FloatOps.maximumf s (constant S_ .f32 0xFF800000#32) reducesTo_S2x8x2048x2304_S2x8x2048_d3 h_S_

/-- The rows' maxima. -/
def rowMax (s : FVec Ideal S2x8x2048x2304 .f32) : FVec Ideal S2x8x2048 .f32 :=
  maximumf (broadcastInDim S2x8x2048 ![] bcast_S_S2x8x2048 (constant S_ .f32 0xFF800000#32)) (rowMax0 s)

/-- The host's quiet maximum against minus infinity changes nothing. -/
theorem rowMax_eq (s : FVec Ideal S2x8x2048x2304 .f32) : rowMax s = rowMax0 s :=
  max_bot_left _ _ fun i => (bcast_const_at _ _ i).trans ofBits_neg_inf_f32

/-- The maximum of reals, some there, is real. -/
theorem fold_max_real {ι : Type} [DecidableEq ι] (t : Finset ι) (f : ι → EReal) (hf : ∀ i, ∃ r : ℝ, f i = (r : EReal))
    (ht : t.Nonempty) : ∃ r : ℝ, t.fold max ⊥ f = (r : EReal) := by
  induction ht using Finset.Nonempty.cons_induction with
  | singleton a => obtain ⟨r, hr⟩ := hf a; exact ⟨r, by rw [Finset.fold_singleton, hr]; exact max_eq_left bot_le⟩
  | cons a u ha _ ih =>
    obtain ⟨r, hr⟩ := hf a
    obtain ⟨p, hp⟩ := ih
    exact ⟨max r p, by rw [Finset.fold_cons, hr, hp]; exact ((EReal.coe_strictMono.monotone).map_max).symm⟩

/-- The host's maximum over one axis of real values is real. -/
theorem reduce_max_real {s t u : Shape} {a : Fin s.rank} (x : FVec Ideal s .f32) (c : FVec Ideal u .f32)
    (h' : s.ReducesTo [a] t) (h : s.Reduces [a] t) (hu : 0 < u.numel) (hc : ∀ i, c i = ⊥) (ha : 0 < s.size a)
    (hs : ∀ y, ∃ r : ℝ, x y = (r : EReal)) (y : t.Idx) :
    ∃ r : ℝ, Host.reduce FloatOps.maximumf x c h' hu y = (r : EReal) := by
  have he : Host.reduce FloatOps.maximumf x c h' hu y = _ :=
    Host.reduce_eq_fold_single (max : EReal → EReal → EReal) x c h' h hu y
  rw [he, hc]
  exact fold_max_real _ _ (fun i => hs _) ⟨⟨0, ha⟩, Finset.mem_univ _⟩

/-- A row's maximum of real scores is real. -/
theorem rowMax0_real (s : FVec Ideal S2x8x2048x2304 .f32) (hs : ∀ y, ∃ r : ℝ, s y = (r : EReal)) (y : S2x8x2048.Idx) :
    ∃ r : ℝ, rowMax0 s y = (r : EReal) :=
  reduce_max_real s _ _ (by decide) _ (fun _ => ofBits_neg_inf_f32) (by decide) hs y

/-- The exponentials of the scores off a row value. -/
def expOff (s : FVec Ideal S2x8x2048x2304 .f32) (μ : FVec Ideal S2x8x2048 .f32) : FVec Ideal S2x8x2048x2304 .f32 :=
  Host.exp (subf s (broadcastInDim S2x8x2048x2304 ![0, 1, 2, 3] bcast_S2x8x2048x1_S2x8x2048x2304_0_1_2_3
    (broadcastInDim S2x8x2048x1 ![0, 1, 2] bcast_S2x8x2048_S2x8x2048x1_0_1_2 μ)))

theorem expOff_at (s : FVec Ideal S2x8x2048x2304 .f32) (μ : FVec Ideal S2x8x2048 .f32)
    (b : Fin 2) (h : Fin 8) (i : Fin 2048) (j : Fin 2304) :
    expOff s μ (ix4 b h i j) = Ideal.exp (s (ix4 b h i j) - μ (ix3 b h i)) := by
  pointwise [expOff]

/-- The rows' sums. -/
def rowSum (e : FVec Ideal S2x8x2048x2304 .f32) : FVec Ideal S2x8x2048 .f32 :=
  Host.reduceAdd e (constant S_ .f32 0x00000000#32) reducesTo_S2x8x2048x2304_S2x8x2048_d3 h_S_

theorem rowSum_at (e : FVec Ideal S2x8x2048x2304 .f32) (b : Fin 2) (h : Fin 8) (i : Fin 2048) :
    rowSum e (ix3 b h i) = ∑ j, e (ix4 b h i j) := by
  pointwise [rowSum]

/-- A row value spread over the row. -/
def spread (l : FVec Ideal S2x8x2048 .f32) : FVec Ideal S2x8x2048x2304 .f32 :=
  broadcastInDim S2x8x2048x2304 ![0, 1, 2, 3] bcast_S2x8x2048x1_S2x8x2048x2304_0_1_2_3
    (broadcastInDim S2x8x2048x1 ![0, 1, 2] bcast_S2x8x2048_S2x8x2048x1_0_1_2 l)

theorem spread_at (l : FVec Ideal S2x8x2048 .f32) (b : Fin 2) (h : Fin 8) (i : Fin 2048) (j : Fin 2304) :
    spread l (ix4 b h i j) = l (ix3 b h i) := by
  pointwise [spread]

/-- The softmax' weights: exponentials over their row's sum. -/
def prob (e : FVec Ideal S2x8x2048x2304 .f32) : FVec Ideal S2x8x2048x2304 .f32 := Host.divf e (spread (rowSum e))

theorem prob_at (e : FVec Ideal S2x8x2048x2304 .f32) (b : Fin 2) (h : Fin 8) (i : Fin 2048) (j : Fin 2304) :
    prob e (ix4 b h i j) = Ideal.div (e (ix4 b h i j)) (∑ j', e (ix4 b h i j')) := by
  rw [← rowSum_at, ← spread_at (rowSum e) b h i j]
  pointwise [prob]

/-- The attention's result. -/
def outOf (v : FVec Ideal S2x2304x1024 .bf16) (p : FVec Ideal S2x8x2048x2304 .f32) : FVec Ideal S2x2048x1024 .f32 :=
  shapeCast _ (transpose S2x2048x8x128 [0, 3, 1, 2]
    (Host.dotGeneral dot_S2x2304x8x128_S2x8x2048x2304_S2x8x128x2048_1_3_3_2_02_01 none
      (shapeCast _ (extf .f32 v bitsLt_bf16_f32) shapeCasts_S2x2304x1024_S2x2304x8x128) p)
    transposes_S2x8x128x2048_S2x2048x8x128_0_3_1_2) shapeCasts_S2x2048x8x128_S2x2048x1024

theorem outOf_at (v : FVec Ideal S2x2304x1024 .bf16) (p : FVec Ideal S2x8x2048x2304 .f32)
    (b : Fin 2) (h : Fin 8) (i : Fin 2048) (d : Fin 128) :
    outOf v p (ix3 b i ⟨h * 128 + d, by omega⟩) = ∑ j, vAt v b h j d * p (ix4 b h i j) := by
  have h1 : ((h : ℕ) * 128 + d) / 128 = h := by omega
  have h2 : ((h : ℕ) * 128 + d) % 128 = d := by omega
  pointwise [outOf, h1, h2]

/-- The rows' log-sum-exp in base 2. -/
def lseOf (μ l : FVec Ideal S2x8x2048 .f32) : FVec Ideal S2x8x2048x1 .f32 :=
  Host.divf (addf (broadcastInDim S2x8x2048x1 ![0, 1, 2] bcast_S2x8x2048_S2x8x2048x1_0_1_2 μ)
      (Host.log (broadcastInDim S2x8x2048x1 ![0, 1, 2] bcast_S2x8x2048_S2x8x2048x1_0_1_2 l)))
    (broadcastInDim S2x8x2048x1 ![] bcast_S_S2x8x2048x1 (Host.log (constant S_ .f32 0x40000000#32)))

theorem lseOf_at (μ l : FVec Ideal S2x8x2048 .f32) (b : Fin 2) (h : Fin 8) (i : Fin 2048) (z : Fin 1) :
    lseOf μ l (ix4 b h i z) = Ideal.div (μ (ix3 b h i) + Ideal.log (l (ix3 b h i))) ((Real.log 2 : ℝ) : EReal) := by
  rw [← log_two]
  pointwise [lseOf]

end Cert.Attn

end
-- ==== Proof.Spec.lean ====
/- The attention's weights and their gradient over the reals, and the host lines' values in them, of finite arrays. -/
module

public import proofs.«01_k».proof.Proof.Host

@[expose] public section

set_option maxRecDepth 16384

noncomputable section

namespace Cert.Attn

open Idealize.ShloMosaic Idealize.ShloMosaic.TcCoe Idealize.SL.Sem Cert.ReferenceIdeal Cert.ReferenceIdeal.Gen

/-- Every element is a real number. -/
def Finite {s : Shape} (x : s.Idx → EReal) : Prop := ∀ y, ∃ r : ℝ, x y = (r : EReal)

theorem Finite.coe {s : Shape} {x : s.Idx → EReal} (hx : Finite x) (y : s.Idx) : x y = ((x y).toReal : EReal) := by
  obtain ⟨r, hr⟩ := hx y
  rw [hr, EReal.toReal_coe]

variable (q : FVec Ideal S2x2048x2048 .bf16) (k : FVec Ideal S2x2304x2048 .bf16) (v : FVec Ideal S2x2304x1024 .bf16)
  (g : FVec Ideal S2x2048x1024 .f32) (b : Fin 2) (h : Fin 8) (i : Fin 2048) (j : Fin 2304)

/-- A score, before the scale. -/
def dotQK : ℝ := ∑ d, (qAt q b h i d).toReal * (kAt k b h j d).toReal
/-- A weight of the attention. -/
def weight : ℝ := sm (fun j => dotQK q k b h i j * Real.log 2) j
/-- The cotangent of a weight. -/
def dWeight : ℝ := ∑ d, (gAt g b h i d).toReal * (vAt v b h j d).toReal
/-- The cotangent of an unscaled score. -/
def dScore : ℝ :=
  weight q k b h i j * (dWeight v g b h i j - ∑ j', weight q k b h i j' * dWeight v g b h i j') * Real.log 2

variable {q k v g}

theorem qk_coe (hq : Finite q) (hk : Finite k) : ∑ d, qAt q b h i d * kAt k b h j d = (dotQK q k b h i j : EReal) := by
  rw [dotQK, coe_sum]
  exact Finset.sum_congr rfl fun d _ => by rw [EReal.coe_mul, ← hq.coe, ← hk.coe]

theorem gv_coe (hg : Finite g) (hv : Finite v) : ∑ d, gAt g b h i d * vAt v b h j d = (dWeight v g b h i j : EReal) := by
  rw [dWeight, coe_sum]
  exact Finset.sum_congr rfl fun d _ => by rw [EReal.coe_mul, ← hg.coe, ← hv.coe]

theorem scores_coe (hq : Finite q) (hk : Finite k) :
    scores q k (ix4 b h i j) = ((dotQK q k b h i j * Real.log 2 : ℝ) : EReal) := by
  rw [scores_at, qk_coe b h i j hq hk, EReal.coe_mul]

theorem scores_finite (hq : Finite q) (hk : Finite k) : Finite (scores q k) := fun y => by
  idx_vars y
  exact ⟨_, scores_coe _ _ _ _ hq hk⟩

/-- The rows' maxima are real. -/
theorem rowMax_coe (hq : Finite q) (hk : Finite k) :
    ∃ μ : ℝ, rowMax0 (scores q k) (ix3 b h i) = (μ : EReal) := rowMax0_real _ (scores_finite hq hk) _

/-- The host's softmax is the weight. -/
theorem prob_coe (hq : Finite q) (hk : Finite k) :
    prob (expOff (scores q k) (rowMax0 (scores q k))) (ix4 b h i j) = (weight q k b h i j : EReal) := by
  obtain ⟨μ, hμ⟩ := rowMax_coe b h i hq hk
  rw [prob_at]
  simp only [expOff_at, hμ]
  exact div_sum_exp (by decide) (fun j => scores_coe b h i j hq hk) μ j

/-- A power of two off the saved log-sum-exp is the weight. -/
theorem exp2_lse_coe (hq : Finite q) (hk : Finite k) (z : Fin 1) :
    Ideal.exp2 ((∑ d, qAt q b h i d * kAt k b h j d)
      - lseOf (rowMax0 (scores q k)) (rowSum (expOff (scores q k) (rowMax0 (scores q k)))) (ix4 b h i z))
      = (weight q k b h i j : EReal) := by
  obtain ⟨μ, hμ⟩ := rowMax_coe b h i hq hk
  rw [lseOf_at, rowSum_at, hμ]
  simp only [expOff_at, hμ, scores_at]
  exact exp2_sub_lse (by decide) (S := fun j => ∑ d, qAt q b h i d * kAt k b h j d) (fun j => qk_coe b h i j hq hk) μ j

/-- The row's sum of result times cotangent is the weights' mean of their cotangents. -/
theorem delta_coe (hq : Finite q) (hk : Finite k) (hv : Finite v) (hg : Finite g) :
    ∑ d : Fin 128, gAt g b h i d
      * outOf v (prob (expOff (scores q k) (rowMax0 (scores q k)))) (ix3 b i ⟨h * 128 + d, by omega⟩)
      = ((∑ j', weight q k b h i j' * dWeight v g b h i j' : ℝ) : EReal) := by
  have h1 : ∀ d : Fin 128, outOf v (prob (expOff (scores q k) (rowMax0 (scores q k)))) (ix3 b i ⟨h * 128 + d, by omega⟩)
      = ((∑ j', (vAt v b h j' d).toReal * weight q k b h i j' : ℝ) : EReal) := fun d => by
    rw [outOf_at, coe_sum]
    exact Finset.sum_congr rfl fun j' _ => by rw [prob_coe b h i j' hq hk, EReal.coe_mul, ← hv.coe]
  have h2 : ∀ d : Fin 128, gAt g b h i d * ((∑ j', (vAt v b h j' d).toReal * weight q k b h i j' : ℝ) : EReal)
      = (((gAt g b h i d).toReal * ∑ j', (vAt v b h j' d).toReal * weight q k b h i j' : ℝ) : EReal) := fun d => by
    rw [EReal.coe_mul, ← hg.coe]
  simp only [h1, h2]
  rw [← coe_sum]
  congr 1
  simp only [dWeight, Finset.mul_sum]
  rw [Finset.sum_comm]
  exact Finset.sum_congr rfl fun j' _ => Finset.sum_congr rfl fun d _ => by ring

end Cert.Attn

end
-- ==== Proof.Pre.lean ====
/- What the precondition says: every element of the four arrays is a real number. -/
module

public import proofs.«01_k».proof.Defs
public import proofs.«01_k».proof.Proof.Spec

@[expose] public section

set_option maxRecDepth 16384

noncomputable section

namespace Cert.Attn

open Idealize.ShloMosaic Idealize.SL.Sem Cert.ReferenceIdeal

/-- The predicate's side conditions. -/
theorem preFacts : Cert.Pre_finite.Facts where
  bitsLt_bf16_f32 := by decide
  bcast_S_S2x2048x2048 := by decide
  bcast_S_S2x2304x2048 := by decide
  bcast_S_S2x2304x1024 := by decide
  bcast_S_S2x2048x1024 := by decide

/-- The f32 word of plus infinity. -/
theorem ofBits_inf_f32 : Ideal.ofBits .f32 0x7F800000#32 = ⊤ := by
  simp [Ideal.ofBits, Ideal.ieee, -EReal.coe_mul]

/-- An extended real whose absolute value is below plus infinity is real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The predicate of one array. -/
theorem finite_of_mask {s : Shape} (x z : FVec Ideal s .f32) (hz : ∀ y, z y = ⊤)
    (h : cmpf .olt (Host.absf x) z = fun _ => 1#1) : Finite x := fun y => by
  have e := congrFun h y
  refine real_of_abs_lt (x y) ?_
  rw [← hz y]
  exact e

theorem finite_of_pre [Cert.Pre_finite.Facts] (q : FVec Ideal S2x2048x2048 .bf16) (k : FVec Ideal S2x2304x2048 .bf16)
    (v : FVec Ideal S2x2304x1024 .bf16) (g : FVec Ideal S2x2048x1024 .f32)
    (h : (Cert.Pre_finite.fn (F := Ideal) q k v g).1 = (fun _ => 1#1)
      ∧ (Cert.Pre_finite.fn (F := Ideal) q k v g).2.1 = (fun _ => 1#1)
      ∧ (Cert.Pre_finite.fn (F := Ideal) q k v g).2.2.1 = (fun _ => 1#1)
      ∧ (Cert.Pre_finite.fn (F := Ideal) q k v g).2.2.2 = (fun _ => 1#1)) :
    Finite q ∧ Finite k ∧ Finite v ∧ Finite g :=
  ⟨finite_of_mask q _ (fun y => (bcast_const_at _ _ y).trans ofBits_inf_f32) h.1,
    finite_of_mask k _ (fun y => (bcast_const_at _ _ y).trans ofBits_inf_f32) h.2.1,
    finite_of_mask v _ (fun y => (bcast_const_at _ _ y).trans ofBits_inf_f32) h.2.2.1,
    finite_of_mask g _ (fun y => (bcast_const_at _ _ y).trans ofBits_inf_f32) h.2.2.2⟩

/-- The forward predicate's side conditions. -/
theorem preFacts2 : Cert.Pre_finite2.Facts where
  bitsLt_bf16_f32 := by decide
  bcast_S_S2x2048x2048 := by decide
  bcast_S_S2x2304x2048 := by decide

theorem finite_of_pre2 [Cert.Pre_finite2.Facts] (q : FVec Ideal S2x2048x2048 .bf16) (k : FVec Ideal S2x2304x2048 .bf16)
    (v : FVec Ideal S2x2304x1024 .bf16)
    (h : (Cert.Pre_finite2.fn (F := Ideal) q k v).1 = (fun _ => 1#1)
      ∧ (Cert.Pre_finite2.fn (F := Ideal) q k v).2 = (fun _ => 1#1)) : Finite q ∧ Finite k :=
  ⟨finite_of_mask q _ (fun y => (bcast_const_at _ _ y).trans ofBits_inf_f32) h.1,
    finite_of_mask k _ (fun y => (bcast_const_at _ _ y).trans ofBits_inf_f32) h.2⟩

end Cert.Attn

end
-- ==== Proof.Tile.lean ====
/- One 128 x 256 tile of the kernel's weights and of its scores' cotangents, from the tile's rows of the blocks. -/
module

public import proofs.«01_k».proof.Proof.Gen.KernelIdeal.Skeleton
public import Idealize.ShloMosaic.Lib.Pointwise
public import Idealize.ShloMosaic.Lib.ValueLayout
public import Idealize.ShloMosaic.Lib.ValueLayoutCasts
public import Idealize.ShloMosaic.Lib.Pipeline.ValueKit

@[expose] public section

set_option maxRecDepth 16384

noncomputable section

namespace Cert.KernelIdeal.Tile

open Idealize.ShloMosaic Idealize.ShloMosaic.TcCoe Idealize.SL.Sem Cert.KernelIdeal Cert.KernelIdeal.Gen

/-- The kernel's named constant. -/
theorem ln2_eq : (Named.named κ "ln2" 0x3F317218#32 : Ideal .f32) = ((Real.log 2 : ℝ) : EReal) := rfl

/-- The weights of a tile: powers of two of the scores off the rows' log-sum-exp. -/
def pTile (a : FVec Ideal S128x256 .bf16) (l : FVec Ideal S128x1 .f32) (kk : FVec Ideal S256x256 .bf16) : FVec Ideal S128x256 .f32 :=
  exp2 (subf (matmul dot_S128x256_S256x256_S128x256_1_1_0_0_n_n none a kk (constant S128x256 .f32 0x00000000#32))
    (broadcastTo S128x256 l broadcasts_S128x1_S128x256))

/-- The tile as the kernel stores it. -/
def pStore (a : FVec Ideal S128x256 .bf16) (l : FVec Ideal S128x1 .f32) (kk : FVec Ideal S256x256 .bf16) : FVec Ideal S128x256 .bf16 :=
  shapeCast S128x256 (truncf .bf16 (pTile a l kk) bitsLt_bf16_f32) shapeCasts_S128x256_S128x256

/-- The scores' cotangents of a tile, as the kernel stores them. -/
def dsStore (a : FVec Ideal S128x256 .bf16) (w : FVec Ideal S128x128 .bf16) (l : FVec Ideal S128x1 .f32)
    (δ : FVec Ideal S128x1 .f32) (kk : FVec Ideal S256x256 .bf16) (vv : FVec Ideal S256x128 .bf16) : FVec Ideal S128x256 .bf16 :=
  shapeCast S128x256 (truncf .bf16 (mulf (mulf (pTile a l kk)
      (subf (matmul dot_S128x128_S256x128_S128x256_1_1_0_0_n_n none w vv (constant S128x256 .f32 0x00000000#32))
        (broadcastTo S128x256 δ broadcasts_S128x1_S128x256)))
    (broadcast S128x256 (Named.named κ "ln2" 0x3F317218#32 : Ideal .f32))) bitsLt_bf16_f32) shapeCasts_S128x256_S128x256

theorem pStore_at (a : FVec Ideal S128x256 .bf16) (l : FVec Ideal S128x1 .f32) (kk : FVec Ideal S256x256 .bf16)
    (x0 : Fin 128) (x1 : Fin 256) :
    pStore a l kk (ix2 x0 x1) = Ideal.exp2 ((∑ d, a (ix2 x0 d) * kk (ix2 x1 d)) - l (ix2 x0 0)) := by
  pointwise [pStore, pTile]
  rfl

theorem dsStore_at (a : FVec Ideal S128x256 .bf16) (w : FVec Ideal S128x128 .bf16) (l : FVec Ideal S128x1 .f32)
    (δ : FVec Ideal S128x1 .f32) (kk : FVec Ideal S256x256 .bf16) (vv : FVec Ideal S256x128 .bf16) (x0 : Fin 128) (x1 : Fin 256) :
    dsStore a w l δ kk vv (ix2 x0 x1) = Ideal.exp2 ((∑ d, a (ix2 x0 d) * kk (ix2 x1 d)) - l (ix2 x0 0))
      * ((∑ d, w (ix2 x0 d) * vv (ix2 x1 d)) - δ (ix2 x0 0)) * ((Real.log 2 : ℝ) : EReal) := by
  rw [← ln2_eq]
  pointwise [dsStore, pTile]
  rfl

/-- Consecutive rows of a one-row block, loaded and seen as a matrix, read the block at their offset. -/
theorem rows_at {n m w : ℕ} {e : EltTy} (X : (⟨3, ![1, n, w]⟩ : Shape).Idx → Elt Ideal e) (r : ℕ)
    (hr : ∀ a, (![0, r, 0] : Fin 3 → ℕ) a + (![1, m, w] : Fin 3 → ℕ) a ≤ (⟨3, ![1, n, w]⟩ : Shape).size a)
    (hs : (⟨3, ![1, m, w]⟩ : Shape).ShapeCasts ⟨2, ![m, w]⟩) (x : Fin m) (d : Fin w) (i : Fin n) (hi : (i : ℕ) = r + x) :
    shapeCast ⟨2, ![m, w]⟩ (View.ld (Val := Elt Ideal) (S := ⟨3, ![1, n, w]⟩) X
      (Rect.unit (s := ⟨3, ![1, n, w]⟩) ![0, r, 0] ![1, m, w] hr)) hs (ix2 x d) = X (ix3 0 i d) := by
  refine (ValueIdx.shapeCast_1ab_ab_apply _ hs x d).trans (congrArg X ?_)
  funext a
  match a with
  | ⟨0, _⟩ => rfl
  | ⟨1, _⟩ => exact Fin.ext (by show r + 1 * (x : ℕ) = i; omega)
  | ⟨2, _⟩ => exact Fin.ext (by show 0 + 1 * (d : ℕ) = d; omega)

variable (X0 : FVec Ideal S1x2048x256 .bf16) (X1 : FVec Ideal S1x2304x256 .bf16) (X2 : FVec Ideal S1x2304x128 .bf16)
  (X3 : FVec Ideal S1x2048x128 .f32) (X4 : FVec Ideal S1x1x2048x1 .f32) (X5 : FVec Ideal S1x2048x128 .f32)

/-- The rows of the queries' block that a tile loads. -/
abbrev qRows (r : ℕ) (hr : ∀ a, (![0, r, 0] : Fin 3 → ℕ) a + (![1, 128, 256] : Fin 3 → ℕ) a ≤ S1x2048x256.size a) : FVec Ideal S128x256 .bf16 :=
  shapeCast S128x256 (View.ld (Val := Elt Ideal) (S := S1x2048x256) (e' := .bf16) X0 (Rect.unit (s := S1x2048x256) ![0, r, 0] ![1, 128, 256] hr))
    shapeCasts_S1x128x256_S128x256

/-- The rows of a row block (result, cotangent) that a tile loads. -/
abbrev gRows (X : FVec Ideal S1x2048x128 .f32) (r : ℕ) (hr : ∀ a, (![0, r, 0] : Fin 3 → ℕ) a + (![1, 128, 128] : Fin 3 → ℕ) a ≤ S1x2048x128.size a) : FVec Ideal S128x128 .f32 :=
  shapeCast S128x128 (View.ld (Val := Elt Ideal) (S := S1x2048x128) (e' := .f32) X (Rect.unit (s := S1x2048x128) ![0, r, 0] ![1, 128, 128] hr))
    shapeCasts_S1x128x128_S128x128

/-- The rows of the log-sum-exp's block that a tile loads. -/
abbrev lRows (r : ℕ) (hr : ∀ a, (![0, 0, r, 0] : Fin 4 → ℕ) a + (![1, 1, 128, 1] : Fin 4 → ℕ) a ≤ S1x1x2048x1.size a) : FVec Ideal S128x1 .f32 :=
  shapeCast S128x1 (View.ld (Val := Elt Ideal) (S := S1x1x2048x1) (e' := .f32) X4 (Rect.unit (s := S1x1x2048x1) ![0, 0, r, 0] ![1, 1, 128, 1] hr))
    shapeCasts_S1x1x128x1_S128x1

/-- The rows of the keys' block that a tile loads. -/
abbrev kRows (c : ℕ) (hc : ∀ a, (![0, c, 0] : Fin 3 → ℕ) a + (![1, 256, 256] : Fin 3 → ℕ) a ≤ S1x2304x256.size a) : FVec Ideal S256x256 .bf16 :=
  shapeCast S256x256 (View.ld (Val := Elt Ideal) (S := S1x2304x256) (e' := .bf16) X1 (Rect.unit (s := S1x2304x256) ![0, c, 0] ![1, 256, 256] hc))
    shapeCasts_S1x256x256_S256x256

/-- The rows of the values' block that a tile loads. -/
abbrev vRows (c : ℕ) (hc : ∀ a, (![0, c, 0] : Fin 3 → ℕ) a + (![1, 256, 128] : Fin 3 → ℕ) a ≤ S1x2304x128.size a) : FVec Ideal S256x128 .bf16 :=
  shapeCast S256x128 (View.ld (Val := Elt Ideal) (S := S1x2304x128) (e' := .bf16) X2 (Rect.unit (s := S1x2304x128) ![0, c, 0] ![1, 256, 128] hc))
    shapeCasts_S1x256x128_S256x128

/-- The rows' sums of result times cotangent. -/
abbrev deltaRows (w o : FVec Ideal S128x128 .f32) : FVec Ideal S128x1 .f32 :=
  shapeCast S128x1 (multiReduction .add [1] S128 (mulf w o) 0x00000000#32 reduces_S128x128_S128 (.inl rfl) rfl) shapeCasts_S128_S128x1

/-- A weight, from the blocks. -/
def pVal (i : Fin 2048) (j : Fin 2304) : EReal :=
  Ideal.exp2 ((∑ d : Fin 256, X0 (ix3 0 i d) * X1 (ix3 0 j d)) - X4 (ix4 0 0 i 0))

/-- A score's cotangent, from the blocks. -/
def dsVal (i : Fin 2048) (j : Fin 2304) : EReal :=
  pVal X0 X1 X4 i j * ((∑ d : Fin 128, X5 (ix3 0 i d) * X2 (ix3 0 j d)) - ∑ d : Fin 128, X5 (ix3 0 i d) * X3 (ix3 0 i d))
    * ((Real.log 2 : ℝ) : EReal)

theorem lRows_at (r : ℕ) (hr) (x : Fin 128) (i : Fin 2048) (hi : (i : ℕ) = r + x) :
    lRows X4 r hr (ix2 x 0) = X4 (ix4 0 0 i 0) := by
  refine (shapeCast_apply _ _ _ (ix4 0 0 x 0) (by
    rw [Shape.rowMajor_val_four, Shape.rowMajor_val_two]
    show ((0 * 1 + 0) * 128 + (x : ℕ)) * 1 + 0 = (x : ℕ) * 1 + 0
    omega)).trans (congrArg X4 ?_)
  funext a
  match a with
  | ⟨0, _⟩ => rfl
  | ⟨1, _⟩ => rfl
  | ⟨2, _⟩ => exact Fin.ext (by show r + 1 * (x : ℕ) = i; omega)
  | ⟨3, _⟩ => rfl

theorem deltaRows_at (w o : FVec Ideal S128x128 .f32) (x : Fin 128) :
    deltaRows w o (ix2 x 0) = ∑ d : Fin 128, w (ix2 x d) * o (ix2 x d) := by
  pointwise [deltaRows]

theorem p_core_at (r c : ℕ) (h0 h1 h4) (x0 : Fin 128) (x1 : Fin 256) (i : Fin 2048) (j : Fin 2304)
    (hr : (i : ℕ) = r + x0) (hc : (j : ℕ) = c + x1) :
    pStore (qRows X0 r h0) (lRows X4 r h4) (kRows X1 c h1) (ix2 x0 x1) = pVal X0 X1 X4 i j := by
  rw [pStore_at, pVal, lRows_at X4 r h4 x0 i hr]
  congr 2
  refine Finset.sum_congr rfl fun d _ => ?_
  rw [show qRows X0 r h0 (ix2 x0 d) = X0 (ix3 0 i d) from rows_at (e := .bf16) X0 r h0 _ _ _ i hr,
    show kRows X1 c h1 (ix2 x1 d) = X1 (ix3 0 j d) from rows_at (e := .bf16) X1 c h1 _ _ _ j hc]

theorem ds_core_at (r c : ℕ) (h0 h1 h2 h3 h4) (x0 : Fin 128) (x1 : Fin 256) (i : Fin 2048) (j : Fin 2304)
    (hr : (i : ℕ) = r + x0) (hc : (j : ℕ) = c + x1) :
    dsStore (qRows X0 r h0) (truncf .bf16 (gRows X5 r h3) bitsLt_bf16_f32) (lRows X4 r h4)
      (deltaRows (gRows X5 r h3) (gRows X3 r h3)) (kRows X1 c h1) (vRows X2 c h2) (ix2 x0 x1)
      = dsVal X0 X1 X2 X3 X4 X5 i j := by
  have eg : ∀ (X : FVec Ideal S1x2048x128 .f32) d, gRows X r h3 (ix2 x0 d) = X (ix3 0 i d) :=
    fun X d => rows_at (e := .f32) X r h3 _ _ _ i hr
  have ev : ∀ d, vRows X2 c h2 (ix2 x1 d) = X2 (ix3 0 j d) := fun d => rows_at (e := .bf16) X2 c h2 _ _ _ j hc
  have ep : pStore (qRows X0 r h0) (lRows X4 r h4) (kRows X1 c h1) (ix2 x0 x1) = pVal X0 X1 X4 i j :=
    p_core_at X0 X1 X4 r c h0 h1 h4 x0 x1 i j hr hc
  rw [pStore_at] at ep
  rw [dsStore_at, ep, dsVal, deltaRows_at]
  simp only [eg, ev, show ∀ d, (truncf .bf16 (gRows X5 r h3) bitsLt_bf16_f32 : FVec Ideal S128x128 .bf16) (ix2 x0 d)
    = X5 (ix3 0 i d) from fun d => eg X5 d]

theorem p_core (r c : ℕ) (h0 h1 h4) (x : S128x256.Idx) (y : S2048x2304.Idx)
    (hr : (y 0 : ℕ) = r + x 0) (hc : (y 1 : ℕ) = c + x 1) :
    pStore (qRows X0 r h0) (lRows X4 r h4) (kRows X1 c h1) x = pVal X0 X1 X4 (y 0) (y 1) := by
  have ex : x = ix2 (n0 := 128) (n1 := 256) (x 0) (x 1) := by funext a; match a with | ⟨0, _⟩ => rfl | ⟨1, _⟩ => rfl
  exact (congrArg (pStore _ _ _) ex).trans (p_core_at X0 X1 X4 r c h0 h1 h4 _ _ _ _ hr hc)

theorem ds_core (r c : ℕ) (h0 h1 h2 h3 h4) (x : S128x256.Idx) (y : S2048x2304.Idx)
    (hr : (y 0 : ℕ) = r + x 0) (hc : (y 1 : ℕ) = c + x 1) :
    dsStore (qRows X0 r h0) (truncf .bf16 (gRows X5 r h3) bitsLt_bf16_f32) (lRows X4 r h4)
      (deltaRows (gRows X5 r h3) (gRows X3 r h3)) (kRows X1 c h1) (vRows X2 c h2) x
      = dsVal X0 X1 X2 X3 X4 X5 (y 0) (y 1) := by
  have ex : x = ix2 (n0 := 128) (n1 := 256) (x 0) (x 1) := by funext a; match a with | ⟨0, _⟩ => rfl | ⟨1, _⟩ => rfl
  exact (congrArg (dsStore _ _ _ _ _ _) ex).trans (ds_core_at X0 X1 X2 X3 X4 X5 r c h0 h1 h2 h3 h4 _ _ _ _ hr hc)

end Cert.KernelIdeal.Tile

end
-- ==== Proof.Block.lean ====
/- What one block's body leaves in its three outputs: products of the block's weights and of its scores' cotangents. -/
module

public import proofs.«01_k».proof.Proof.Gen.KernelIdeal.Frame
public import proofs.«01_k».proof.Proof.Tile
public import Idealize.ShloMosaic.Lib.Pipeline.ValueKit

@[expose] public section

set_option maxRecDepth 16384

noncomputable section

namespace Cert.KernelIdeal.Block

open Idealize.ShloMosaic Idealize.ShloMosaic.TcCoe Idealize.SL.Sem Cert.KernelIdeal Cert.KernelIdeal.Gen Cert.KernelIdeal.Tile

variable (m : (ℓ : Loc nD τ sig) → Buf (Elt Ideal) ℓ) (c : Dev nD) (t : Fin cfg0.N)

/-- A load of a whole matrix that 128 x 256 tiles were written to reads what every tile holding the index has there. -/
theorem readCov_whole (v : View sig .tc .vmem S2048x2304 .bf16)
    (L : List (View.Piece (Elt Ideal) S2048x2304 .bf16)) (h) (y : S2048x2304.Idx) (z : EReal)
    (hc : ∃ p ∈ L, y ∈ p.1.set) (hall : View.AllAt L y z) :
    v.readCov L (Rect.unit (s := S2048x2304) ![0, 0] S2048x2304.size h).toLoadRect y = z := by
  rw [View.readCov_eq_canon']
  have e : (Rect.unit (s := S2048x2304) ![0, 0] S2048x2304.size h).toLoadRect.idx y = y := by
    funext a
    match a with
    | ⟨0, _⟩ => exact Fin.ext (by show 0 + 1 * (y 0 : ℕ) = y 0; omega)
    | ⟨1, _⟩ => exact Fin.ext (by show 0 + 1 * (y 1 : ℕ) = y 1; omega)
  show View.canon L (_ : S2048x2304.Idx) = z
  exact (congrArg (View.canon L) e).trans (View.canon_eq_of_allAt L y z hc hall)

section
variable (X0 : FVec Ideal S1x2048x256 .bf16) (X1 : FVec Ideal S1x2304x256 .bf16) (X2 : FVec Ideal S1x2304x128 .bf16)
  (X3 : FVec Ideal S1x2048x128 .f32) (X4 : FVec Ideal S1x1x2048x1 .f32) (X5 : FVec Ideal S1x2048x128 .f32)

theorem p_tile (r k : ℕ) (h0 h1 h4) (y : S2048x2304.Idx) :
    View.TileAt (Val := Elt Ideal) (S := S2048x2304) (e := .bf16) y ![r, k] ![128, 256]
      (pStore (qRows X0 r h0) (lRows X4 r h4) (kRows X1 k h1)) (pVal X0 X1 X4 (y 0) (y 1)) :=
  fun x hx => p_core X0 X1 X4 r k h0 h1 h4 x y (hx 0) (hx 1)

theorem ds_tile (r k : ℕ) (h0 h1 h2 h3 h4) (y : S2048x2304.Idx) :
    View.TileAt (Val := Elt Ideal) (S := S2048x2304) (e := .bf16) y ![r, k] ![128, 256]
      (dsStore (qRows X0 r h0) (truncf .bf16 (gRows X5 r h3) bitsLt_bf16_f32) (lRows X4 r h4)
        (deltaRows (gRows X5 r h3) (gRows X3 r h3)) (kRows X1 k h1) (vRows X2 k h2)) (dsVal X0 X1 X2 X3 X4 X5 (y 0) (y 1)) :=
  fun x hx => ds_core X0 X1 X2 X3 X4 X5 r k h0 h1 h2 h3 h4 x y (hx 0) (hx 1)
end

/-- The block of the values' gradient: the weights' matrix against the cotangent. -/
theorem out_dv : ∃ P : FVec Ideal S2048x2304 .bf16, (outsAt0 m c t).2.2 = k0_pay4 P (iblk m c 5 t)
    ∧ ∀ y, P y = pVal (iblk m c 0 t) (iblk m c 1 t) (iblk m c 4 t) (y 0) (y 1) := by
  refine ⟨_, by unfold outsAt0; frame_out; rfl, fun y => ?_⟩
  refine readCov_whole _ _ _ y _ (View.cover_of_tiled_head _ _ _ (by rfl) y) ?_
  repeat refine View.allAt_cons_unit _ _ _ _ _ (p_tile (iblk m c 0 t) (iblk m c 1 t) (iblk m c 4 t) _ _ _ _ _ y) ?_
  exact View.allAt_nil _ _

/-- The block of the keys' gradient: the scores' cotangents against the queries. -/
theorem out_dk : ∃ D : FVec Ideal S2048x2304 .bf16, (outsAt0 m c t).2.1 = k0_pay3 D (iblk m c 0 t)
    ∧ ∀ y, D y = dsVal (iblk m c 0 t) (iblk m c 1 t) (iblk m c 2 t) (iblk m c 3 t) (iblk m c 4 t) (iblk m c 5 t) (y 0) (y 1) := by
  refine ⟨_, by unfold outsAt0; frame_out; rfl, fun y => ?_⟩
  refine readCov_whole _ _ _ y _ (View.cover_of_tiled_head _ _ _ (by rfl) y) ?_
  repeat refine View.allAt_cons_unit _ _ _ _ _ (ds_tile (iblk m c 0 t) (iblk m c 1 t) (iblk m c 2 t) (iblk m c 3 t) (iblk m c 4 t)
    (iblk m c 5 t) _ _ _ _ _ _ _ y) ?_
  exact View.allAt_nil _ _

/-- The block of the queries' gradient: the scores' cotangents against the keys. -/
theorem out_dq : ∃ D : FVec Ideal S2048x2304 .bf16, (outsAt0 m c t).1 = k0_pay593 D (iblk m c 1 t)
    ∧ ∀ y, D y = dsVal (iblk m c 0 t) (iblk m c 1 t) (iblk m c 2 t) (iblk m c 3 t) (iblk m c 4 t) (iblk m c 5 t) (y 0) (y 1) := by
  refine ⟨_, by unfold outsAt0; frame_out; rfl, fun y => ?_⟩
  refine readCov_whole _ _ _ y _ (View.cover_of_tiled_head _ _ _ (by rfl) y) ?_
  repeat refine View.allAt_cons_unit _ _ _ _ _ (ds_tile (iblk m c 0 t) (iblk m c 1 t) (iblk m c 2 t) (iblk m c 3 t) (iblk m c 4 t)
    (iblk m c 5 t) _ _ _ _ _ _ _ y) ?_
  exact View.allAt_nil _ _

end Cert.KernelIdeal.Block
end
-- ==== Proof.Entry.lean ====
/- What the forward pass saved, as the kernel's host lines have it when the region is entered. -/
module

public import proofs.«01_k».proof.Proof.Gen.KernelIdeal.Frame.Runs
public import proofs.«01_k».proof.Proof.Host
public import Idealize.ShloMosaic.Lib.Claim

@[expose] public section

set_option maxRecDepth 16384

noncomputable section

namespace Cert.KernelIdeal.Entry

open Idealize.ShloMosaic Idealize.ShloMosaic.TcCoe Idealize.SL.Sem Cert.KernelIdeal Cert.KernelIdeal.Gen Cert.Attn

variable (m : (ℓ : Loc nD τ sig) → Buf (Elt Ideal) ℓ) (c : Dev nD)

/-- The queries at launch. -/
abbrev Q : FVec Ideal S2x2048x2048 .bf16 := m ((c.tc : Thread nD τ).loc main_arg0)
/-- The keys at launch. -/
abbrev K : FVec Ideal S2x2304x2048 .bf16 := m ((c.tc : Thread nD τ).loc main_arg1)
/-- The values at launch. -/
abbrev W : FVec Ideal S2x2304x1024 .bf16 := m ((c.tc : Thread nD τ).loc main_arg2)
/-- The result's cotangent at launch. -/
abbrev G : FVec Ideal S2x2048x1024 .f32 := m ((c.tc : Thread nD τ).loc main_arg3)

/-- The saved result. -/
theorem V_main_v23 : V m c main_v23
    = outOf (W m c) (prob (expOff (scores (Q m c) (K m c)) (rowMax (scores (Q m c) (K m c))))) := by
  entry_read
  rfl

/-- The saved log-sum-exp. -/
theorem V_main_v43 : V m c main_v43
    = lseOf (rowMax0 (scores (Q m c) (K m c)))
        (rowSum (expOff (scores (Q m c) (K m c)) (rowMax0 (scores (Q m c) (K m c))))) := by
  entry_read
  rfl

end Cert.KernelIdeal.Entry

end
-- ==== Proof.Ref.lean ====
/- The reference's three results at an index: sums of the scores' cotangents and of the weights. -/
module

public import proofs.«01_k».proof.Proof.Gen.ReferenceIdeal.Run
public import proofs.«01_k».proof.Proof.Spec

@[expose] public section

set_option maxRecDepth 16384

noncomputable section

namespace Cert.Attn

open Idealize.ShloMosaic Idealize.ShloMosaic.TcCoe Idealize.SL.Sem Cert.ReferenceIdeal Cert.ReferenceIdeal.Gen

/-- The cotangent, head by head. -/
def cotHeads (g : FVec Ideal S2x2048x1024 .f32) : FVec Ideal S2x8x128x2048 .f32 :=
  transpose S2x8x128x2048 [0, 2, 3, 1] (shapeCast _ g shapeCasts_S2x2048x1024_S2x2048x8x128) transposes_S2x2048x8x128_S2x8x128x2048_0_2_3_1

theorem cotHeads_at (g : FVec Ideal S2x2048x1024 .f32) (b : Fin 2) (h : Fin 8) (d : Fin 128) (i : Fin 2048) :
    cotHeads g (ix4 b h d i) = gAt g b h i d := by
  pointwise [cotHeads]

/-- The weights' cotangent. -/
def dProb (v : FVec Ideal S2x2304x1024 .bf16) (g : FVec Ideal S2x2048x1024 .f32) : FVec Ideal S2x8x2048x2304 .f32 :=
  Host.dotGeneral dot_S2x8x128x2048_S2x2304x8x128_S2x8x2048x2304_2_3_3_1_01_02 none (cotHeads g)
    (shapeCast _ (extf .f32 v bitsLt_bf16_f32) shapeCasts_S2x2304x1024_S2x2304x8x128)

theorem dProb_at (v : FVec Ideal S2x2304x1024 .bf16) (g : FVec Ideal S2x2048x1024 .f32)
    (b : Fin 2) (h : Fin 8) (i : Fin 2048) (j : Fin 2304) :
    dProb v g (ix4 b h i j) = ∑ d, gAt g b h i d * vAt v b h j d := by
  pointwise [dProb, cotHeads]

/-- The row sum that the quotient's derivative takes off. -/
def corr (dp e : FVec Ideal S2x8x2048x2304 .f32) (l : FVec Ideal S2x8x2048 .f32) : FVec Ideal S2x8x2048 .f32 :=
  Host.reduceAdd (mulf (mulf dp
      (broadcastInDim S2x8x2048x2304 ![0, 1, 2, 3] bcast_S2x8x2048x1_S2x8x2048x2304_0_1_2_3
        (Host.divf (broadcastInDim S2x8x2048x1 ![] bcast_S_S2x8x2048x1 (constant S_ .f32 0x3F800000#32))
          (mulf (broadcastInDim S2x8x2048x1 ![0, 1, 2] bcast_S2x8x2048_S2x8x2048x1_0_1_2 l)
            (broadcastInDim S2x8x2048x1 ![0, 1, 2] bcast_S2x8x2048_S2x8x2048x1_0_1_2 l))))) e)
    (constant S_ .f32 0x00000000#32) reducesTo_S2x8x2048x2304_S2x8x2048_d3 h_S_

theorem corr_at (dp e : FVec Ideal S2x8x2048x2304 .f32) (l : FVec Ideal S2x8x2048 .f32)
    (b : Fin 2) (h : Fin 8) (i : Fin 2048) :
    corr dp e l (ix3 b h i)
      = ∑ j, dp (ix4 b h i j) * Ideal.div 1 (l (ix3 b h i) * l (ix3 b h i)) * e (ix4 b h i j) := by
  pointwise [corr]

/-- The scores' cotangent. -/
def dScoreOf (dp e : FVec Ideal S2x8x2048x2304 .f32) (l : FVec Ideal S2x8x2048 .f32) : FVec Ideal S2x8x2048x2304 .f32 :=
  mulf (mulf (addf (Host.divf dp (spread l))
      (broadcastInDim S2x8x2048x2304 ![0, 1, 2] bcast_S2x8x2048_S2x8x2048x2304_0_1_2
        (Host.reduceAdd (Host.negf (shapeCast _ (corr dp e l) shapeCasts_S2x8x2048_S2x8x2048x1))
          (constant S_ .f32 0x00000000#32) reducesTo_S2x8x2048x1_S2x8x2048_d3 h_S_))) e)
    (broadcastInDim S2x8x2048x2304 ![] bcast_S_S2x8x2048x2304 (Host.log (constant S_ .f32 0x40000000#32)))

theorem dScoreOf_at (dp e : FVec Ideal S2x8x2048x2304 .f32) (l : FVec Ideal S2x8x2048 .f32)
    (b : Fin 2) (h : Fin 8) (i : Fin 2048) (j : Fin 2304) :
    dScoreOf dp e l (ix4 b h i j)
      = (Ideal.div (dp (ix4 b h i j)) (l (ix3 b h i)) + -(corr dp e l (ix3 b h i))) * e (ix4 b h i j)
        * ((Real.log 2 : ℝ) : EReal) := by
  rw [← log_two]
  pointwise [dScoreOf, spread]
  rw [Fin.sum_univ_one]

/-- The queries' gradient. -/
def dqOf (ds : FVec Ideal S2x8x2048x2304 .f32) (k : FVec Ideal S2x2304x2048 .bf16) : FVec Ideal S2x2048x2048 .f32 :=
  shapeCast _ (transpose S2x2048x8x256 [0, 2, 1, 3]
    (Host.dotGeneral dot_S2x8x2048x2304_S2x2304x8x256_S2x8x2048x256_3_1_2_3_01_02 none ds
      (shapeCast _ (extf .f32 k bitsLt_bf16_f32) shapeCasts_S2x2304x2048_S2x2304x8x256))
    transposes_S2x8x2048x256_S2x2048x8x256_0_2_1_3) shapeCasts_S2x2048x8x256_S2x2048x2048

theorem dqOf_at (ds : FVec Ideal S2x8x2048x2304 .f32) (k : FVec Ideal S2x2304x2048 .bf16)
    (b : Fin 2) (h : Fin 8) (i : Fin 2048) (d : Fin 256) :
    dqOf ds k (ix3 b i ⟨h * 256 + d, by omega⟩) = ∑ j, ds (ix4 b h i j) * kAt k b h j d := by
  have h1 : ((h : ℕ) * 256 + d) / 256 = h := by omega
  have h2 : ((h : ℕ) * 256 + d) % 256 = d := by omega
  pointwise [dqOf, h1, h2]

/-- The keys' gradient. -/
def dkOf (ds : FVec Ideal S2x8x2048x2304 .f32) (q : FVec Ideal S2x2048x2048 .bf16) : FVec Ideal S2x2304x2048 .f32 :=
  shapeCast _ (transpose S2x2304x8x256 [0, 2, 1, 3]
    (Host.dotGeneral dot_S2x8x2048x2304_S2x2048x8x256_S2x8x2304x256_2_1_3_3_01_02 none ds
      (shapeCast _ (extf .f32 q bitsLt_bf16_f32) shapeCasts_S2x2048x2048_S2x2048x8x256))
    transposes_S2x8x2304x256_S2x2304x8x256_0_2_1_3) shapeCasts_S2x2304x8x256_S2x2304x2048

theorem dkOf_at (ds : FVec Ideal S2x8x2048x2304 .f32) (q : FVec Ideal S2x2048x2048 .bf16)
    (b : Fin 2) (h : Fin 8) (j : Fin 2304) (d : Fin 256) :
    dkOf ds q (ix3 b j ⟨h * 256 + d, by omega⟩) = ∑ i, ds (ix4 b h i j) * qAt q b h i d := by
  have h1 : ((h : ℕ) * 256 + d) / 256 = h := by omega
  have h2 : ((h : ℕ) * 256 + d) % 256 = d := by omega
  pointwise [dkOf, h1, h2]

/-- The values' gradient. -/
def dvOf (g : FVec Ideal S2x2048x1024 .f32) (p : FVec Ideal S2x8x2048x2304 .f32) : FVec Ideal S2x2304x1024 .f32 :=
  shapeCast _ (transpose S2x2304x8x128 [0, 3, 1, 2]
    (Host.dotGeneral dot_S2x8x128x2048_S2x8x2048x2304_S2x8x128x2304_3_2_2_3_01_01 none (cotHeads g) p)
    transposes_S2x8x128x2304_S2x2304x8x128_0_3_1_2) shapeCasts_S2x2304x8x128_S2x2304x1024

theorem dvOf_at (g : FVec Ideal S2x2048x1024 .f32) (p : FVec Ideal S2x8x2048x2304 .f32)
    (b : Fin 2) (h : Fin 8) (j : Fin 2304) (d : Fin 128) :
    dvOf g p (ix3 b j ⟨h * 128 + d, by omega⟩) = ∑ i, gAt g b h i d * p (ix4 b h i j) := by
  have h1 : ((h : ℕ) * 128 + d) / 128 = h := by omega
  have h2 : ((h : ℕ) * 128 + d) % 128 = d := by omega
  pointwise [dvOf, cotHeads, h1, h2]

/-- The scores' cotangent, of finite arrays. -/
theorem dScore_coe {q : FVec Ideal S2x2048x2048 .bf16} {k : FVec Ideal S2x2304x2048 .bf16} {v : FVec Ideal S2x2304x1024 .bf16}
    {g : FVec Ideal S2x2048x1024 .f32} (hq : Finite q) (hk : Finite k) (hv : Finite v) (hg : Finite g)
    (b : Fin 2) (h : Fin 8) (i : Fin 2048) (j : Fin 2304) :
    dScoreOf (dProb v g) (expOff (scores q k) (rowMax0 (scores q k)))
      (rowSum (expOff (scores q k) (rowMax0 (scores q k)))) (ix4 b h i j) = (dScore q k v g b h i j : EReal) := by
  obtain ⟨μ, hμ⟩ := rowMax_coe b h i hq hk
  rw [dScoreOf_at, corr_at, rowSum_at]
  simp only [expOff_at, hμ]
  rw [dscore_host (by decide) (fun j => scores_coe b h i j hq hk)
    (fun j => (dProb_at v g b h i j).trans (gv_coe b h i j hg hv)), ← EReal.coe_mul]
  rfl

section Results

variable (m : (ℓ : Loc nD τ sig) → Buf (Elt Ideal) ℓ) (c : Dev nD)

/-- The queries at launch. -/
abbrev rQ : FVec Ideal S2x2048x2048 .bf16 := m ((c.tc : Thread nD τ).loc main_arg0)
/-- The keys at launch. -/
abbrev rK : FVec Ideal S2x2304x2048 .bf16 := m ((c.tc : Thread nD τ).loc main_arg1)
/-- The values at launch. -/
abbrev rW : FVec Ideal S2x2304x1024 .bf16 := m ((c.tc : Thread nD τ).loc main_arg2)
/-- The result's cotangent at launch. -/
abbrev rG : FVec Ideal S2x2048x1024 .f32 := m ((c.tc : Thread nD τ).loc main_arg3)

theorem res_dq : Value.res_out0 m c
    = dqOf (dScoreOf (dProb (rW m c) (rG m c)) (expOff (scores (rQ m c) (rK m c)) (rowMax (scores (rQ m c) (rK m c))))
        (rowSum (expOff (scores (rQ m c) (rK m c)) (rowMax (scores (rQ m c) (rK m c)))))) (rK m c) := rfl

theorem res_dk : Value.res_out1 m c
    = dkOf (dScoreOf (dProb (rW m c) (rG m c)) (expOff (scores (rQ m c) (rK m c)) (rowMax (scores (rQ m c) (rK m c))))
        (rowSum (expOff (scores (rQ m c) (rK m c)) (rowMax (scores (rQ m c) (rK m c)))))) (rQ m c) := rfl

end Results

end Cert.Attn

end
-- ==== Proof.Array.lean ====
/- What the three result arrays hold after the run: the products, block by block, over the arrays at launch. -/
module

public import proofs.«01_k».proof.Proof.Gen.KernelIdeal.Value
public import proofs.«01_k».proof.Proof.Block
public import proofs.«01_k».proof.Proof.Entry
public import proofs.«01_k».proof.Proof.Ref
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Array

open Idealize.ShloMosaic Idealize.ShloMosaic.TcCoe Idealize.SL.Sem Cert.KernelIdeal Cert.KernelIdeal.Gen
open Cert.KernelIdeal.Tile Cert.KernelIdeal.Block Cert.KernelIdeal.Entry Cert.Attn

/-! ## The three products at an index -/

theorem dq_at (D : FVec Ideal S2048x2304 .bf16) (X : FVec Ideal S1x2304x256 .bf16) (z : Fin 1) (i : Fin 2048) (d : Fin 256) :
    k0_pay593 (F := Ideal) D X (ix3 z i d) = ∑ j : Fin 2304, D (ix2 i j) * X (ix3 0 j d) := by
  pointwise [k0_pay593]

theorem dk_at (D : FVec Ideal S2048x2304 .bf16) (X : FVec Ideal S1x2048x256 .bf16) (z : Fin 1) (j : Fin 2304) (d : Fin 256) :
    k0_pay3 (F := Ideal) D X (ix3 z j d) = ∑ i : Fin 2048, D (ix2 i j) * X (ix3 0 i d) := by
  pointwise [k0_pay3, k0_pay1]

theorem dv_at (P : FVec Ideal S2048x2304 .bf16) (X : FVec Ideal S1x2048x128 .f32) (z : Fin 1) (j : Fin 2304) (d : Fin 128) :
    k0_pay4 (F := Ideal) P X (ix3 z j d) = ∑ i : Fin 2048, P (ix2 i j) * X (ix3 0 i d) := by
  pointwise [k0_pay4, k0_pay2]

/-! ## The blocks of a grid point -/

theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, 0, t.val % 8]
    ∧ win0_4.index t = ![t.val / 8, t.val % 8, 0, 0] ∧ win0_5.index t = ![t.val / 8, 0, t.val % 8]
    ∧ win0_6.index t = ![t.val / 8, 0, t.val % 8] ∧ win0_7.index t = ![t.val / 8, 0, t.val % 8]
    ∧ win0_8.index t = ![t.val / 8, 0, t.val % 8] ∧ t.val / 8 < 2 :=
  (by decide +kernel : ∀ t : Fin grid0.N, _)

/-- The batch element of a grid point. -/
def bOf (t : Fin cfg0.N) : Fin 2 := ⟨t.val / 8, (idx t).2.2.2.2.2.2.2.2.2⟩
/-- The head of a grid point. -/
def hOf (t : Fin cfg0.N) : Fin 8 := ⟨t.val % 8, by omega⟩

variable (m : (ℓ : Loc nD τ sig) → Buf (Elt Ideal) ℓ) (c : Dev nD) (t : Fin cfg0.N)

theorem blk_q (i : Fin 2048) (d : Fin 256) : iblk m c 0 t (ix3 0 i d) = qAt (Q m c) (bOf t) (hOf t) i d := by
  blk_ext [iblk, V, qAt, bOf, hOf, idx t]

theorem blk_k (j : Fin 2304) (d : Fin 256) : iblk m c 1 t (ix3 0 j d) = kAt (K m c) (bOf t) (hOf t) j d := by
  blk_ext [iblk, V, kAt, bOf, hOf, idx t]

theorem blk_v (j : Fin 2304) (d : Fin 128) : iblk m c 2 t (ix3 0 j d) = vAt (W m c) (bOf t) (hOf t) j d := by
  blk_ext [iblk, V, vAt, bOf, hOf, idx t]

theorem blk_g (i : Fin 2048) (d : Fin 128) : iblk m c 5 t (ix3 0 i d) = gAt (G m c) (bOf t) (hOf t) i d := by
  blk_ext [iblk, V, gAt, bOf, hOf, idx t]

theorem blk_o (i : Fin 2048) (d : Fin 128) : iblk m c 3 t (ix3 0 i d)
    = V m c main_v23 (ix3 (bOf t) i ⟨(hOf t : ℕ) * 128 + d, by omega⟩) := by
  blk_ext [iblk, bOf, hOf, idx t]

theorem blk_o' (i : Fin 2048) (d : Fin 128) : iblk m c 3 t (ix3 0 i d)
    = outOf (W m c) (prob (expOff (scores (Q m c) (K m c)) (rowMax0 (scores (Q m c) (K m c)))))
      (ix3 (bOf t) i ⟨(hOf t : ℕ) * 128 + d, by omega⟩) :=
  (blk_o m c t i d).trans (congrFun ((V_main_v23 m c).trans (by rw [rowMax_eq])) _)

theorem blk_l (i : Fin 2048) : iblk m c 4 t (ix4 0 0 i 0) = V m c main_v43 (ix4 (bOf t) (hOf t) i 0) := by
  blk_ext [iblk, bOf, hOf, idx t]

/-! ## The weights and the scores' cotangents of a grid point -/

variable {m c}

theorem pVal_eq (hq : Finite (Q m c)) (hk : Finite (K m c)) (i : Fin 2048) (j : Fin 2304) :
    pVal (iblk m c 0 t) (iblk m c 1 t) (iblk m c 4 t) i j = (weight (Q m c) (K m c) (bOf t) (hOf t) i j : EReal) := by
  unfold pVal
  rw [blk_l, V_main_v43]
  simp only [blk_q, blk_k]
  exact exp2_lse_coe (bOf t) (hOf t) i j hq hk 0

theorem dsVal_eq (hq : Finite (Q m c)) (hk : Finite (K m c)) (hv : Finite (W m c)) (hg : Finite (G m c))
    (i : Fin 2048) (j : Fin 2304) :
    dsVal (iblk m c 0 t) (iblk m c 1 t) (iblk m c 2 t) (iblk m c 3 t) (iblk m c 4 t) (iblk m c 5 t) i j
      = (dScore (Q m c) (K m c) (W m c) (G m c) (bOf t) (hOf t) i j : EReal) := by
  unfold dsVal
  rw [pVal_eq t hq hk]
  simp only [blk_g, blk_v, blk_o']
  rw [delta_coe (bOf t) (hOf t) i hq hk hv hg, gv_coe (bOf t) (hOf t) i j hg hv, dScore, EReal.coe_mul, EReal.coe_mul, EReal.coe_sub]

/-! ## The arrays after the run -/

theorem final_dv (hq : Finite (Q m c)) (hk : Finite (K m c)) : (dats m 0 c).arrAt 8 cfg0.N
    = dvOf (G m c) (prob (expOff (scores (Q m c) (K m c)) (rowMax0 (scores (Q m c) (K m c))))) := by
  refine (dats m 0 c).arrAt_eq_of_covers 8 _ (by decide +kernel) fun t hf y => ?_
  obtain ⟨P, hP, hP'⟩ := out_dv m c t
  blk_simp
  rw [after0_8, hP]
  idx_vars y
  have e : (win0_8.blk t).view.emb (ix3 y0 y1 y2) = ix3 (bOf t) y1 ⟨(hOf t : ℕ) * 128 + y2, by omega⟩ := by
    blk_ext [bOf, hOf, idx t]
  refine (dv_at P _ y0 y1 y2).trans (Eq.trans ?_ ((congrArg _ e).trans (dvOf_at _ _ _ _ _ _)).symm)
  refine Finset.sum_congr rfl fun i _ => ?_
  rw [hP', mul_comm, prob_coe (bOf t) (hOf t) i y1 hq hk]
  exact congrArg₂ (· * ·) (blk_g m c t i y2) (pVal_eq t hq hk i y1)

theorem final_dk (hq : Finite (Q m c)) (hk : Finite (K m c)) (hv : Finite (W m c)) (hg : Finite (G m c)) :
    (dats m 0 c).arrAt 7 cfg0.N
    = dkOf (dScoreOf (dProb (W m c) (G m c)) (expOff (scores (Q m c) (K m c)) (rowMax0 (scores (Q m c) (K m c))))
        (rowSum (expOff (scores (Q m c) (K m c)) (rowMax0 (scores (Q m c) (K m c)))))) (Q m c) := by
  refine (dats m 0 c).arrAt_eq_of_covers 7 _ (by decide +kernel) fun t hf y => ?_
  obtain ⟨D, hD, hD'⟩ := out_dk m c t
  blk_simp
  rw [after0_7, hD]
  idx_vars y
  have e : (win0_7.blk t).view.emb (ix3 y0 y1 y2) = ix3 (bOf t) y1 ⟨(hOf t : ℕ) * 256 + y2, by omega⟩ := by
    blk_ext [bOf, hOf, idx t]
  refine (dk_at D _ y0 y1 y2).trans (Eq.trans ?_ ((congrArg _ e).trans (dkOf_at _ _ _ _ _ _)).symm)
  refine Finset.sum_congr rfl fun i _ => ?_
  rw [hD', dScore_coe hq hk hv hg (bOf t) (hOf t) i y1]
  exact congrArg₂ (· * ·) (dsVal_eq t hq hk hv hg i y1) (blk_q m c t i y2)

theorem final_dq (hq : Finite (Q m c)) (hk : Finite (K m c)) (hv : Finite (W m c)) (hg : Finite (G m c)) :
    (dats m 0 c).arrAt 6 cfg0.N
    = dqOf (dScoreOf (dProb (W m c) (G m c)) (expOff (scores (Q m c) (K m c)) (rowMax0 (scores (Q m c) (K m c))))
        (rowSum (expOff (scores (Q m c) (K m c)) (rowMax0 (scores (Q m c) (K m c)))))) (K m c) := by
  refine (dats m 0 c).arrAt_eq_of_covers 6 _ (by decide +kernel) fun t hf y => ?_
  obtain ⟨D, hD, hD'⟩ := out_dq m c t
  blk_simp
  rw [after0_6, hD]
  idx_vars y
  have e : (win0_6.blk t).view.emb (ix3 y0 y1 y2) = ix3 (bOf t) y1 ⟨(hOf t : ℕ) * 256 + y2, by omega⟩ := by
    blk_ext [bOf, hOf, idx t]
  refine (dq_at D _ y0 y1 y2).trans (Eq.trans ?_ ((congrArg _ e).trans (dqOf_at _ _ _ _ _ _)).symm)
  refine Finset.sum_congr rfl fun j _ => ?_
  rw [hD', dScore_coe hq hk hv hg (bOf t) (hOf t) y1 j]
  exact congrArg₂ (· * ·) (dsVal_eq t hq hk hv hg y1 j) (blk_k m c t j y2)

end Cert.KernelIdeal.Array

end
-- ==== Proof.FwdRow.lean ====
/- One row of the attention's forward pass over the reals: powers of two off any real shift give the softmax' mean and
   the row's log-sum-exp. -/
module

public import proofs.«01_k».proof.Proof.Spec

@[expose] public section

set_option maxRecDepth 16384

noncomputable section

namespace Cert.Attn

open Idealize.ShloMosaic

variable {n : ℕ}

/-- A real factor, not negative, goes into a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A power of two off a real shift is an exponential of the scaled score. -/
theorem exp2_sub_coe {S : Fin n → EReal} {s : Fin n → ℝ} (hS : ∀ j, S j = (s j : EReal)) (μ : ℝ) (j : Fin n) :
    Ideal.exp2 (S j - (μ : EReal)) = (Real.exp (s j * Real.log 2 - μ * Real.log 2) : EReal) := by
  rw [hS, ← EReal.coe_sub, Ideal.exp2_coe, Real.rpow_eq_pow, Real.rpow_def_of_pos two_pos]
  congr 2
  ring

theorem sum_exp2_coe {S : Fin n → EReal} {s : Fin n → ℝ} (hS : ∀ j, S j = (s j : EReal)) (μ : ℝ) :
    ∑ j, Ideal.exp2 (S j - (μ : EReal)) = ((∑ j, Real.exp (s j * Real.log 2 - μ * Real.log 2) : ℝ) : EReal) := by
  rw [coe_sum]
  exact Finset.sum_congr rfl fun j _ => exp2_sub_coe hS μ j

/-- Powers of two against values, over the powers' sum, are the values' mean under the softmax: for any values. -/
theorem mean_exp2 (hn : 0 < n) {S : Fin n → EReal} {s : Fin n → ℝ} (hS : ∀ j, S j = (s j : EReal)) (μ : ℝ) (V : Fin n → EReal) :
    Ideal.div (∑ j, Ideal.exp2 (S j - (μ : EReal)) * V j) (∑ j, Ideal.exp2 (S j - (μ : EReal)))
      = ∑ j, V j * (sm (fun k => s k * Real.log 2) j : EReal) := by
  have hp := sum_exp_pos hn (fun k => s k * Real.log 2) (μ * Real.log 2)
  rw [sum_exp2_coe hS, Ideal.div_coe hp.ne', sum_mul_coe _ _ _ (one_div_pos.mpr hp).le]
  refine Finset.sum_congr rfl fun j _ => ?_
  rw [exp2_sub_coe hS, ← shift_div (fun k => s k * Real.log 2) (μ * Real.log 2), mul_comm _ (V j), mul_assoc, ← EReal.coe_mul,
    mul_one_div]

/-- A row's log-sum-exp in base 2. -/
def lse2 (s : Fin n → ℝ) : ℝ := Real.log (∑ k, Real.exp (s k * Real.log 2)) / Real.log 2

theorem log_shift (hn : 0 < n) (x : Fin n → ℝ) (μ : ℝ) :
    μ + Real.log (∑ k, Real.exp (x k - μ)) = Real.log (∑ k, Real.exp (x k)) := by
  have h0 := sum_exp_pos hn x 0
  simp only [sub_zero] at h0
  simp only [Real.exp_sub, ← Finset.sum_div]
  rw [Real.log_div h0.ne' (Real.exp_pos μ).ne', Real.log_exp]
  ring

/-- The kernel's spelling of the log-sum-exp, off a real shift. -/
theorem lse_exp2 (hn : 0 < n) {S : Fin n → EReal} {s : Fin n → ℝ} (hS : ∀ j, S j = (s j : EReal)) (μ : ℝ) :
    (μ : EReal) + Ideal.log (∑ j, Ideal.exp2 (S j - (μ : EReal))) * (((Real.log 2)⁻¹ : ℝ) : EReal) = (lse2 s : EReal) := by
  have hp := sum_exp_pos hn (fun k => s k * Real.log 2) (μ * Real.log 2)
  have hl : (0 : ℝ) < Real.log 2 := Real.log_pos one_lt_two
  rw [sum_exp2_coe hS, Ideal.log_coe, if_neg hp.not_ge, ← EReal.coe_mul, ← EReal.coe_add, lse2,
    ← log_shift hn (fun k => s k * Real.log 2) (μ * Real.log 2)]
  congr 1
  field_simp

/-- The host's spelling of the log-sum-exp, off a real shift. -/
theorem lse_exp (hn : 0 < n) {S : Fin n → EReal} {s : Fin n → ℝ} (hS : ∀ j, S j = ((s j * Real.log 2 : ℝ) : EReal)) (μ : ℝ) :
    Ideal.div ((μ : EReal) + Ideal.log (∑ j, Ideal.exp (S j - (μ : EReal)))) ((Real.log 2 : ℝ) : EReal) = (lse2 s : EReal) := by
  have hp := sum_exp_pos hn (fun k => s k * Real.log 2) μ
  have hl : (0 : ℝ) < Real.log 2 := Real.log_pos one_lt_two
  rw [sum_exp_coe hS, Ideal.log_coe, if_neg hp.not_ge, ← EReal.coe_add, Ideal.div_coe hl.ne', ← EReal.coe_mul, lse2,
    ← log_shift hn (fun k => s k * Real.log 2) μ, mul_one_div]

open Idealize.ShloMosaic.TcCoe Idealize.SL.Sem Cert.ReferenceIdeal Cert.ReferenceIdeal.Gen

variable {q : FVec Ideal S2x2048x2048 .bf16} {k : FVec Ideal S2x2304x2048 .bf16} (v : FVec Ideal S2x2304x1024 .bf16)
  (b : Fin 2) (h : Fin 8) (i : Fin 2048)

/-- The host's result is the values' mean under the weights. -/
theorem out_host (hq : Finite q) (hk : Finite k) (d : Fin 128) :
    outOf v (prob (expOff (scores q k) (rowMax0 (scores q k)))) (ix3 b i ⟨h * 128 + d, by omega⟩)
      = ∑ j, vAt v b h j d * (weight q k b h i j : EReal) := by
  rw [outOf_at]
  exact Finset.sum_congr rfl fun j _ => by rw [prob_coe b h i j hq hk]

/-- The host's log-sum-exp. -/
theorem lse_host (hq : Finite q) (hk : Finite k) (z : Fin 1) :
    lseOf (rowMax0 (scores q k)) (rowSum (expOff (scores q k) (rowMax0 (scores q k)))) (ix4 b h i z)
      = (lse2 (fun j => dotQK q k b h i j) : EReal) := by
  obtain ⟨μ, hμ⟩ := rowMax_coe b h i hq hk
  rw [lseOf_at, rowSum_at, hμ]
  simp only [expOff_at, hμ]
  exact lse_exp (by decide) (fun j => scores_coe b h i j hq hk) μ

end Cert.Attn

end
-- ==== Proof.FwdBlock.lean ====
/- What one block's body of the forward call leaves in its two outputs. -/
module

public import proofs.«01_k».proof.Proof.Gen.Kernel2Ideal.Frame
public import proofs.«01_k».proof.Proof.FwdRow
public import Idealize.ShloMosaic.Lib.Claim
public import Idealize.ShloMosaic.Lib.Pointwise
public import Idealize.ShloMosaic.Lib.Pipeline.ValueKit

@[expose] public section

set_option maxRecDepth 16384

noncomputable section

namespace Cert.Kernel2Ideal.Block

open Idealize.ShloMosaic Idealize.ShloMosaic.TcCoe Idealize.SL.Sem Cert.Kernel2Ideal Cert.Kernel2Ideal.Gen Cert.Attn

variable (X0 : FVec Ideal S1x1024x256 .bf16) (X1 : FVec Ideal S1x2304x256 .bf16) (X2 : FVec Ideal S1x2304x128 .bf16)

/-- The kernel's named constant. -/
theorem log2e_eq : (Named.named κ "log2e" 0x3FB8AA3B#32 : Ideal .f32) = (((Real.log 2)⁻¹ : ℝ) : EReal) := rfl

/-- A score of the block. -/
abbrev sAt (i : Fin 1024) (j : Fin 2304) : EReal := ∑ d : Fin 256, X0 (ix3 0 i d) * X1 (ix3 0 j d)

theorem s_at (i : Fin 1024) (j : Fin 2304) : k0_pay1 (F := Ideal) X0 X1 (ix2 i j) = sAt X0 X1 i j := by
  pointwise [k0_pay1]

/-- A row's maximum is real where its scores are. -/
theorem max_real (i : Fin 1024) {s : Fin 2304 → ℝ} (hs : ∀ j, sAt X0 X1 i j = (s j : EReal)) :
    ∃ μ : ℝ, k0_pay2 (F := Ideal) X0 X1 (ix2 i 0) = (μ : EReal) := by
  have e : k0_pay2 (F := Ideal) X0 X1 (ix2 i 0)
      = Finset.univ.fold max (Ideal.ofBits .f32 0xFF800000#32) (fun j : Fin 2304 => k0_pay1 (F := Ideal) X0 X1 (ix2 i j)) := by
    generalize hS : k0_pay1 (F := Ideal) X0 X1 = S
    unfold k0_pay2
    rw [hS]
    pointwise []
  rw [e, ofBits_neg_inf_f32]
  exact fold_max_real _ _ (fun j => ⟨s j, (s_at X0 X1 i j).trans (hs j)⟩) ⟨⟨0, by decide⟩, Finset.mem_univ _⟩

theorem e_at (i : Fin 1024) (j : Fin 2304) : k0_pay3 (F := Ideal) X0 X1 (ix2 i j)
    = Ideal.exp2 (k0_pay1 (F := Ideal) X0 X1 (ix2 i j) - k0_pay2 (F := Ideal) X0 X1 (ix2 i 0)) := by
  pointwise [k0_pay3]
  rfl

theorem l_at (i : Fin 1024) : k0_pay4 (F := Ideal) X0 X1 (ix2 i 0) = ∑ j : Fin 2304, k0_pay3 (F := Ideal) X0 X1 (ix2 i j) := by
  pointwise [k0_pay4]

theorem o_at (z : Fin 1) (i : Fin 1024) (d : Fin 128) : k0_pay5 (F := Ideal) X0 X1 X2 (ix3 z i d)
    = Ideal.div (∑ j : Fin 2304, k0_pay3 (F := Ideal) X0 X1 (ix2 i j) * X2 (ix3 0 j d)) (k0_pay4 (F := Ideal) X0 X1 (ix2 i 0)) := by
  pointwise [k0_pay5]

theorem lse_at (z w u : Fin 1) (i : Fin 1024) : k0_pay6 (F := Ideal) X0 X1 (ix4 z w i u)
    = k0_pay2 (F := Ideal) X0 X1 (ix2 i 0) + Ideal.log (k0_pay4 (F := Ideal) X0 X1 (ix2 i 0)) * (((Real.log 2)⁻¹ : ℝ) : EReal) := by
  rw [← log2e_eq]
  pointwise [k0_pay6]

/-- The result's block: the values' mean under the softmax of the row's scores. -/
theorem o_block (z : Fin 1) (i : Fin 1024) (d : Fin 128) {s : Fin 2304 → ℝ} (hs : ∀ j, sAt X0 X1 i j = (s j : EReal)) :
    k0_pay5 (F := Ideal) X0 X1 X2 (ix3 z i d) = ∑ j, X2 (ix3 0 j d) * (sm (fun k => s k * Real.log 2) j : EReal) := by
  obtain ⟨μ, hμ⟩ := max_real X0 X1 i hs
  rw [o_at, l_at]
  simp only [e_at, s_at, hμ]
  exact mean_exp2 (by decide) hs μ _

/-- The log-sum-exp's block. -/
theorem lse_block (z w u : Fin 1) (i : Fin 1024) {s : Fin 2304 → ℝ} (hs : ∀ j, sAt X0 X1 i j = (s j : EReal)) :
    k0_pay6 (F := Ideal) X0 X1 (ix4 z w i u) = (lse2 s : EReal) := by
  obtain ⟨μ, hμ⟩ := max_real X0 X1 i hs
  rw [lse_at, l_at]
  simp only [e_at, s_at, hμ]
  exact lse_exp2 (by decide) hs μ

end Cert.Kernel2Ideal.Block

end
-- ==== Proof.FwdArray.lean ====
/- What the forward call's two result arrays hold after the run. -/
module

public import proofs.«01_k».proof.Proof.Gen.Kernel2Ideal.Value
public import proofs.«01_k».proof.Proof.FwdBlock

@[expose] public section

set_option maxRecDepth 16384

noncomputable section

namespace Cert.Kernel2Ideal.Array

open Idealize.ShloMosaic Idealize.ShloMosaic.TcCoe Idealize.SL.Sem Cert.Kernel2Ideal Cert.Kernel2Ideal.Gen
open Cert.Kernel2Ideal.Block Cert.Attn

variable (m : (ℓ : Loc nD τ sig) → Buf (Elt Ideal) ℓ) (c : Dev nD) (t : Fin cfg0.N)

/-- The queries at launch. -/
abbrev Q : FVec Ideal S2x2048x2048 .bf16 := m ((c.tc : Thread nD τ).loc main_arg0)
/-- The keys at launch. -/
abbrev K : FVec Ideal S2x2304x2048 .bf16 := m ((c.tc : Thread nD τ).loc main_arg1)
/-- The values at launch. -/
abbrev W : FVec Ideal S2x2304x1024 .bf16 := m ((c.tc : Thread nD τ).loc main_arg2)

theorem idx : ∀ t : Fin cfg0.N, win0_0.index t = ![t.val / 16, t.val % 2, t.val / 2 % 8]
    ∧ win0_1.index t = ![t.val / 16, 0, t.val / 2 % 8] ∧ win0_2.index t = ![t.val / 16, 0, t.val / 2 % 8]
    ∧ win0_3.index t = ![t.val / 16, t.val % 2, t.val / 2 % 8] ∧ win0_4.index t = ![t.val / 16, t.val / 2 % 8, t.val % 2, 0]
    ∧ t.val / 16 < 2 :=
  (by decide +kernel : ∀ t : Fin grid0.N, _)

/-- The batch element of a grid point. -/
def bOf (t : Fin cfg0.N) : Fin 2 := ⟨t.val / 16, (idx t).2.2.2.2.2⟩
/-- The head of a grid point. -/
def hOf (t : Fin cfg0.N) : Fin 8 := ⟨t.val / 2 % 8, by omega⟩
/-- The query of a block's row. -/
def rOf (t : Fin cfg0.N) (i : Fin 1024) : Fin 2048 := ⟨t.val % 2 * 1024 + i, by omega⟩

theorem blk_q (i : Fin 1024) (d : Fin 256) : iblk m c 0 t (ix3 0 i d) = qAt (Q m c) (bOf t) (hOf t) (rOf t i) d := by
  blk_ext [iblk, V, qAt, bOf, hOf, rOf, idx t]

theorem blk_k (j : Fin 2304) (d : Fin 256) : iblk m c 1 t (ix3 0 j d) = kAt (K m c) (bOf t) (hOf t) j d := by
  blk_ext [iblk, V, kAt, bOf, hOf, idx t]

theorem blk_v (j : Fin 2304) (d : Fin 128) : iblk m c 2 t (ix3 0 j d) = vAt (W m c) (bOf t) (hOf t) j d := by
  blk_ext [iblk, V, vAt, bOf, hOf, idx t]

theorem out_o : out0_3 (iblk m c 0 t) (iblk m c 1 t) (iblk m c 2 t) = k0_pay5 (iblk m c 0 t) (iblk m c 1 t) (iblk m c 2 t) := by
  unfold out0_3
  frame_out

theorem out_l : out0_4 (iblk m c 0 t) (iblk m c 1 t) (iblk m c 2 t) = k0_pay6 (iblk m c 0 t) (iblk m c 1 t) := by
  unfold out0_4
  frame_out

variable {m c}

theorem s_coe (hq : Finite (Q m c)) (hk : Finite (K m c)) (i : Fin 1024) (j : Fin 2304) :
    sAt (iblk m c 0 t) (iblk m c 1 t) i j = (dotQK (Q m c) (K m c) (bOf t) (hOf t) (rOf t i) j : EReal) := by
  unfold sAt
  simp only [blk_q, blk_k]
  exact qk_coe _ _ _ _ hq hk

theorem final_o (hq : Finite (Q m c)) (hk : Finite (K m c)) : (dats m 0 c).arrAt 3 cfg0.N
    = outOf (W m c) (prob (expOff (scores (Q m c) (K m c)) (rowMax0 (scores (Q m c) (K m c))))) := by
  refine (dats m 0 c).arrAt_eq_of_covers 3 _ (by decide +kernel) fun t hf y => ?_
  blk_simp
  rw [after0_3, out_o]
  idx_vars y
  have e : (win0_3.blk t).view.emb (ix3 y0 y1 y2) = ix3 (bOf t) (rOf t y1) ⟨(hOf t : ℕ) * 128 + y2, by omega⟩ := by
    blk_ext [bOf, hOf, rOf, idx t]
  refine (o_block _ _ _ y0 y1 y2 (fun j => s_coe t hq hk y1 j)).trans
    (Eq.trans ?_ ((congrArg _ e).trans (out_host _ _ _ _ hq hk _)).symm)
  exact Finset.sum_congr rfl fun j _ => congrArg₂ (· * ·) (blk_v m c t j y2) rfl

theorem final_l (hq : Finite (Q m c)) (hk : Finite (K m c)) : (dats m 0 c).arrAt 4 cfg0.N
    = lseOf (rowMax0 (scores (Q m c) (K m c)))
        (rowSum (expOff (scores (Q m c) (K m c)) (rowMax0 (scores (Q m c) (K m c))))) := by
  refine (dats m 0 c).arrAt_eq_of_covers 4 _ (by decide +kernel) fun t hf y => ?_
  blk_simp
  rw [after0_4, out_l]
  idx_vars y
  have e : (win0_4.blk t).view.emb (ix4 y0 y1 y2 y3) = ix4 (bOf t) (hOf t) (rOf t y2) 0 := by
    blk_ext [bOf, hOf, rOf, idx t]
  exact (lse_block _ _ y0 y1 y3 y2 (fun j => s_coe t hq hk y2 j)).trans
    ((congrArg _ e).trans (lse_host _ _ _ hq hk _)).symm

end Cert.Kernel2Ideal.Array

end
-- ==== Proof.ProjHost.lean ====
/- The gradient of a modulated root-mean-square norm and projection: a row's arithmetic, and the host's lines of it read at an
   index. -/
module

public import proofs.«01_k».proof.Proof.Gen.Reference3Ideal
public import Idealize.ShloMosaic.Lib.Pointwise

@[expose] public section

set_option maxRecDepth 16384

noncomputable section

namespace Cert.Proj

open Idealize.ShloMosaic Idealize.ShloMosaic.TcCoe Idealize.SL.Sem Cert.Reference3Ideal Cert.Reference3Ideal.Gen

/-! ## A row's arithmetic -/

/-- A row of lanes. -/
abbrev Row := Fin 1024 → EReal

/-- A row's mean square plus the norm's epsilon. -/
def msq (x : Row) : EReal := (∑ k, x k * x k) * Ideal.ofBits .f32 0x3A800000#32 + Ideal.ofBits .f32 0x358637BD#32
/-- A row's inverse root mean square. -/
def inv (x : Row) : EReal := Ideal.rsqrt (msq x)
/-- The inverse root's derivative at the mean square. -/
def slope (x : Row) : EReal := Ideal.ofBits .f32 0xBF000000#32 * Ideal.div (inv x) (msq x)
/-- The modulation's factor. -/
def gain (sc : Row) : Row := fun k => Ideal.ofBits .f32 0x3F800000#32 + sc k
/-- The modulated norm of a row. -/
def act (x sh sc g : Row) : Row := fun k => x k * inv x * g k * gain sc k + sh k
/-- The norm's cotangent off the modulated norm's. -/
def dNorm (dh sc : Row) : Row := fun k => dh k * gain sc k
/-- What a row adds to the gain's gradient. -/
def dGain (x dh sc : Row) : Row := fun k => x k * inv x * dNorm dh sc k
/-- The cotangent of the scaled row. -/
def dHat (dh sc g : Row) : Row := fun k => dNorm dh sc k * g k
/-- The cotangent through the mean square, per lane. -/
def dMean (x y : Row) : EReal := (∑ k, x k * y k) * slope x * Ideal.ofBits .f32 0x3A800000#32
/-- The row's gradient, the residual's cotangent added. -/
def dRow (x y ad : Row) : Row := fun k => y k * inv x + x k * dMean x y + dMean x y * x k + ad k

/-- The f32 word of 1024. -/
theorem ofBits_1024 : Ideal.ofBits .f32 0x44800000#32 = ((1024 : ℝ) : EReal) := by
  simp [Ideal.ofBits, Ideal.ieee, -EReal.coe_mul]; norm_num

/-- The f32 word of a 1024th. -/
theorem ofBits_inv_1024 : Ideal.ofBits .f32 0x3A800000#32 = ((1024⁻¹ : ℝ) : EReal) := by
  simp [Ideal.ofBits, Ideal.ieee, -EReal.coe_mul]; norm_num

/-- Over 1024 is times a 1024th. -/
theorem div_1024 (a : EReal) : Ideal.div a (Ideal.ofBits .f32 0x44800000#32) = a * Ideal.ofBits .f32 0x3A800000#32 := by
  rw [ofBits_1024, ofBits_inv_1024]
  unfold Ideal.div
  rw [if_neg (by norm_num), ← EReal.coe_inv]

/-! ## The host's lines -/

variable (X : FVec Ideal S2x2048x1024 .f32) (SH SC : FVec Ideal S2x2x1x1024 .f32) (G : FVec Ideal S1x1024 .f32)
  (W : FVec Ideal S1024x3072 .bf16) (DU DV DG AD : FVec Ideal S2x2048x1024 .f32)
  (b : Fin 2) (l : Fin 2048) (k : Fin 1024)

/-- A row of an array of rows. -/
abbrev rowOf (X : FVec Ideal S2x2048x1024 .f32) (b : Fin 2) (l : Fin 2048) : Row := fun k => X (ix3 b l k)
/-- A modulation's latent row. -/
abbrev modOf (M : FVec Ideal S2x2x1x1024 .f32) (b : Fin 2) : Row := fun k => M (ix4 b 0 0 k)
/-- The gain's row. -/
abbrev gOf (G : FVec Ideal S1x1024 .f32) : Row := fun k => G (ix2 0 k)

/-- Mean squares of the rows. -/
def hMsq : FVec Ideal S2x2048x1 .f32 :=
  addf (Host.divf (broadcastInDim S2x2048x1 ![0, 1] bcast_S2x2048_S2x2048x1_0_1
      (Host.reduceAdd (mulf X X) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

theorem hMsq_at (z : Fin 1) : hMsq X (ix3 b l z) = msq (rowOf X b l) := by
  unfold msq
  rw [← div_1024]
  pointwise [hMsq]

/-- Inverse roots of the mean squares. -/
def hInv : FVec Ideal S2x2048x1 .f32 := Host.rsqrt (hMsq X)

theorem hInv_at (z : Fin 1) : hInv X (ix3 b l z) = inv (rowOf X b l) := by
  unfold inv
  rw [← hMsq_at X b l z]
  pointwise [hInv]

/-- Their derivatives. -/
def hSlope : FVec Ideal S2x2048x1 .f32 :=
  mulf (broadcastInDim S2x2048x1 ![] bcast_S_S2x2048x1 (constant S_ .f32 0xBF000000#32)) (Host.divf (hInv X) (hMsq X))

theorem hSlope_at (z : Fin 1) : hSlope X (ix3 b l z) = slope (rowOf X b l) := by
  unfold slope
  rw [← hInv_at X b l z, ← hMsq_at X b l z]
  pointwise [hSlope]

/-- The latent rows' modulation. -/
def hMod (M : FVec Ideal S2x2x1x1024 .f32) : FVec Ideal S2x1x1024 .f32 :=
  shapeCast _ (extractStridedSlice S2x1x1x1024 ![0, 0, 0, 0] M slices_S2x2x1x1024_S2x1x1x1024_0_0_0_0) shapeCasts_S2x1x1x1024_S2x1x1024

theorem hMod_at (M : FVec Ideal S2x2x1x1024 .f32) (z : Fin 1) : hMod M (ix3 b z k) = modOf M b k := by
  pointwise [hMod]

/-- The modulation's factor. -/
def hGain : FVec Ideal S2x1x1024 .f32 :=
  addf (broadcastInDim S2x1x1024 ![] bcast_S_S2x1x1024 (constant S_ .f32 0x3F800000#32)) (hMod SC)

theorem hGain_at (z : Fin 1) : hGain SC (ix3 b z k) = gain (modOf SC b) k := by
  unfold gain
  rw [← hMod_at b k SC z]
  pointwise [hGain]

/-- The scaled rows. -/
def hHat : FVec Ideal S2x2048x1024 .f32 :=
  mulf X (broadcastInDim S2x2048x1024 ![0, 1, 2] bcast_S2x2048x1_S2x2048x1024_0_1_2 (hInv X))

theorem hHat_at : hHat X (ix3 b l k) = rowOf X b l k * inv (rowOf X b l) := by
  rw [← hInv_at X b l 0]
  pointwise [hHat]

/-- The gain spread over the rows. -/
def hG : FVec Ideal S2x2048x1024 .f32 :=
  broadcastInDim S2x2048x1024 ![0, 1, 2] bcast_S1x1x1024_S2x2048x1024_0_1_2
    (broadcastInDim S1x1x1024 ![1, 2] bcast_S1x1024_S1x1x1024_1_2 G)

theorem hG_at : hG G (ix3 b l k) = gOf G k := by
  pointwise [hG]

/-- The modulated norm. -/
def hAct : FVec Ideal S2x2048x1024 .f32 :=
  addf (mulf (mulf (hHat X) (hG G)) (broadcastInDim S2x2048x1024 ![0, 1, 2] bcast_S2x1x1024_S2x2048x1024_0_1_2 (hGain SC)))
    (broadcastInDim S2x2048x1024 ![0, 1, 2] bcast_S2x1x1024_S2x2048x1024_0_1_2 (hMod SH))

theorem hAct_at : hAct X SH SC G (ix3 b l k) = act (rowOf X b l) (modOf SH b) (modOf SC b) (gOf G) k := by
  unfold act
  rw [← hHat_at X b l k, ← hG_at G b l k, ← hGain_at SC b k 0, ← hMod_at b k SH 0]
  pointwise [hAct]

/-- The three cotangents side by side. -/
def hCot : FVec Ideal S2x2048x3072 .f32 :=
  concatenate S2x2048x3072 2 [⟨S2x2048x1024, DU⟩, ⟨S2x2048x1024, DV⟩, ⟨S2x2048x1024, DG⟩]
    concatenates_S2x2048x1024_S2x2048x1024_S2x2048x1024_S2x2048x3072_d2

theorem hCot_0 (j : Fin 3072) (k : Fin 1024) (h : (j : ℕ) = k) : hCot DU DV DG (ix3 b l j) = DU (ix3 b l k) := by
  have h1 : (j : ℕ) < 1024 := by omega
  obtain rfl : k = ⟨j, h1⟩ := Fin.ext h.symm
  pointwise [hCot, h1]

theorem hCot_1 (j : Fin 3072) (k : Fin 1024) (h : (j : ℕ) = 1024 + k) : hCot DU DV DG (ix3 b l j) = DV (ix3 b l k) := by
  have h1 : ¬(j : ℕ) < 1024 := by omega
  have h2 : (j : ℕ) - 1024 < 1024 := by omega
  obtain rfl : k = ⟨(j : ℕ) - 1024, h2⟩ := Fin.ext (by show (k : ℕ) = (j : ℕ) - 1024; omega)
  pointwise [hCot, h1, h2]

theorem hCot_2 (j : Fin 3072) (k : Fin 1024) (h : (j : ℕ) = 2048 + k) : hCot DU DV DG (ix3 b l j) = DG (ix3 b l k) := by
  have h1 : ¬(j : ℕ) < 1024 := by omega
  have h2 : ¬(j : ℕ) - 1024 < 1024 := by omega
  have h3 : (j : ℕ) - 1024 - 1024 < 1024 := by omega
  obtain rfl : k = ⟨(j : ℕ) - 1024 - 1024, h3⟩ := Fin.ext (by show (k : ℕ) = (j : ℕ) - 1024 - 1024; omega)
  pointwise [hCot, h1, h2, h3]

/-- The modulated norm's cotangent, from a row's three cotangents. -/
def dAct (W : FVec Ideal S1024x3072 .bf16) (u v g : Row) : Row := fun k =>
  (∑ j : Fin 1024, u j * W (ix2 k ⟨j, by omega⟩)) + (∑ j : Fin 1024, v j * W (ix2 k ⟨1024 + j, by omega⟩))
    + ∑ j : Fin 1024, g j * W (ix2 k ⟨2048 + j, by omega⟩)

/-- The host's. -/
def hDact : FVec Ideal S2x2048x1024 .f32 :=
  Host.dotGeneral dot_S2x2048x3072_S1024x3072_S2x2048x1024_2_1_01_0_n_n none (hCot DU DV DG) (extf .f32 W bitsLt_bf16_f32)

theorem hDact_at : hDact W DU DV DG (ix3 b l k) = dAct W (rowOf DU b l) (rowOf DV b l) (rowOf DG b l) k := by
  have e : hDact W DU DV DG (ix3 b l k) = ∑ j : Fin 3072, hCot DU DV DG (ix3 b l j) * W (ix2 k j) := by
    unfold hDact
    generalize hCot DU DV DG = C
    pointwise []
  rw [e, Fin.sum_univ_two_halves 2048 1024 rfl, Fin.sum_univ_two_halves 1024 1024 rfl]
  unfold dAct
  refine congrArg₂ (· + ·) (congrArg₂ (· + ·) ?_ ?_) ?_ <;> refine Finset.sum_congr rfl fun j _ => congrArg (· * _) ?_
  · exact hCot_0 _ _ _ _ _ _ _ rfl
  · exact hCot_1 _ _ _ _ _ _ _ rfl
  · exact hCot_2 _ _ _ _ _ _ _ rfl

/-- The norm's cotangent. -/
def hDnorm : FVec Ideal S2x2048x1024 .f32 :=
  mulf (hDact W DU DV DG) (broadcastInDim S2x2048x1024 ![0, 1, 2] bcast_S2x1x1024_S2x2048x1024_0_1_2 (hGain SC))

/-- A row's cotangent of the modulated norm. -/
abbrev cotRow (b : Fin 2) (l : Fin 2048) : Row := dAct W (rowOf DU b l) (rowOf DV b l) (rowOf DG b l)

theorem hDnorm_at : hDnorm SC W DU DV DG (ix3 b l k) = dNorm (cotRow W DU DV DG b l) (modOf SC b) k := by
  show _ = dAct W (rowOf DU b l) (rowOf DV b l) (rowOf DG b l) k * _
  rw [← hDact_at W DU DV DG b l k, ← hGain_at SC b k 0]
  pointwise [hDnorm]

/-- The host's sum over the two leading axes of three, at an index. -/
theorem sum_leading {p q r : ℕ} (h : (⟨3, ![p, q, r]⟩ : Shape).ReducesTo [0, 1] ⟨1, ![r]⟩) (v : (⟨3, ![p, q, r]⟩ : Shape).Idx → EReal)
    (z : EReal) (k : Fin r) : Ideal.hostReduceAdd h v z (ix1 k) = z + ∑ i : Fin p, ∑ j : Fin q, v (ix3 i j k) := by
  have hf (i : (⟨3, ![p, q, r]⟩ : Shape).Idx) : h.drop i = ix1 k ↔ ∃ u : Fin p × Fin q, ix3 u.1 u.2 k = i := by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨u, rfl⟩
      funext a
      obtain rfl : a = 0 := Subsingleton.elim _ _
      exact Fin.ext rfl
  unfold Ideal.hostReduceAdd
  rw [Finset.sum_filter_eq_sum_of_fiber _ (fun u : Fin p × Fin q => ix3 u.1 u.2 k)
    (fun _ _ e => Prod.ext (congrFun e 0) (congrFun e 1)) hf v]
  simp only [Fintype.sum_prod_type]

/-- A sum over no more than one row is the row. -/
theorem sum_one_at (Y : FVec Ideal S1x1x1024 .f32) : Host.reduceAdd Y (constant S_ .f32 0x00000000#32)
    reducesTo_S1x1x1024_S1024_d0_1 h_S_ (ix1 k) = Y (ix3 0 0 k) := by
  refine (sum_leading _ _ _ k).trans ?_
  rw [Fin.sum_univ_one, Fin.sum_univ_one]
  pointwise []

/-- The gain's gradient. -/
def hDg : FVec Ideal S1x1024 .f32 :=
  broadcastInDim S1x1024 ![1] bcast_S1024_S1x1024_1 (Host.reduceAdd (shapeCast _ (Host.reduceAdd (mulf (hHat X) (hDnorm SC W DU DV DG))
    (constant S_ .f32 0x00000000#32) reducesTo_S2x2048x1024_S1024_d0_1 h_S_) shapeCasts_S1024_S1x1x1024)
    (constant S_ .f32 0x00000000#32) reducesTo_S1x1x1024_S1024_d0_1 h_S_)

theorem hDg_at (z : Fin 1) : hDg X SC W DU DV DG (ix2 z k)
    = ∑ b : Fin 2, ∑ l : Fin 2048, dGain (rowOf X b l) (cotRow W DU DV DG b l) (modOf SC b) k := by
  unfold dGain
  simp only [← hDnorm_at, ← hHat_at]
  generalize hD : hDnorm SC W DU DV DG = D
  generalize hH : hHat X = H
  unfold hDg
  rw [hD, hH]
  have e (T : FVec Ideal S1024 .f32) : broadcastInDim S1x1024 ![1] bcast_S1024_S1x1024_1 T (ix2 z k) = T (ix1 k) := by
    pointwise []
  have e' (T : FVec Ideal S1024 .f32) : shapeCast S1x1x1024 T shapeCasts_S1024_S1x1x1024 (ix3 0 0 k) = T (ix1 k) := by
    pointwise []
  rw [e, sum_one_at, e']
  refine (sum_leading _ _ _ k).trans ?_
  pointwise []

/-- The weights' gradient, its columns as the devices hold them. -/
def hDw : FVec Ideal S4x1024x768 .f32 :=
  transpose S4x1024x768 [1, 0, 2] (shapeCast _ (transpose S1024x3072 [1, 0]
    (Host.dotGeneral dot_S2x2048x3072_S2x2048x1024_S3072x1024_01_01_2_2_n_n none (hCot DU DV DG) (hAct X SH SC G))
    transposes_S3072x1024_S1024x3072_1_0) shapeCasts_S1024x3072_S1024x4x768) transposes_S1024x4x768_S4x1024x768_1_0_2

theorem hDw_at (c : Fin 4) (j : Fin 768) : hDw X SH SC G DU DV DG (ix3 c k j)
    = ∑ b : Fin 2, ∑ l : Fin 2048, hCot DU DV DG (ix3 b l ⟨c * 768 + j, by omega⟩)
        * act (rowOf X b l) (modOf SH b) (modOf SC b) (gOf G) k := by
  simp only [← hAct_at]
  generalize hA : hAct X SH SC G = A
  generalize hC : hCot DU DV DG = C
  unfold hDw
  rw [hA, hC]
  pointwise []

/-- The cotangent of the scaled rows. -/
def hDhat : FVec Ideal S2x2048x1024 .f32 := mulf (hDnorm SC W DU DV DG) (hG G)

theorem hDhat_at : hDhat SC G W DU DV DG (ix3 b l k) = dHat (cotRow W DU DV DG b l) (modOf SC b) (gOf G) k := by
  unfold dHat
  rw [← hDnorm_at SC W DU DV DG b l k, ← hG_at G b l k]
  pointwise [hDhat]

/-- The cotangent through the mean square. -/
def hMean (Y : FVec Ideal S2x2048x1024 .f32) : FVec Ideal S2x2048x1024 .f32 :=
  broadcastInDim S2x2048x1024 ![0, 1] bcast_S2x2048_S2x2048x1024_0_1 (Host.reduceAdd (Host.divf (mulf
    (shapeCast _ (Host.reduceAdd (mulf X Y) (constant S_ .f32 0x00000000#32) reducesTo_S2x2048x1024_S2x2048_d2 h_S_)
      shapeCasts_S2x2048_S2x2048x1) (hSlope X))
    (broadcastInDim S2x2048x1 ![] bcast_S_S2x2048x1 (constant S_ .f32 0x44800000#32)))
    (constant S_ .f32 0x00000000#32) reducesTo_S2x2048x1_S2x2048_d2 h_S_)

theorem hMean_at (Y : FVec Ideal S2x2048x1024 .f32) : hMean X Y (ix3 b l k) = dMean (rowOf X b l) (rowOf Y b l) := by
  unfold dMean
  rw [← div_1024, ← hSlope_at X b l 0]
  pointwise [hMean]
  rw [Fin.sum_univ_one]

/-- The rows' gradient. -/
def hDx : FVec Ideal S2x2048x1024 .f32 :=
  addf (addf (addf AD (mulf (hDhat SC G W DU DV DG) (broadcastInDim S2x2048x1024 ![0, 1, 2] bcast_S2x2048x1_S2x2048x1024_0_1_2 (hInv X))))
    (mulf X (hMean X (hDhat SC G W DU DV DG)))) (mulf (hMean X (hDhat SC G W DU DV DG)) X)

theorem hDx_at : hDx X SC G W DU DV DG AD (ix3 b l k)
    = dRow (rowOf X b l) (dHat (cotRow W DU DV DG b l) (modOf SC b) (gOf G)) (rowOf AD b l) k := by
  have e : (rowOf (hDhat SC G W DU DV DG) b l) = dHat (cotRow W DU DV DG b l) (modOf SC b) (gOf G) :=
    funext fun k => hDhat_at SC G W DU DV DG b l k
  unfold dRow
  rw [← e, ← hMean_at X b l k, ← hInv_at X b l 0]
  generalize hM : hMean X (hDhat SC G W DU DV DG) = M
  generalize hY : hDhat SC G W DU DV DG = Y at *
  unfold hDx
  rw [hY, hM]
  rw [add_comm (_ + _) (rowOf AD b l k), ← add_assoc, ← add_assoc]
  pointwise []

end Cert.Proj

end
-- ==== Proof.ProjBlock.lean ====
/- What the body of the norm's and projection's gradient makes of a grid point's blocks, at an index. -/
module

public import proofs.«01_k».proof.Proof.Gen.Kernel3Ideal.Skeleton
public import proofs.«01_k».proof.Proof.ProjHost
public import Idealize.ShloMosaic.Lib.Pointwise
public import Idealize.ShloMosaic.Lib.Pipeline.ValueKit

@[expose] public section

set_option maxRecDepth 16384

noncomputable section

namespace Cert.Kernel3Ideal.Block

open Idealize.ShloMosaic Idealize.ShloMosaic.TcCoe Idealize.SL.Sem Cert.Kernel3Ideal Cert.Kernel3Ideal.Gen Cert.Proj

/-! ## The norm -/

variable (X U V D AD : FVec Ideal S1x256x1024 .f32) (SH SC : FVec Ideal S1x1x1x1024 .f32) (G : FVec Ideal S1x1024 .f32)
  (W : FVec Ideal S1024x3072 .bf16) (r : Fin 256) (k : Fin 1024)

/-- A row of a block of rows. -/
abbrev bRow (X : FVec Ideal S1x256x1024 .f32) (r : Fin 256) : Row := fun k => X (ix3 0 r k)
/-- A modulation's row. -/
abbrev mRow (M : FVec Ideal S1x1x1x1024 .f32) : Row := fun k => M (ix4 0 0 0 k)
/-- The gain's row. -/
abbrev gRow (G : FVec Ideal S1x1024 .f32) : Row := fun k => G (ix2 0 k)

theorem x_at : k0_pay4 (F := Ideal) X (ix2 r k) = bRow X r k := by
  pointwise [k0_pay4]

theorem u_at : k0_pay12 (F := Ideal) X (ix2 r k) = bRow X r k := by
  pointwise [k0_pay12]

theorem v_at : k0_pay13 (F := Ideal) X (ix2 r k) = bRow X r k := by
  pointwise [k0_pay13]

theorem d_at : k0_pay14 (F := Ideal) X (ix2 r k) = bRow X r k := by
  pointwise [k0_pay14]

theorem msq_at (z : Fin 1) : k0_pay5 (F := Ideal) X (ix2 r z) = msq (bRow X r) := by
  unfold msq
  pointwise [k0_pay5, k0_pay4]

theorem inv_at (z : Fin 1) : k0_pay6 (F := Ideal) X (ix2 r z) = Proj.inv (bRow X r) := by
  unfold Proj.inv
  rw [← msq_at X r z]
  pointwise [k0_pay6]

theorem slope_at (z : Fin 1) : k0_pay7 (F := Ideal) X (ix2 r z) = Proj.slope (bRow X r) := by
  unfold Proj.slope
  rw [← msq_at X r z, ← inv_at X r z]
  pointwise [k0_pay7]

theorem hat_at : k0_pay8 (F := Ideal) X (ix2 r k) = bRow X r k * Proj.inv (bRow X r) := by
  rw [← inv_at X r 0, ← x_at X r k]
  pointwise [k0_pay8]

theorem gain_at (z : Fin 1) : k0_pay10 (F := Ideal) SC (ix2 z k) = gain (mRow SC) k := by
  unfold gain
  pointwise [k0_pay10]

theorem act_at : k0_pay11 (F := Ideal) X SH SC G (ix2 r k) = act (bRow X r) (mRow SH) (mRow SC) (gRow G) k := by
  unfold act
  rw [← hat_at X r k, ← gain_at SC k 0]
  pointwise [k0_pay11, k0_pay9]

/-! ## Its cotangent -/

variable (u v : FVec Ideal S256x1024 .f32) (L0 L1 L2 : FVec Ideal S1024x1024 .bf16)

theorem dot3_at : k0_pay21 (F := Ideal) u v D L0 L1 L2 (ix2 r k)
    = (∑ j : Fin 1024, u (ix2 r j) * L0 (ix2 k j)) + (∑ j : Fin 1024, v (ix2 r j) * L1 (ix2 k j))
      + ∑ j : Fin 1024, D (ix3 0 r j) * L2 (ix2 k j) := by
  pointwise [k0_pay21, k0_pay14]

/-- A band of the weights' columns. -/
abbrev cols (W : FVec Ideal S1024x3072 .bf16) (o : ℕ)
    (h : ∀ a, (![0, o] : Fin 2 → ℕ) a + (![1024, 1024] : Fin 2 → ℕ) a ≤ S1024x3072.size a) : FVec Ideal S1024x1024 .bf16 :=
  View.ld (Val := Elt Ideal) (S := S1024x3072) (e' := .bf16) W (Rect.unit (s := S1024x3072) ![0, o] ![1024, 1024] h)

theorem cols_at (o : ℕ) (h) (j : Fin 1024) (i : Fin 3072) (hi : (i : ℕ) = o + j) : cols W o h (ix2 k j) = W (ix2 k i) := by
  refine congrArg W ?_
  funext a
  match a with
  | ⟨0, _⟩ => exact Fin.ext (by show 0 + 1 * (k : ℕ) = k; omega)
  | ⟨1, _⟩ => exact Fin.ext (by show o + 1 * (j : ℕ) = i; omega)

/-- The three bands that a body loads. -/
abbrev c0 := cols W 0 inb_S1024x3072_S1024x1024_0_0
@[inherit_doc c0] abbrev c1 := cols W 1024 inb_S1024x3072_S1024x1024_0_1024
@[inherit_doc c0] abbrev c2 := cols W 2048 inb_S1024x3072_S1024x1024_0_2048

/-- A row's cotangent of the modulated norm. -/
abbrev cRow : Row := dAct W (bRow U r) (bRow V r) (bRow D r)

theorem dot_at : k0_pay21 (F := Ideal) (k0_pay12 U) (k0_pay13 V) D (c0 W) (c1 W) (c2 W) (ix2 r k)
    = cRow U V D W r k := by
  refine (dot3_at D r k _ _ _ _ _).trans ?_
  show _ = dAct W (bRow U r) (bRow V r) (bRow D r) k
  unfold dAct
  simp only [u_at, v_at]
  refine congrArg₂ (· + ·) (congrArg₂ (· + ·) ?_ ?_) ?_ <;> refine Finset.sum_congr rfl fun j _ => congrArg (_ * ·) ?_
  · exact cols_at W k _ _ _ _ (by show (j : ℕ) = 0 + j; omega)
  · exact cols_at W k _ _ _ _ rfl
  · exact cols_at W k _ _ _ _ rfl

theorem dnorm_at :
    k0_pay27 (F := Ideal) (k0_pay10 SC) (k0_pay12 U) (k0_pay13 V) D (c0 W) (c1 W) (c2 W) (ix2 r k)
    = dNorm (cRow U V D W r) (mRow SC) k := by
  show _ = cRow U V D W r k * gain (mRow SC) k
  rw [← dot_at U V D W r k, ← gain_at SC k 0]
  unfold k0_pay27
  generalize k0_pay21 (F := Ideal) (k0_pay12 U) (k0_pay13 V) D (c0 W) (c1 W) (c2 W) = T
  generalize k0_pay10 (F := Ideal) SC = T'
  pointwise []

theorem dgain_at (z : Fin 1) :
    k0_pay28 (F := Ideal) (k0_pay8 X) (k0_pay10 SC) (k0_pay12 U) (k0_pay13 V) D (c0 W) (c1 W) (c2 W) (ix2 z k)
    = ∑ r : Fin 256, dGain (bRow X r) (cRow U V D W r) (mRow SC) k := by
  unfold dGain
  simp only [← hat_at, ← dnorm_at U V D SC W]
  unfold k0_pay28
  generalize k0_pay27 (F := Ideal) (k0_pay10 SC) (k0_pay12 U) (k0_pay13 V) D (c0 W) (c1 W) (c2 W) = T
  generalize k0_pay8 (F := Ideal) X = T'
  pointwise []

theorem dhat_at :
    k0_pay29 (F := Ideal) G (k0_pay10 SC) (k0_pay12 U) (k0_pay13 V) D (c0 W) (c1 W) (c2 W) (ix2 r k)
    = dHat (cRow U V D W r) (mRow SC) (gRow G) k := by
  unfold dHat
  rw [← dnorm_at U V D SC W r k]
  unfold k0_pay29
  generalize k0_pay27 (F := Ideal) (k0_pay10 SC) (k0_pay12 U) (k0_pay13 V) D (c0 W) (c1 W) (c2 W) = T
  pointwise []

theorem dotx_at (z : Fin 1) :
    k0_pay30 (F := Ideal) (k0_pay4 X) G (k0_pay10 SC) (k0_pay12 U) (k0_pay13 V) D (c0 W) (c1 W) (c2 W) (ix2 r z)
    = ∑ k, bRow X r k * dHat (cRow U V D W r) (mRow SC) (gRow G) k := by
  simp only [← dhat_at U V D SC G W]
  unfold k0_pay30
  generalize k0_pay29 (F := Ideal) G (k0_pay10 SC) (k0_pay12 U) (k0_pay13 V) D (c0 W) (c1 W) (c2 W) = T
  pointwise [k0_pay4]

theorem sum_row_at (x y : FVec Ideal S256x1024 .f32) (i s q : FVec Ideal S256x1 .f32) (z : Fin 1) :
    k0_pay31 (F := Ideal) x i s y q AD (ix3 z r k) = y (ix2 r k) * i (ix2 r 0)
      + x (ix2 r k) * (q (ix2 r 0) * s (ix2 r 0) * Ideal.ofBits .f32 0x3A800000#32)
      + q (ix2 r 0) * s (ix2 r 0) * Ideal.ofBits .f32 0x3A800000#32 * x (ix2 r k) + bRow AD r k := by
  pointwise [k0_pay31]
  rw [Fin.sum_univ_one]

/-- The block of the rows' gradient. -/
abbrev dxBlock : FVec Ideal S1x256x1024 .f32 :=
  k0_pay31 (F := Ideal) (k0_pay4 X) (k0_pay6 X) (k0_pay7 X)
    (k0_pay29 G (k0_pay10 SC) (k0_pay12 U) (k0_pay13 V) D (c0 W) (c1 W) (c2 W))
    (k0_pay30 (k0_pay4 X) G (k0_pay10 SC) (k0_pay12 U) (k0_pay13 V) D (c0 W) (c1 W) (c2 W)) AD

theorem dx_at (z : Fin 1) : dxBlock X U V D AD SC G W (ix3 z r k)
    = dRow (bRow X r) (dHat (cRow U V D W r) (mRow SC) (gRow G)) (bRow AD r) k := by
  refine (sum_row_at AD r k _ _ _ _ _ z).trans ?_
  rw [x_at, inv_at, slope_at, dhat_at, dotx_at]
  rfl

/-! ## The weights' gradient -/

/-- Three rows side by side. -/
def cot3 (u v g : Row) (J : Fin 3072) : EReal :=
  if h : (J : ℕ) < 1024 then u ⟨J, h⟩ else if h : (J : ℕ) < 2048 then v ⟨J - 1024, by omega⟩ else g ⟨J - 2048, by omega⟩

theorem cot3_0 {u v g : Row} {J : Fin 3072} (j : Fin 1024) (h : (J : ℕ) = j) : cot3 u v g J = u j := by
  unfold cot3
  rw [dif_pos (by omega)]
  exact congrArg u (Fin.ext h)

theorem cot3_1 {u v g : Row} {J : Fin 3072} (j : Fin 1024) (h : (J : ℕ) = 1024 + j) : cot3 u v g J = v j := by
  unfold cot3
  rw [dif_neg (by omega), dif_pos (by omega)]
  exact congrArg v (Fin.ext (by show (J : ℕ) - 1024 = j; omega))

theorem cot3_2 {u v g : Row} {J : Fin 3072} (j : Fin 1024) (h : (J : ℕ) = 2048 + j) : cot3 u v g J = g j := by
  unfold cot3
  rw [dif_neg (by omega), dif_neg (by omega)]
  exact congrArg g (Fin.ext (by show (J : ℕ) - 2048 = j; omega))

/-- What a block adds to the weights' gradient: device `p`'s column `j`, row `k`. -/
def dwAdd (A : FVec Ideal S256x1024 .f32) (p : Fin 4) (k : Fin 1024) (j : Fin 768) : EReal :=
  ∑ r : Fin 256, A (ix2 r k) * cot3 (bRow U r) (bRow V r) (bRow D r) ⟨(p : ℕ) * 768 + j, by omega⟩

/-- The same at an index of the array. -/
abbrev dwAt (A : FVec Ideal S256x1024 .f32) (y : S4x1024x768.Idx) : EReal := dwAdd U V D A (y 0) (y 1) (y 2)

variable (A : FVec Ideal S256x1024 .f32) (O : FVec Ideal S4x1024x768 .f32)

/-- A load of a part of the array reads it at the part's offset. -/
theorem part_at (y : S4x1024x768.Idx) (off size : Fin 3 → ℕ) (h : ∀ a, off a + size a ≤ S4x1024x768.size a)
    (x : (⟨3, size⟩ : Shape).Idx) (hx : ∀ a, (y a : ℕ) = off a + x a) :
    View.ld (Val := Elt Ideal) (S := S4x1024x768) (e' := .f32) O (Rect.unit (s := S4x1024x768) off size h) x = O y :=
  congrArg O (funext fun a => Fin.ext (by have := hx a; show off a + 1 * (x a : ℕ) = y a; omega))

theorem set0_at (T : FVec Ideal S256x1024 .f32) (z : Fin 1) (k : Fin 1024) (j : Fin 768) : k0_pay37 (F := Ideal) (k0_pay16 A T) (ix3 z k j)
    = ∑ r : Fin 256, A (ix2 r k) * T (ix2 r ⟨0 + j, by omega⟩) := by
  pointwise [k0_pay37, k0_pay16, k0_pay15]

theorem add0_at (T : FVec Ideal S256x1024 .f32) (Q : FVec Ideal S1x1024x768 .f32) (z : Fin 1) (k : Fin 1024) (j : Fin 768) :
    k0_pay38 (F := Ideal) (k0_pay16 A T) Q (ix3 z k j) = Q (ix3 0 k j) + ∑ r : Fin 256, A (ix2 r k) * T (ix2 r ⟨0 + j, by omega⟩) := by
  pointwise [k0_pay38, k0_pay16, k0_pay15]

theorem sum0_at (k : Fin 1024) (j : Fin 768) (q : Fin 768) (hq : (q : ℕ) = 0 + j) :
    ∑ r : Fin 256, A (ix2 r k) * bRow U r ⟨0 + j, by omega⟩ = dwAdd U V D A 0 k q :=
  Finset.sum_congr rfl fun r _ => congrArg (_ * ·) (cot3_0 _ (by show 0 * 768 + (q : ℕ) = (0 + (j : ℕ)); omega)).symm

theorem setTile0 (y : S4x1024x768.Idx) : View.TileAt (Val := Elt Ideal) (S := S4x1024x768) (e := .f32) y ![0, 0, 0] ![1, 1024, 768]
    (k0_pay37 (k0_pay16 A (k0_pay12 U))) (dwAt U V D A y) := fun x hx => by
  idx_vars x
  obtain rfl : x0 = 0 := Subsingleton.elim _ _
  have h0 : y 0 = (0 : Fin 4) := Fin.ext (hx 0)
  have h1 : y 1 = x1 := Fin.ext ((hx 1).trans (Nat.zero_add _))
  refine (set0_at A _ 0 x1 x2).trans ?_
  simp only [u_at]
  refine (sum0_at U V D A x1 x2 (y 2) (hx 2)).trans ?_
  show dwAdd U V D A 0 x1 (y 2) = dwAdd U V D A (y 0) (y 1) (y 2)
  rw [h0, h1]

theorem addTile0 (h) (y : S4x1024x768.Idx) : View.TileAt (Val := Elt Ideal) (S := S4x1024x768) (e := .f32) y ![0, 0, 0] ![1, 1024, 768]
    (k0_pay38 (k0_pay16 A (k0_pay12 U)) (View.ld (Val := Elt Ideal) (S := S4x1024x768) (e' := .f32) O (Rect.unit (s := S4x1024x768) ![0, 0, 0] ![1, 1024, 768] h)))
    (O y + dwAt U V D A y) := fun x hx => by
  idx_vars x
  obtain rfl : x0 = 0 := Subsingleton.elim _ _
  have h0 : y 0 = (0 : Fin 4) := Fin.ext (hx 0)
  have h1 : y 1 = x1 := Fin.ext ((hx 1).trans (Nat.zero_add _))
  refine (add0_at A _ _ 0 x1 x2).trans (congrArg₂ (· + ·) (part_at O y _ _ h _ hx) ?_)
  simp only [u_at]
  refine (sum0_at U V D A x1 x2 (y 2) (hx 2)).trans ?_
  show dwAdd U V D A 0 x1 (y 2) = dwAdd U V D A (y 0) (y 1) (y 2)
  rw [h0, h1]

theorem set1_at (T : FVec Ideal S256x1024 .f32) (z : Fin 1) (k : Fin 1024) (j : Fin 256) : k0_pay39 (F := Ideal) (k0_pay17 A T) (ix3 z k j)
    = ∑ r : Fin 256, A (ix2 r k) * T (ix2 r ⟨768 + j, by omega⟩) := by
  pointwise [k0_pay39, k0_pay17, k0_pay15]

theorem add1_at (T : FVec Ideal S256x1024 .f32) (Q : FVec Ideal S1x1024x256 .f32) (z : Fin 1) (k : Fin 1024) (j : Fin 256) :
    k0_pay40 (F := Ideal) (k0_pay17 A T) Q (ix3 z k j) = Q (ix3 0 k j) + ∑ r : Fin 256, A (ix2 r k) * T (ix2 r ⟨768 + j, by omega⟩) := by
  pointwise [k0_pay40, k0_pay17, k0_pay15]

theorem sum1_at (k : Fin 1024) (j : Fin 256) (q : Fin 768) (hq : (q : ℕ) = 0 + j) :
    ∑ r : Fin 256, A (ix2 r k) * bRow U r ⟨768 + j, by omega⟩ = dwAdd U V D A 1 k q :=
  Finset.sum_congr rfl fun r _ => congrArg (_ * ·) (cot3_0 _ (by show 1 * 768 + (q : ℕ) = (768 + (j : ℕ)); omega)).symm

theorem setTile1 (y : S4x1024x768.Idx) : View.TileAt (Val := Elt Ideal) (S := S4x1024x768) (e := .f32) y ![1, 0, 0] ![1, 1024, 256]
    (k0_pay39 (k0_pay17 A (k0_pay12 U))) (dwAt U V D A y) := fun x hx => by
  idx_vars x
  obtain rfl : x0 = 0 := Subsingleton.elim _ _
  have h0 : y 0 = (1 : Fin 4) := Fin.ext (hx 0)
  have h1 : y 1 = x1 := Fin.ext ((hx 1).trans (Nat.zero_add _))
  refine (set1_at A _ 0 x1 x2).trans ?_
  simp only [u_at]
  refine (sum1_at U V D A x1 x2 (y 2) (hx 2)).trans ?_
  show dwAdd U V D A 1 x1 (y 2) = dwAdd U V D A (y 0) (y 1) (y 2)
  rw [h0, h1]

theorem addTile1 (h) (y : S4x1024x768.Idx) : View.TileAt (Val := Elt Ideal) (S := S4x1024x768) (e := .f32) y ![1, 0, 0] ![1, 1024, 256]
    (k0_pay40 (k0_pay17 A (k0_pay12 U)) (View.ld (Val := Elt Ideal) (S := S4x1024x768) (e' := .f32) O (Rect.unit (s := S4x1024x768) ![1, 0, 0] ![1, 1024, 256] h)))
    (O y + dwAt U V D A y) := fun x hx => by
  idx_vars x
  obtain rfl : x0 = 0 := Subsingleton.elim _ _
  have h0 : y 0 = (1 : Fin 4) := Fin.ext (hx 0)
  have h1 : y 1 = x1 := Fin.ext ((hx 1).trans (Nat.zero_add _))
  refine (add1_at A _ _ 0 x1 x2).trans (congrArg₂ (· + ·) (part_at O y _ _ h _ hx) ?_)
  simp only [u_at]
  refine (sum1_at U V D A x1 x2 (y 2) (hx 2)).trans ?_
  show dwAdd U V D A 1 x1 (y 2) = dwAdd U V D A (y 0) (y 1) (y 2)
  rw [h0, h1]

theorem set2_at (T : FVec Ideal S256x1024 .f32) (z : Fin 1) (k : Fin 1024) (j : Fin 512) : k0_pay41 (F := Ideal) (k0_pay19 A T) (ix3 z k j)
    = ∑ r : Fin 256, A (ix2 r k) * T (ix2 r ⟨0 + j, by omega⟩) := by
  pointwise [k0_pay41, k0_pay19, k0_pay18]

theorem add2_at (T : FVec Ideal S256x1024 .f32) (Q : FVec Ideal S1x1024x512 .f32) (z : Fin 1) (k : Fin 1024) (j : Fin 512) :
    k0_pay42 (F := Ideal) (k0_pay19 A T) Q (ix3 z k j) = Q (ix3 0 k j) + ∑ r : Fin 256, A (ix2 r k) * T (ix2 r ⟨0 + j, by omega⟩) := by
  pointwise [k0_pay42, k0_pay19, k0_pay18]

theorem sum2_at (k : Fin 1024) (j : Fin 512) (q : Fin 768) (hq : (q : ℕ) = 256 + j) :
    ∑ r : Fin 256, A (ix2 r k) * bRow V r ⟨0 + j, by omega⟩ = dwAdd U V D A 1 k q :=
  Finset.sum_congr rfl fun r _ => congrArg (_ * ·) (cot3_1 _ (by show 1 * 768 + (q : ℕ) = 1024 + (0 + (j : ℕ)); omega)).symm

theorem setTile2 (y : S4x1024x768.Idx) : View.TileAt (Val := Elt Ideal) (S := S4x1024x768) (e := .f32) y ![1, 0, 256] ![1, 1024, 512]
    (k0_pay41 (k0_pay19 A (k0_pay13 V))) (dwAt U V D A y) := fun x hx => by
  idx_vars x
  obtain rfl : x0 = 0 := Subsingleton.elim _ _
  have h0 : y 0 = (1 : Fin 4) := Fin.ext (hx 0)
  have h1 : y 1 = x1 := Fin.ext ((hx 1).trans (Nat.zero_add _))
  refine (set2_at A _ 0 x1 x2).trans ?_
  simp only [v_at]
  refine (sum2_at U V D A x1 x2 (y 2) (hx 2)).trans ?_
  show dwAdd U V D A 1 x1 (y 2) = dwAdd U V D A (y 0) (y 1) (y 2)
  rw [h0, h1]

theorem addTile2 (h) (y : S4x1024x768.Idx) : View.TileAt (Val := Elt Ideal) (S := S4x1024x768) (e := .f32) y ![1, 0, 256] ![1, 1024, 512]
    (k0_pay42 (k0_pay19 A (k0_pay13 V)) (View.ld (Val := Elt Ideal) (S := S4x1024x768) (e' := .f32) O (Rect.unit (s := S4x1024x768) ![1, 0, 256] ![1, 1024, 512] h)))
    (O y + dwAt U V D A y) := fun x hx => by
  idx_vars x
  obtain rfl : x0 = 0 := Subsingleton.elim _ _
  have h0 : y 0 = (1 : Fin 4) := Fin.ext (hx 0)
  have h1 : y 1 = x1 := Fin.ext ((hx 1).trans (Nat.zero_add _))
  refine (add2_at A _ _ 0 x1 x2).trans (congrArg₂ (· + ·) (part_at O y _ _ h _ hx) ?_)
  simp only [v_at]
  refine (sum2_at U V D A x1 x2 (y 2) (hx 2)).trans ?_
  show dwAdd U V D A 1 x1 (y 2) = dwAdd U V D A (y 0) (y 1) (y 2)
  rw [h0, h1]

theorem set3_at (T : FVec Ideal S256x1024 .f32) (z : Fin 1) (k : Fin 1024) (j : Fin 512) : k0_pay43 (F := Ideal) (k0_pay20 A T) (ix3 z k j)
    = ∑ r : Fin 256, A (ix2 r k) * T (ix2 r ⟨512 + j, by omega⟩) := by
  pointwise [k0_pay43, k0_pay20, k0_pay18]

theorem add3_at (T : FVec Ideal S256x1024 .f32) (Q : FVec Ideal S1x1024x512 .f32) (z : Fin 1) (k : Fin 1024) (j : Fin 512) :
    k0_pay44 (F := Ideal) (k0_pay20 A T) Q (ix3 z k j) = Q (ix3 0 k j) + ∑ r : Fin 256, A (ix2 r k) * T (ix2 r ⟨512 + j, by omega⟩) := by
  pointwise [k0_pay44, k0_pay20, k0_pay18]

theorem sum3_at (k : Fin 1024) (j : Fin 512) (q : Fin 768) (hq : (q : ℕ) = 0 + j) :
    ∑ r : Fin 256, A (ix2 r k) * bRow V r ⟨512 + j, by omega⟩ = dwAdd U V D A 2 k q :=
  Finset.sum_congr rfl fun r _ => congrArg (_ * ·) (cot3_1 _ (by show 2 * 768 + (q : ℕ) = 1024 + (512 + (j : ℕ)); omega)).symm

theorem setTile3 (y : S4x1024x768.Idx) : View.TileAt (Val := Elt Ideal) (S := S4x1024x768) (e := .f32) y ![2, 0, 0] ![1, 1024, 512]
    (k0_pay43 (k0_pay20 A (k0_pay13 V))) (dwAt U V D A y) := fun x hx => by
  idx_vars x
  obtain rfl : x0 = 0 := Subsingleton.elim _ _
  have h0 : y 0 = (2 : Fin 4) := Fin.ext (hx 0)
  have h1 : y 1 = x1 := Fin.ext ((hx 1).trans (Nat.zero_add _))
  refine (set3_at A _ 0 x1 x2).trans ?_
  simp only [v_at]
  refine (sum3_at U V D A x1 x2 (y 2) (hx 2)).trans ?_
  show dwAdd U V D A 2 x1 (y 2) = dwAdd U V D A (y 0) (y 1) (y 2)
  rw [h0, h1]

theorem addTile3 (h) (y : S4x1024x768.Idx) : View.TileAt (Val := Elt Ideal) (S := S4x1024x768) (e := .f32) y ![2, 0, 0] ![1, 1024, 512]
    (k0_pay44 (k0_pay20 A (k0_pay13 V)) (View.ld (Val := Elt Ideal) (S := S4x1024x768) (e' := .f32) O (Rect.unit (s := S4x1024x768) ![2, 0, 0] ![1, 1024, 512] h)))
    (O y + dwAt U V D A y) := fun x hx => by
  idx_vars x
  obtain rfl : x0 = 0 := Subsingleton.elim _ _
  have h0 : y 0 = (2 : Fin 4) := Fin.ext (hx 0)
  have h1 : y 1 = x1 := Fin.ext ((hx 1).trans (Nat.zero_add _))
  refine (add3_at A _ _ 0 x1 x2).trans (congrArg₂ (· + ·) (part_at O y _ _ h _ hx) ?_)
  simp only [v_at]
  refine (sum3_at U V D A x1 x2 (y 2) (hx 2)).trans ?_
  show dwAdd U V D A 2 x1 (y 2) = dwAdd U V D A (y 0) (y 1) (y 2)
  rw [h0, h1]

theorem set4_at (T : FVec Ideal S1x256x1024 .f32) (z : Fin 1) (k : Fin 1024) (j : Fin 256) : k0_pay45 (F := Ideal) (k0_pay23 A T) (ix3 z k j)
    = ∑ r : Fin 256, A (ix2 r k) * T (ix3 0 r ⟨0 + j, by omega⟩) := by
  pointwise [k0_pay45, k0_pay23, k0_pay22, k0_pay14]

theorem add4_at (T : FVec Ideal S1x256x1024 .f32) (Q : FVec Ideal S1x1024x256 .f32) (z : Fin 1) (k : Fin 1024) (j : Fin 256) :
    k0_pay1 (F := Ideal) (k0_pay23 A T) Q (ix3 z k j) = Q (ix3 0 k j) + ∑ r : Fin 256, A (ix2 r k) * T (ix3 0 r ⟨0 + j, by omega⟩) := by
  pointwise [k0_pay1, k0_pay23, k0_pay22, k0_pay14]

theorem sum4_at (k : Fin 1024) (j : Fin 256) (q : Fin 768) (hq : (q : ℕ) = 512 + j) :
    ∑ r : Fin 256, A (ix2 r k) * bRow D r ⟨0 + j, by omega⟩ = dwAdd U V D A 2 k q :=
  Finset.sum_congr rfl fun r _ => congrArg (_ * ·) (cot3_2 _ (by show 2 * 768 + (q : ℕ) = 2048 + (0 + (j : ℕ)); omega)).symm

theorem setTile4 (y : S4x1024x768.Idx) : View.TileAt (Val := Elt Ideal) (S := S4x1024x768) (e := .f32) y ![2, 0, 512] ![1, 1024, 256]
    (k0_pay45 (k0_pay23 A D)) (dwAt U V D A y) := fun x hx => by
  idx_vars x
  obtain rfl : x0 = 0 := Subsingleton.elim _ _
  have h0 : y 0 = (2 : Fin 4) := Fin.ext (hx 0)
  have h1 : y 1 = x1 := Fin.ext ((hx 1).trans (Nat.zero_add _))
  refine (set4_at A _ 0 x1 x2).trans ?_
  refine (sum4_at U V D A x1 x2 (y 2) (hx 2)).trans ?_
  show dwAdd U V D A 2 x1 (y 2) = dwAdd U V D A (y 0) (y 1) (y 2)
  rw [h0, h1]

theorem addTile4 (h) (y : S4x1024x768.Idx) : View.TileAt (Val := Elt Ideal) (S := S4x1024x768) (e := .f32) y ![2, 0, 512] ![1, 1024, 256]
    (k0_pay1 (k0_pay23 A D) (View.ld (Val := Elt Ideal) (S := S4x1024x768) (e' := .f32) O (Rect.unit (s := S4x1024x768) ![2, 0, 512] ![1, 1024, 256] h)))
    (O y + dwAt U V D A y) := fun x hx => by
  idx_vars x
  obtain rfl : x0 = 0 := Subsingleton.elim _ _
  have h0 : y 0 = (2 : Fin 4) := Fin.ext (hx 0)
  have h1 : y 1 = x1 := Fin.ext ((hx 1).trans (Nat.zero_add _))
  refine (add4_at A _ _ 0 x1 x2).trans (congrArg₂ (· + ·) (part_at O y _ _ h _ hx) ?_)
  refine (sum4_at U V D A x1 x2 (y 2) (hx 2)).trans ?_
  show dwAdd U V D A 2 x1 (y 2) = dwAdd U V D A (y 0) (y 1) (y 2)
  rw [h0, h1]

theorem set5_at (T : FVec Ideal S1x256x1024 .f32) (z : Fin 1) (k : Fin 1024) (j : Fin 768) : k0_pay2 (F := Ideal) (k0_pay24 A T) (ix3 z k j)
    = ∑ r : Fin 256, A (ix2 r k) * T (ix3 0 r ⟨256 + j, by omega⟩) := by
  pointwise [k0_pay2, k0_pay24, k0_pay22, k0_pay14]

theorem add5_at (T : FVec Ideal S1x256x1024 .f32) (Q : FVec Ideal S1x1024x768 .f32) (z : Fin 1) (k : Fin 1024) (j : Fin 768) :
    k0_pay3 (F := Ideal) (k0_pay24 A T) Q (ix3 z k j) = Q (ix3 0 k j) + ∑ r : Fin 256, A (ix2 r k) * T (ix3 0 r ⟨256 + j, by omega⟩) := by
  pointwise [k0_pay3, k0_pay24, k0_pay22, k0_pay14]

theorem sum5_at (k : Fin 1024) (j : Fin 768) (q : Fin 768) (hq : (q : ℕ) = 0 + j) :
    ∑ r : Fin 256, A (ix2 r k) * bRow D r ⟨256 + j, by omega⟩ = dwAdd U V D A 3 k q :=
  Finset.sum_congr rfl fun r _ => congrArg (_ * ·) (cot3_2 _ (by show 3 * 768 + (q : ℕ) = 2048 + (256 + (j : ℕ)); omega)).symm

theorem setTile5 (y : S4x1024x768.Idx) : View.TileAt (Val := Elt Ideal) (S := S4x1024x768) (e := .f32) y ![3, 0, 0] ![1, 1024, 768]
    (k0_pay2 (k0_pay24 A D)) (dwAt U V D A y) := fun x hx => by
  idx_vars x
  obtain rfl : x0 = 0 := Subsingleton.elim _ _
  have h0 : y 0 = (3 : Fin 4) := Fin.ext (hx 0)
  have h1 : y 1 = x1 := Fin.ext ((hx 1).trans (Nat.zero_add _))
  refine (set5_at A _ 0 x1 x2).trans ?_
  refine (sum5_at U V D A x1 x2 (y 2) (hx 2)).trans ?_
  show dwAdd U V D A 3 x1 (y 2) = dwAdd U V D A (y 0) (y 1) (y 2)
  rw [h0, h1]

theorem addTile5 (h) (y : S4x1024x768.Idx) : View.TileAt (Val := Elt Ideal) (S := S4x1024x768) (e := .f32) y ![3, 0, 0] ![1, 1024, 768]
    (k0_pay3 (k0_pay24 A D) (View.ld (Val := Elt Ideal) (S := S4x1024x768) (e' := .f32) O (Rect.unit (s := S4x1024x768) ![3, 0, 0] ![1, 1024, 768] h)))
    (O y + dwAt U V D A y) := fun x hx => by
  idx_vars x
  obtain rfl : x0 = 0 := Subsingleton.elim _ _
  have h0 : y 0 = (3 : Fin 4) := Fin.ext (hx 0)
  have h1 : y 1 = x1 := Fin.ext ((hx 1).trans (Nat.zero_add _))
  refine (add5_at A _ _ 0 x1 x2).trans (congrArg₂ (· + ·) (part_at O y _ _ h _ hx) ?_)
  refine (sum5_at U V D A x1 x2 (y 2) (hx 2)).trans ?_
  show dwAdd U V D A 3 x1 (y 2) = dwAdd U V D A (y 0) (y 1) (y 2)
  rw [h0, h1]

end Cert.Kernel3Ideal.Block

end
-- ==== Proof.ProjArray.lean ====
/- What the arrays of the norm's and projection's gradient hold after the run, over the arrays at launch. -/
module

public import proofs.«01_k».proof.Proof.Gen.Kernel3Ideal.Value
public import proofs.«01_k».proof.Proof.ProjBlock
public import Idealize.ShloMosaic.Lib.Claim
public import Idealize.ShloMosaic.Lib.Pointwise
public import Idealize.ShloMosaic.Lib.Pipeline.ValueKit

@[expose] public section

set_option maxRecDepth 16384

noncomputable section

namespace Cert.Kernel3Ideal.Array

open Idealize.ShloMosaic Idealize.ShloMosaic.TcCoe Idealize.SL.Sem Cert.Kernel3Ideal Cert.Kernel3Ideal.Gen
open Cert.Kernel3Ideal.Block Cert.Proj

/-! ## The blocks of a grid point -/

theorem idx : ∀ t : Fin cfg0.N, win0_0.index t = ![t.val / 8, t.val % 8, 0] ∧ win0_1.index t = ![t.val / 8, 0, 0, 0]
    ∧ win0_2.index t = ![t.val / 8, 0, 0, 0] ∧ win0_3.index t = ![0, 0] ∧ win0_4.index t = ![0, 0]
    ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0]
    ∧ win0_9.index t = ![t.val / 8, t.val % 8, 0] ∧ win0_12.index t = ![0, 0] ∧ win0_13.index t = ![0, 0, 0] ∧ t.val < 16 :=
  (by decide +kernel : ∀ t : Fin grid0.N, _)

theorem lt16 (t : Fin cfg0.N) : t.val < 16 := (idx t).2.2.2.2.2.2.2.2.2.2.2.2

/-- The batch element of a grid point. -/
def bOf (t : Fin cfg0.N) : Fin 2 := ⟨t.val / 8, by have := lt16 t; omega⟩
/-- The position of a grid point's row. -/
def lOf (t : Fin cfg0.N) (r : Fin 256) : Fin 2048 := ⟨t.val % 8 * 256 + r, by omega⟩

variable (m : (ℓ : Loc nD τ sig) → Buf (Elt Ideal) ℓ) (c : Dev nD) (t : Fin cfg0.N)

/-- The arrays at launch. -/
abbrev aX : FVec Ideal S2x2048x1024 .f32 := m ((c.tc : Thread nD τ).loc main_arg0)
@[inherit_doc aX] abbrev aSH : FVec Ideal S2x2x1x1024 .f32 := m ((c.tc : Thread nD τ).loc main_arg1)
@[inherit_doc aX] abbrev aSC : FVec Ideal S2x2x1x1024 .f32 := m ((c.tc : Thread nD τ).loc main_arg2)
@[inherit_doc aX] abbrev aG : FVec Ideal S1x1024 .f32 := m ((c.tc : Thread nD τ).loc main_arg3)
@[inherit_doc aX] abbrev aW : FVec Ideal S1024x3072 .bf16 := m ((c.tc : Thread nD τ).loc main_arg4)
@[inherit_doc aX] abbrev aU : FVec Ideal S2x2048x1024 .f32 := m ((c.tc : Thread nD τ).loc main_arg5)
@[inherit_doc aX] abbrev aV : FVec Ideal S2x2048x1024 .f32 := m ((c.tc : Thread nD τ).loc main_arg6)
@[inherit_doc aX] abbrev aD : FVec Ideal S2x2048x1024 .f32 := m ((c.tc : Thread nD τ).loc main_arg7)
@[inherit_doc aX] abbrev aAD : FVec Ideal S2x2048x1024 .f32 := m ((c.tc : Thread nD τ).loc main_arg8)

theorem blk_x (r : Fin 256) : bRow (iblk m c 0 t) r = rowOf (aX m c) (bOf t) (lOf t r) := funext fun k => by
  show iblk m c 0 t (ix3 0 r k) = aX m c (ix3 (bOf t) (lOf t r) k)
  blk_ext [iblk, V, bOf, lOf, idx t]

theorem blk_sh : mRow (iblk m c 1 t) = modOf (aSH m c) (bOf t) := funext fun k => by
  show iblk m c 1 t (ix4 0 0 0 k) = aSH m c (ix4 (bOf t) 0 0 k)
  blk_ext [iblk, V, bOf, idx t]

theorem blk_sc : mRow (iblk m c 2 t) = modOf (aSC m c) (bOf t) := funext fun k => by
  show iblk m c 2 t (ix4 0 0 0 k) = aSC m c (ix4 (bOf t) 0 0 k)
  blk_ext [iblk, V, bOf, idx t]

theorem blk_g : gRow (iblk m c 3 t) = gOf (aG m c) := funext fun k => by
  show iblk m c 3 t (ix2 0 k) = aG m c (ix2 0 k)
  blk_ext [iblk, V, idx t]

theorem blk_w (k : Fin 1024) (j : Fin 3072) : iblk m c 4 t (ix2 k j) = aW m c (ix2 k j) := by
  blk_ext [iblk, V, idx t]

theorem blk_u (r : Fin 256) : bRow (iblk m c 5 t) r = rowOf (aU m c) (bOf t) (lOf t r) := funext fun k => by
  show iblk m c 5 t (ix3 0 r k) = aU m c (ix3 (bOf t) (lOf t r) k)
  blk_ext [iblk, V, bOf, lOf, idx t]

theorem blk_v (r : Fin 256) : bRow (iblk m c 6 t) r = rowOf (aV m c) (bOf t) (lOf t r) := funext fun k => by
  show iblk m c 6 t (ix3 0 r k) = aV m c (ix3 (bOf t) (lOf t r) k)
  blk_ext [iblk, V, bOf, lOf, idx t]

theorem blk_d (r : Fin 256) : bRow (iblk m c 7 t) r = rowOf (aD m c) (bOf t) (lOf t r) := funext fun k => by
  show iblk m c 7 t (ix3 0 r k) = aD m c (ix3 (bOf t) (lOf t r) k)
  blk_ext [iblk, V, bOf, lOf, idx t]

theorem blk_ad (r : Fin 256) : bRow (iblk m c 8 t) r = rowOf (aAD m c) (bOf t) (lOf t r) := funext fun k => by
  show iblk m c 8 t (ix3 0 r k) = aAD m c (ix3 (bOf t) (lOf t r) k)
  blk_ext [iblk, V, bOf, lOf, idx t]

theorem blk_cot (r : Fin 256) : cRow (iblk m c 5 t) (iblk m c 6 t) (iblk m c 7 t) (iblk m c 4 t) r
    = cotRow (aW m c) (aU m c) (aV m c) (aD m c) (bOf t) (lOf t r) := by
  show dAct _ _ _ _ = dAct _ _ _ _
  rw [blk_u, blk_v, blk_d]
  refine funext fun k => ?_
  unfold dAct
  refine congrArg₂ (· + ·) (congrArg₂ (· + ·) ?_ ?_) ?_ <;>
    exact Finset.sum_congr rfl fun j _ => congrArg (_ * ·) (blk_w m c t _ _)

/-! ## What a point leaves in each output -/

theorem out9 : (outsAt0 m c t.val t.isLt).1 = dxBlock (iblk m c 0 t) (iblk m c 5 t) (iblk m c 6 t) (iblk m c 7 t) (iblk m c 8 t)
    (iblk m c 2 t) (iblk m c 3 t) (iblk m c 4 t) := by
  have hl := lt16 t
  by_cases h : t.val % 8 = 0
  · by_cases h' : t.val % 16 = 0
    · rw [outsAt0_A m c t (by omega) (by omega) (by omega) (by omega) (by omega) (by omega) (by omega) (by omega) (by omega) (by omega)
        (by omega) (by omega) (by omega) (by omega) (by omega) (by omega) (by omega) (by omega)]
      dsimp only
      unfold out0_A_9
      frame_out
      rfl
    · rw [outsAt0_C m c t (by omega) (by omega) (by omega) (by omega) (by omega) (by omega) (by omega) (by omega) (by omega) (by omega)
        (by omega) (by omega) (by omega) (by omega) (by omega) (by omega) (by omega) (by omega)]
      dsimp only
      unfold out0_C_9
      frame_out
      rfl
  · rw [outsAt0_B m c t (by omega) (by omega) (by omega) (by omega) (by omega) (by omega) (by omega) (by omega) (by omega) (by omega)
      (by omega) (by omega) (by omega) (by omega) (by omega) (by omega) (by omega) (by omega)]
    dsimp only
    unfold out0_B_9
    frame_out
    rfl

/-- What a point adds to the gain's gradient. -/
abbrev dnBlock : FVec Ideal S1x1024 .f32 :=
  k0_pay28 (k0_pay8 (iblk m c 0 t)) (k0_pay10 (iblk m c 2 t)) (k0_pay12 (iblk m c 5 t)) (k0_pay13 (iblk m c 6 t)) (iblk m c 7 t)
    (c0 (iblk m c 4 t)) (c1 (iblk m c 4 t)) (c2 (iblk m c 4 t))

theorem out12_first (h : t.val = 0) : (outsAt0 m c t.val t.isLt).2.2.2.1 = dnBlock m c t := by
  rw [outsAt0_A m c t (by omega) (by omega) (by omega) (by omega) (by omega) (by omega) (by omega) (by omega) (by omega) (by omega)
    (by omega) (by omega) (by omega) (by omega) (by omega) (by omega) (by omega) (by omega)]
  dsimp only
  unfold out0_A_12
  frame_out
  rfl

theorem out12_next (h : t.val ≠ 0) : (outsAt0 m c t.val t.isLt).2.2.2.1
    = k0_pay36 (dnBlock m c t) (outsAt0 m c (t.val - 1) (Nat.lt_of_le_of_lt (Nat.sub_le _ _) t.isLt)).2.2.2.1 := by
  have hl := lt16 t
  by_cases h : t.val % 8 = 0
  · rw [outsAt0_C m c t (by omega) (by omega) (by omega) (by omega) (by omega) (by omega) (by omega) (by omega) (by omega) (by omega)
      (by omega) (by omega) (by omega) (by omega) (by omega) (by omega) (by omega) (by omega)]
    dsimp only
    unfold out0_C_12
    frame_out
    rfl
  · rw [outsAt0_B m c t (by omega) (by omega) (by omega) (by omega) (by omega) (by omega) (by omega) (by omega) (by omega) (by omega)
      (by omega) (by omega) (by omega) (by omega) (by omega) (by omega) (by omega) (by omega)]
    dsimp only
    unfold out0_B_12
    frame_out
    rfl

/-- What a point adds to the weights' gradient. -/
abbrev dwPoint (y : S4x1024x768.Idx) : EReal :=
  dwAt (iblk m c 5 t) (iblk m c 6 t) (iblk m c 7 t) (k0_pay11 (iblk m c 0 t) (iblk m c 1 t) (iblk m c 2 t) (iblk m c 3 t)) y

theorem out13_first (h : t.val = 0) (y : S4x1024x768.Idx) : (outsAt0 m c t.val t.isLt).2.2.2.2 y = dwPoint m c t y := by
  rw [outsAt0_A m c t (by omega) (by omega) (by omega) (by omega) (by omega) (by omega) (by omega) (by omega) (by omega) (by omega)
    (by omega) (by omega) (by omega) (by omega) (by omega) (by omega) (by omega) (by omega)]
  dsimp only
  unfold out0_A_13
  frame_out
  refine View.canon_eq_of_allAt _ y _ (View.cover_of_tiledBy _ ![1, 1024, 256] (by sl_kernel_rfl) y) ?_
  refine View.allAt_cons_unit _ _ _ _ _ (setTile5 _ _ _ _ y) ?_
  refine View.allAt_cons_unit _ _ _ _ _ (setTile4 _ _ _ _ y) ?_
  refine View.allAt_cons_unit _ _ _ _ _ (setTile3 _ _ _ _ y) ?_
  refine View.allAt_cons_unit _ _ _ _ _ (setTile2 _ _ _ _ y) ?_
  refine View.allAt_cons_unit _ _ _ _ _ (setTile1 _ _ _ _ y) ?_
  refine View.allAt_cons_unit _ _ _ _ _ (setTile0 _ _ _ _ y) ?_
  exact View.allAt_nil _ _

theorem out13_next (h : t.val ≠ 0) (y : S4x1024x768.Idx) : (outsAt0 m c t.val t.isLt).2.2.2.2 y
    = (outsAt0 m c (t.val - 1) (Nat.lt_of_le_of_lt (Nat.sub_le _ _) t.isLt)).2.2.2.2 y + dwPoint m c t y := by
  have hl := lt16 t
  by_cases h : t.val % 8 = 0
  · rw [outsAt0_C m c t (by omega) (by omega) (by omega) (by omega) (by omega) (by omega) (by omega) (by omega) (by omega) (by omega)
      (by omega) (by omega) (by omega) (by omega) (by omega) (by omega) (by omega) (by omega)]
    dsimp only
    unfold out0_C_13
    frame_out
    refine View.canon_eq_of_allAt _ y _ (View.cover_of_tiledBy _ ![1, 1024, 256] (by sl_kernel_rfl) y) ?_
    refine View.allAt_cons_unit _ _ _ _ _ (addTile5 _ _ _ _ _ _ y) ?_
    refine View.allAt_cons_unit _ _ _ _ _ (addTile4 _ _ _ _ _ _ y) ?_
    refine View.allAt_cons_unit _ _ _ _ _ (addTile3 _ _ _ _ _ _ y) ?_
    refine View.allAt_cons_unit _ _ _ _ _ (addTile2 _ _ _ _ _ _ y) ?_
    refine View.allAt_cons_unit _ _ _ _ _ (addTile1 _ _ _ _ _ _ y) ?_
    refine View.allAt_cons_unit _ _ _ _ _ (addTile0 _ _ _ _ _ _ y) ?_
    exact View.allAt_nil _ _
  · rw [outsAt0_B m c t (by omega) (by omega) (by omega) (by omega) (by omega) (by omega) (by omega) (by omega) (by omega) (by omega)
      (by omega) (by omega) (by omega) (by omega) (by omega) (by omega) (by omega) (by omega)]
    dsimp only
    unfold out0_B_13
    frame_out
    refine View.canon_eq_of_allAt _ y _ (View.cover_of_tiledBy _ ![1, 1024, 256] (by sl_kernel_rfl) y) ?_
    refine View.allAt_cons_unit _ _ _ _ _ (addTile5 _ _ _ _ _ _ y) ?_
    refine View.allAt_cons_unit _ _ _ _ _ (addTile4 _ _ _ _ _ _ y) ?_
    refine View.allAt_cons_unit _ _ _ _ _ (addTile3 _ _ _ _ _ _ y) ?_
    refine View.allAt_cons_unit _ _ _ _ _ (addTile2 _ _ _ _ _ _ y) ?_
    refine View.allAt_cons_unit _ _ _ _ _ (addTile1 _ _ _ _ _ _ y) ?_
    refine View.allAt_cons_unit _ _ _ _ _ (addTile0 _ _ _ _ _ _ y) ?_
    exact View.allAt_nil _ _

/-! ## The sums over the points -/

/-- The grid point at a position, and past the grid nothing. -/
def upTo (f : Fin cfg0.N → EReal) (s : ℕ) : EReal := if h : s < cfg0.N then f ⟨s, h⟩ else 0

theorem upTo_of (f : Fin cfg0.N → EReal) (s : ℕ) (h : s < cfg0.N) : upTo f s = f ⟨s, h⟩ := dif_pos h

theorem sum12 (k : Fin 1024) (z : Fin 1) : ∀ (n : ℕ) (h : n < cfg0.N), (outsAt0 m c n h).2.2.2.1 (ix2 z k)
    = ∑ s ∈ Finset.range (n + 1), upTo (fun t => dnBlock m c t (ix2 z k)) s
  | 0, h => by
    rw [Finset.sum_range_one, upTo_of _ _ h]
    exact congrFun (out12_first m c ⟨0, h⟩ rfl) _
  | n + 1, h => by
    rw [Finset.sum_range_succ, upTo_of _ _ h, ← sum12 k z n (by omega)]
    refine (congrFun (out12_next m c ⟨n + 1, h⟩ (Nat.succ_ne_zero n)) _).trans ?_
    have e (a b : FVec Ideal S1x1024 .f32) : k0_pay36 (F := Ideal) a b (ix2 z k) = b (ix2 z k) + a (ix2 z k) := by
      pointwise [k0_pay36]
    exact e _ _

theorem sum13 (y : S4x1024x768.Idx) : ∀ (n : ℕ) (h : n < cfg0.N), (outsAt0 m c n h).2.2.2.2 y
    = ∑ s ∈ Finset.range (n + 1), upTo (fun t => dwPoint m c t y) s
  | 0, h => by
    rw [Finset.sum_range_one, upTo_of _ _ h]
    exact out13_first m c ⟨0, h⟩ rfl y
  | n + 1, h => by
    rw [Finset.sum_range_succ, upTo_of _ _ h, ← sum13 y n (by omega)]
    exact out13_next m c ⟨n + 1, h⟩ (Nat.succ_ne_zero n) y

/-- The points' sums of their rows are the sum over all rows. -/
theorem sum_points (f : Fin cfg0.N → EReal) (g : Fin 2 → Fin 2048 → EReal) (h : ∀ t, f t = ∑ r : Fin 256, g (bOf t) (lOf t r)) :
    ∑ s ∈ Finset.range 16, upTo f s = ∑ b : Fin 2, ∑ l : Fin 2048, g b l := by
  rw [Finset.sum_range, Fin.sum_univ_tiles 2 8 rfl]
  refine Finset.sum_congr rfl fun b _ => ?_
  rw [Fin.sum_univ_tiles 8 256 rfl]
  refine Finset.sum_congr rfl fun j _ => ?_
  have hj := j.isLt
  have hb := b.isLt
  refine (upTo_of f _ (show (b : ℕ) * 8 + (j : ℕ) < 16 by omega)).trans ((h _).trans (Finset.sum_congr rfl fun r _ => ?_))
  exact congrArg₂ g (Fin.ext (by show ((b : ℕ) * 8 + j) / 8 = b; omega))
    (Fin.ext (by show ((b : ℕ) * 8 + j) % 8 * 256 + (r : ℕ) = j * 256 + r; omega))

theorem last : ∀ t : Fin cfg0.N, ((cfg0.win 12).flush t = true → t.val = 15) ∧ ((cfg0.win 13).flush t = true → t.val = 15) :=
  by decide +kernel

/-! ## The arrays after the run -/

theorem final_dx : (dats m 0 c).arrAt 9 cfg0.N
    = hDx (aX m c) (aSC m c) (aG m c) (aW m c) (aU m c) (aV m c) (aD m c) (aAD m c) := by
  refine (dats m 0 c).arrAt_eq_of_covers 9 _ (by decide +kernel) fun t hf y => ?_
  blk_simp
  rw [after0_9, out9]
  idx_vars y
  have e : (win0_9.blk t).view.emb (ix3 y0 y1 y2) = ix3 (bOf t) (lOf t y1) y2 := by
    blk_ext [bOf, lOf, idx t]
  refine (dx_at _ _ _ _ _ _ _ _ y1 y2 y0).trans (Eq.trans ?_ ((congrArg _ e).trans (hDx_at _ _ _ _ _ _ _ _ _ _ _)).symm)
  rw [blk_x, blk_cot, blk_sc, blk_g, blk_ad]

theorem final_dn : (dats m 0 c).arrAt 12 cfg0.N = hDg (aX m c) (aSC m c) (aW m c) (aU m c) (aV m c) (aD m c) := by
  refine (dats m 0 c).arrAt_eq_of_covers 12 _ (by decide +kernel) fun t hf y => ?_
  blk_simp
  rw [after0_12]
  idx_vars y
  have e : (win0_12.blk t).view.emb (ix2 y0 y1) = ix2 y0 y1 := by
    blk_ext [idx t]
  refine (sum12 m c y1 y0 t.val t.isLt).trans (Eq.trans ?_ ((congrArg _ e).trans (hDg_at _ _ _ _ _ _ _ _)).symm)
  rw [(last t).1 hf]
  refine sum_points _ _ fun t => ?_
  refine (dgain_at _ _ _ _ _ _ y1 y0).trans (Finset.sum_congr rfl fun r _ => ?_)
  rw [blk_x, blk_cot, blk_sc]

theorem cot_eq (b : Fin 2) (l : Fin 2048) (J : Fin 3072) :
    cot3 (rowOf (aU m c) b l) (rowOf (aV m c) b l) (rowOf (aD m c) b l) J = hCot (aU m c) (aV m c) (aD m c) (ix3 b l J) := by
  have hJ := J.isLt
  by_cases h : (J : ℕ) < 1024
  · exact (cot3_0 ⟨J, h⟩ rfl).trans (hCot_0 _ _ _ b l J ⟨J, h⟩ rfl).symm
  by_cases h' : (J : ℕ) < 2048
  · have e : (J : ℕ) = 1024 + (⟨(J : ℕ) - 1024, by omega⟩ : Fin 1024) := by show (J : ℕ) = 1024 + ((J : ℕ) - 1024); omega
    exact (cot3_1 _ e).trans (hCot_1 _ _ _ b l J _ e).symm
  · have e : (J : ℕ) = 2048 + (⟨(J : ℕ) - 2048, by omega⟩ : Fin 1024) := by show (J : ℕ) = 2048 + ((J : ℕ) - 2048); omega
    exact (cot3_2 _ e).trans (hCot_2 _ _ _ b l J _ e).symm

theorem final_dw : (dats m 0 c).arrAt 13 cfg0.N = hDw (aX m c) (aSH m c) (aSC m c) (aG m c) (aU m c) (aV m c) (aD m c) := by
  refine (dats m 0 c).arrAt_eq_of_covers 13 _ (by decide +kernel) fun t hf y => ?_
  blk_simp
  rw [after0_13]
  idx_vars y
  have e : (win0_13.blk t).view.emb (ix3 y0 y1 y2) = ix3 y0 y1 y2 := by
    blk_ext [idx t]
  refine (sum13 m c (ix3 y0 y1 y2) t.val t.isLt).trans (Eq.trans ?_ ((congrArg _ e).trans (hDw_at _ _ _ _ _ _ _ _ _ _)).symm)
  rw [(last t).2 hf]
  refine sum_points _ _ fun t => ?_
  show dwAdd _ _ _ _ y0 y1 y2 = _
  unfold dwAdd
  refine Finset.sum_congr rfl fun r _ => ?_
  rw [mul_comm, blk_u, blk_v, blk_d, cot_eq, act_at, blk_x, blk_sh, blk_sc, blk_g]

end Cert.Kernel3Ideal.Array

end
-- ==== Proof.InHost.lean ====
/- The host's modulated norm of latent and context rows, and its projection, read at an index. -/
module

public import proofs.«01_k».proof.Proof.Gen.Reference4Ideal
public import proofs.«01_k».proof.Proof.ProjHost
public import Idealize.ShloMosaic.Lib.Pointwise

@[expose] public section

set_option maxRecDepth 16384

noncomputable section

namespace Cert.In

open Idealize.ShloMosaic Idealize.ShloMosaic.TcCoe Idealize.SL.Sem Cert.Reference4Ideal Cert.Reference4Ideal.Gen
open Cert.Proj (Row msq gain act hAct hAct_at div_1024 gOf)

variable (X : FVec Ideal S2x2304x1024 .f32) (Y : FVec Ideal S2x256x1024 .f32) (SH SC : FVec Ideal S2x2x1x1024 .f32)
  (G : FVec Ideal S1x1024 .f32) (b : Fin 2) (k : Fin 1024)

/-- A row of the latent and context rows. -/
abbrev xRow (l : Fin 2304) : Row := fun k => X (ix3 b l k)
/-- A modulation's row, of the latent rows or of the context rows. -/
abbrev modAt (M : FVec Ideal S2x2x1x1024 .f32) (b s : Fin 2) : Row := fun k => M (ix4 b s 0 k)
/-- Which modulation a row takes. -/
def seg (l : Fin 2304) : Fin 2 := if (l : ℕ) < 2048 then 0 else 1

/-- The latent rows. -/
def hLat : FVec Ideal S2x2048x1024 .f32 := extractStridedSlice S2x2048x1024 ![0, 0, 0] X slices_S2x2304x1024_S2x2048x1024_0_0_0
/-- The context rows. -/
def hCtx : FVec Ideal S2x256x1024 .f32 := extractStridedSlice S2x256x1024 ![0, 2048, 0] X slices_S2x2304x1024_S2x256x1024_0_2048_0

theorem hLat_at (l : Fin 2048) : hLat X (ix3 b l k) = X (ix3 b ⟨l, by omega⟩ k) := by
  pointwise [hLat]

theorem hCtx_at (l : Fin 256) : hCtx X (ix3 b l k) = X (ix3 b ⟨2048 + l, by omega⟩ k) := by
  pointwise [hCtx]

/-- The context rows' inverse root mean squares. -/
def cInv : FVec Ideal S2x256x1 .f32 :=
  Host.rsqrt (addf (Host.divf (broadcastInDim S2x256x1 ![0, 1] bcast_S2x256_S2x256x1_0_1
      (Host.reduceAdd (mulf Y Y) (constant S_ .f32 0x00000000#32) reducesTo_S2x256x1024_S2x256_d2 h_S_))
    (broadcastInDim S2x256x1 ![] bcast_S_S2x256x1 (constant S_ .f32 0x44800000#32)))
    (broadcastInDim S2x256x1 ![] bcast_S_S2x256x1 (constant S_ .f32 0x358637BD#32)))

theorem cInv_at (l : Fin 256) (z : Fin 1) : cInv Y (ix3 b l z) = Proj.inv (fun k => Y (ix3 b l k)) := by
  unfold Proj.inv msq
  rw [← div_1024]
  pointwise [cInv]

/-- The context rows' modulation. -/
def cMod (M : FVec Ideal S2x2x1x1024 .f32) : FVec Ideal S2x1x1024 .f32 :=
  shapeCast _ (extractStridedSlice S2x1x1x1024 ![0, 1, 0, 0] M slices_S2x2x1x1024_S2x1x1x1024_0_1_0_0) shapeCasts_S2x1x1x1024_S2x1x1024

theorem cMod_at (M : FVec Ideal S2x2x1x1024 .f32) (z : Fin 1) : cMod M (ix3 b z k) = modAt M b 1 k := by
  pointwise [cMod]

/-- The modulation's factor. -/
def cGain : FVec Ideal S2x1x1024 .f32 :=
  addf (broadcastInDim S2x1x1024 ![] bcast_S_S2x1x1024 (constant S_ .f32 0x3F800000#32)) (cMod SC)

theorem cGain_at (z : Fin 1) : cGain SC (ix3 b z k) = gain (modAt SC b 1) k := by
  unfold gain
  rw [← cMod_at b k SC z]
  pointwise [cGain]

/-- The gain spread over the rows. -/
def cG : FVec Ideal S2x256x1024 .f32 :=
  broadcastInDim S2x256x1024 ![0, 1, 2] bcast_S1x1x1024_S2x256x1024_0_1_2
    (broadcastInDim S1x1x1024 ![1, 2] bcast_S1x1024_S1x1x1024_1_2 G)

theorem cG_at (l : Fin 256) : cG G (ix3 b l k) = gOf G k := by
  pointwise [cG]

/-- The context rows' modulated norm. -/
def cAct : FVec Ideal S2x256x1024 .f32 :=
  addf (mulf (mulf (mulf Y (broadcastInDim S2x256x1024 ![0, 1, 2] bcast_S2x256x1_S2x256x1024_0_1_2 (cInv Y))) (cG G))
    (broadcastInDim S2x256x1024 ![0, 1, 2] bcast_S2x1x1024_S2x256x1024_0_1_2 (cGain SC)))
    (broadcastInDim S2x256x1024 ![0, 1, 2] bcast_S2x1x1024_S2x256x1024_0_1_2 (cMod SH))

theorem cAct_at (l : Fin 256) : cAct Y SH SC G (ix3 b l k)
    = act (fun k => Y (ix3 b l k)) (modAt SH b 1) (modAt SC b 1) (gOf G) k := by
  unfold act
  rw [← cInv_at Y b l 0, ← cG_at G b k l, ← cGain_at SC b k 0, ← cMod_at b k SH 0]
  pointwise [cAct]

/-- The modulated norm of a row of either kind. -/
abbrev actOf (l : Fin 2304) : Row := act (xRow X b l) (modAt SH b (seg l)) (modAt SC b (seg l)) (gOf G)

theorem lat_actOf (l : Fin 2304) (h : (l : ℕ) < 2048) : hAct (hLat X) SH SC G (ix3 b ⟨l, h⟩ k) = actOf X SH SC G b l k := by
  refine (hAct_at _ _ _ _ _ _ _).trans ?_
  have e : seg l = 0 := if_pos h
  have e' : Cert.Proj.rowOf (hLat X) b ⟨l, h⟩ = xRow X b l := funext fun k => hLat_at X b k ⟨l, h⟩
  unfold actOf
  rw [e, e']

theorem ctx_actOf (l : Fin 2304) (h : ¬(l : ℕ) < 2048) :
    cAct (hCtx X) SH SC G (ix3 b ⟨(l : ℕ) - 2048, by omega⟩ k) = actOf X SH SC G b l k := by
  refine (cAct_at _ _ _ _ _ _ _).trans ?_
  have e : seg l = 1 := if_neg h
  have e' : (fun k => hCtx X (ix3 b ⟨(l : ℕ) - 2048, by omega⟩ k)) = xRow X b l := funext fun k => (hCtx_at X b k _).trans
    (congrArg (fun i => X (ix3 b i k)) (Fin.ext (by show 2048 + ((l : ℕ) - 2048) = l; omega)))
  unfold actOf
  rw [e, e']

/-! ## The projection -/

variable (W : FVec Ideal S1024x3072 .bf16)

/-- A row's projection, at a column of the weights. -/
def projAt {e : ℕ} (W : FVec Ideal ⟨2, ![1024, e]⟩ .bf16) (a : Row) (j : Fin e) : EReal := ∑ k, a k * W (ix2 k j)

/-- All rows' projection. -/
def hProj : FVec Ideal S2x2304x3072 .f32 :=
  concatenate S2x2304x3072 1 [⟨S2x2048x3072, Host.dotGeneral dot_S2x2048x1024_S1024x3072_S2x2048x3072_2_0_01_1_n_n none
      (hAct (hLat X) SH SC G) (extf .f32 W bitsLt_bf16_f32)⟩,
    ⟨S2x256x3072, Host.dotGeneral dot_S2x256x1024_S1024x3072_S2x256x3072_2_0_01_1_n_n none
      (cAct (hCtx X) SH SC G) (extf .f32 W bitsLt_bf16_f32)⟩] concatenates_S2x2048x3072_S2x256x3072_S2x2304x3072_d1

theorem hProj_at (l : Fin 2304) (j : Fin 3072) : hProj X SH SC G W (ix3 b l j) = projAt W (actOf X SH SC G b l) j := by
  unfold projAt
  by_cases h : (l : ℕ) < 2048
  · simp only [← lat_actOf X SH SC G b _ l h]
    unfold hProj
    generalize hAct (hLat X) SH SC G = A
    generalize cAct (hCtx X) SH SC G = C
    pointwise [h]
  · simp only [← ctx_actOf X SH SC G b _ l h]
    unfold hProj
    generalize hAct (hLat X) SH SC G = A
    generalize cAct (hCtx X) SH SC G = C
    have h' : (l : ℕ) - 2048 < 256 := by omega
    pointwise [h, h']

end Cert.In

end
-- ==== Proof.CvIn.lean ====
/- What the convolution mixer's input projection leaves in its arrays. -/
module

public import proofs.«01_k».proof.Proof.Gen.Kernel4Ideal.Value
public import proofs.«01_k».proof.Proof.InHost
public import Idealize.ShloMosaic.Lib.Claim
public import Idealize.ShloMosaic.Lib.Pointwise
public import Idealize.ShloMosaic.Lib.Pipeline.ValueKit

@[expose] public section

set_option maxRecDepth 16384

noncomputable section

namespace Cert.Kernel4Ideal.Array

open Idealize.ShloMosaic Idealize.ShloMosaic.TcCoe Idealize.SL.Sem Cert.Kernel4Ideal Cert.Kernel4Ideal.Gen
open Cert.In
open Cert.Proj (Row act msq gain gOf)

/-! ## A block -/

theorem z_at (X : FVec Ideal S1x256x1024 .f32) (SH SC : FVec Ideal S1x1x1x1024 .f32) (G : FVec Ideal S1x1024 .f32)
    (W : FVec Ideal S1024x3072 .bf16) (r : Fin 256) (j : Fin 3072) : k0_pay3 (F := Ideal) X SH SC G W (ix2 r j)
    = projAt W (act (fun k => X (ix3 0 r k)) (fun k => SH (ix4 0 0 0 k)) (fun k => SC (ix4 0 0 0 k)) (gOf G)) j := by
  unfold projAt act gain Proj.inv msq
  pointwise [k0_pay3]

theorem idx : ∀ t : Fin cfg0.N, win0_0.index t = ![t.val / 9, t.val % 9, 0] ∧ win0_1.index t = ![t.val / 9, t.val % 9 / 8, 0, 0]
    ∧ win0_2.index t = ![t.val / 9, t.val % 9 / 8, 0, 0] ∧ win0_3.index t = ![0, 0] ∧ win0_4.index t = ![0, 0]
    ∧ win0_5.index t = ![t.val / 9, t.val % 9, 0] ∧ win0_6.index t = ![t.val / 9, t.val % 9, 0]
    ∧ win0_7.index t = ![t.val / 9, t.val % 9, 0] ∧ t.val < 18 :=
  (by decide +kernel : ∀ t : Fin grid0.N, _)

/-- The batch element of a grid point. -/
def bOf (t : Fin cfg0.N) : Fin 2 := ⟨t.val / 9, by have := (idx t).2.2.2.2.2.2.2.2; omega⟩
/-- The position of a grid point's row. -/
def lOf (t : Fin cfg0.N) (r : Fin 256) : Fin 2304 := ⟨t.val % 9 * 256 + r, by omega⟩

theorem seg_of (t : Fin cfg0.N) (r : Fin 256) : ((seg (lOf t r) : Fin 2) : ℕ) = t.val % 9 / 8 := by
  unfold seg lOf
  split <;> rename_i h <;> simp only at h ⊢
  · show 0 = _; omega
  · show 1 = _; omega

variable (m : (ℓ : Loc nD τ sig) → Buf (Elt Ideal) ℓ) (c : Dev nD) (t : Fin cfg0.N)

/-- The arrays at launch. -/
abbrev aX : FVec Ideal S2x2304x1024 .f32 := m ((c.tc : Thread nD τ).loc main_arg0)
@[inherit_doc aX] abbrev aSH : FVec Ideal S2x2x1x1024 .f32 := m ((c.tc : Thread nD τ).loc main_arg1)
@[inherit_doc aX] abbrev aSC : FVec Ideal S2x2x1x1024 .f32 := m ((c.tc : Thread nD τ).loc main_arg2)
@[inherit_doc aX] abbrev aG : FVec Ideal S1x1024 .f32 := m ((c.tc : Thread nD τ).loc main_arg3)
@[inherit_doc aX] abbrev aW : FVec Ideal S1024x3072 .bf16 := m ((c.tc : Thread nD τ).loc main_arg4)

theorem blk_x (r : Fin 256) (k : Fin 1024) : iblk m c 0 t (ix3 0 r k) = aX m c (ix3 (bOf t) (lOf t r) k) := by
  blk_ext [iblk, V, bOf, lOf, idx t]

theorem blk_sh (r : Fin 256) (k : Fin 1024) : iblk m c 1 t (ix4 0 0 0 k) = aSH m c (ix4 (bOf t) (seg (lOf t r)) 0 k) := by
  blk_ext [iblk, V, bOf, seg_of t r, idx t]

theorem blk_sc (r : Fin 256) (k : Fin 1024) : iblk m c 2 t (ix4 0 0 0 k) = aSC m c (ix4 (bOf t) (seg (lOf t r)) 0 k) := by
  blk_ext [iblk, V, bOf, seg_of t r, idx t]

theorem blk_g (k : Fin 1024) : iblk m c 3 t (ix2 0 k) = aG m c (ix2 0 k) := by
  blk_ext [iblk, V, idx t]

theorem blk_w (k : Fin 1024) (j : Fin 3072) : iblk m c 4 t (ix2 k j) = aW m c (ix2 k j) := by
  blk_ext [iblk, V, idx t]

/-- A block's projection is the array's. -/
theorem z_blk (r : Fin 256) (j : Fin 3072) : k0_pay3 (iblk m c 0 t) (iblk m c 1 t) (iblk m c 2 t) (iblk m c 3 t) (iblk m c 4 t) (ix2 r j)
    = hProj (aX m c) (aSH m c) (aSC m c) (aG m c) (aW m c) (ix3 (bOf t) (lOf t r) j) := by
  refine (z_at _ _ _ _ _ r j).trans (Eq.trans ?_ (hProj_at _ _ _ _ _ _ _ _).symm)
  unfold projAt
  refine Finset.sum_congr rfl fun k _ => congrArg₂ (· * ·) (congrFun (congr (congr (congrArg₂ act ?_ ?_) ?_) ?_) k) (blk_w m c t k j)
  · exact funext fun k => blk_x m c t r k
  · exact funext fun k => blk_sh m c t r k
  · exact funext fun k => blk_sc m c t r k
  · exact funext fun k => blk_g m c t k

theorem out5 : out0_5 (iblk m c 0 t) (iblk m c 1 t) (iblk m c 2 t) (iblk m c 3 t) (iblk m c 4 t)
    = k0_pay6 (iblk m c 0 t) (iblk m c 1 t) (iblk m c 2 t) (iblk m c 3 t) (iblk m c 4 t) := by
  unfold out0_5
  frame_out

theorem out6 : out0_6 (iblk m c 0 t) (iblk m c 1 t) (iblk m c 2 t) (iblk m c 3 t) (iblk m c 4 t)
    = k0_pay1 (k0_pay4 (iblk m c 0 t) (iblk m c 1 t) (iblk m c 2 t) (iblk m c 3 t) (iblk m c 4 t)) := by
  unfold out0_6
  frame_out

theorem out7 : out0_7 (iblk m c 0 t) (iblk m c 1 t) (iblk m c 2 t) (iblk m c 3 t) (iblk m c 4 t)
    = k0_pay2 (k0_pay5 (iblk m c 0 t) (iblk m c 1 t) (iblk m c 2 t) (iblk m c 3 t) (iblk m c 4 t)) := by
  unfold out0_7
  frame_out

/-- The projection's three bands. -/
abbrev out (o : Fin 3 → ℕ) (h : Cert.Reference4Ideal.S2x2304x3072.Slices o S2x2304x1024) : FVec Ideal S2x2304x1024 .f32 :=
  extractStridedSlice S2x2304x1024 o (hProj (aX m c) (aSH m c) (aSC m c) (aG m c) (aW m c)) h

theorem final5 (h) : (dats m 0 c).arrAt 5 cfg0.N = out m c ![0, 0, 0] h := by
  refine (dats m 0 c).arrAt_eq_of_covers 5 _ (by decide +kernel) fun t hf y => ?_
  blk_simp
  rw [after0_5, out5]
  idx_vars y
  have e : (win0_5.blk t).view.emb (ix3 y0 y1 y2) = ix3 (bOf t) (lOf t y1) y2 := by
    blk_ext [bOf, lOf, idx t]
  have e' : out m c ![0, 0, 0] h (ix3 (bOf t) (lOf t y1) y2)
      = hProj (aX m c) (aSH m c) (aSC m c) (aG m c) (aW m c) (ix3 (bOf t) (lOf t y1) ⟨y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay6
  generalize k0_pay3 (iblk m c 0 t) (iblk m c 1 t) (iblk m c 2 t) (iblk m c 3 t) (iblk m c 4 t) = P
  pointwise []

theorem final6 (h) : (dats m 0 c).arrAt 6 cfg0.N = out m c ![0, 0, 1024] h := by
  refine (dats m 0 c).arrAt_eq_of_covers 6 _ (by decide +kernel) fun t hf y => ?_
  blk_simp
  rw [after0_6, out6]
  idx_vars y
  have e : (win0_6.blk t).view.emb (ix3 y0 y1 y2) = ix3 (bOf t) (lOf t y1) y2 := by
    blk_ext [bOf, lOf, idx t]
  have e' : out m c ![0, 0, 1024] h (ix3 (bOf t) (lOf t y1) y2)
      = hProj (aX m c) (aSH m c) (aSC m c) (aG m c) (aW m c) (ix3 (bOf t) (lOf t y1) ⟨1024 + y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay4
  generalize k0_pay3 (iblk m c 0 t) (iblk m c 1 t) (iblk m c 2 t) (iblk m c 3 t) (iblk m c 4 t) = P
  pointwise [k0_pay1]

theorem final7 (h) : (dats m 0 c).arrAt 7 cfg0.N = out m c ![0, 0, 2048] h := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  have e' : out m c ![0, 0, 2048] h (ix3 (bOf t) (lOf t y1) y2)
      = hProj (aX m c) (aSH m c) (aSC m c) (aG m c) (aW m c) (ix3 (bOf t) (lOf t y1) ⟨2048 + y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay5
  generalize k0_pay3 (iblk m c 0 t) (iblk m c 1 t) (iblk m c 2 t) (iblk m c 3 t) (iblk m c 4 t) = P
  pointwise [k0_pay2]

end Cert.Kernel4Ideal.Array

end
-- ==== Proof.PlIn.lean ====
/- What the pooling mixer's input projection leaves in its arrays. -/
module

public import proofs.«01_k».proof.Proof.Gen.Kernel5Ideal.Value
public import proofs.«01_k».proof.Proof.InHost
public import proofs.«01_k».proof.Proof.Gen.Reference5Ideal
public import Idealize.ShloMosaic.Lib.Claim
public import Idealize.ShloMosaic.Lib.Pointwise
public import Idealize.ShloMosaic.Lib.Pipeline.ValueKit

@[expose] public section

set_option maxRecDepth 16384

noncomputable section

namespace Cert.Kernel5Ideal.Array

open Idealize.ShloMosaic Idealize.ShloMosaic.TcCoe Idealize.SL.Sem Cert.Kernel5Ideal Cert.Kernel5Ideal.Gen
open Cert.In hiding hProj hProj_at
open Cert.Proj (Row act hAct msq gain gOf)

/-! ## The host's projection -/

/-- All rows' projection. -/
def hProj (X : FVec Ideal S2x2304x1024 .f32) (SH SC : FVec Ideal S2x2x1x1024 .f32) (G : FVec Ideal S1x1024 .f32)
    (W : FVec Ideal S1024x2048 .bf16) : FVec Ideal Cert.Reference5Ideal.S2x2304x2048 .f32 :=
  concatenate Cert.Reference5Ideal.S2x2304x2048 1
    [⟨Cert.Reference5Ideal.S2x2048x2048, Host.dotGeneral Cert.Reference5Ideal.dot_S2x2048x1024_S1024x2048_S2x2048x2048_2_0_01_1_n_n none
      (hAct (hLat X) SH SC G) (extf .f32 W bitsLt_bf16_f32)⟩,
    ⟨Cert.Reference5Ideal.S2x256x2048, Host.dotGeneral Cert.Reference5Ideal.dot_S2x256x1024_S1024x2048_S2x256x2048_2_0_01_1_n_n none
      (cAct (hCtx X) SH SC G) (extf .f32 W bitsLt_bf16_f32)⟩]
    Cert.Reference5Ideal.Gen.concatenates_S2x2048x2048_S2x256x2048_S2x2304x2048_d1

theorem hProj_at (X : FVec Ideal S2x2304x1024 .f32) (SH SC : FVec Ideal S2x2x1x1024 .f32) (G : FVec Ideal S1x1024 .f32)
    (W : FVec Ideal S1024x2048 .bf16) (b : Fin 2) (l : Fin 2304) (j : Fin 2048) :
    hProj X SH SC G W (ix3 b l j) = projAt W (actOf X SH SC G b l) j := by
  unfold projAt
  by_cases h : (l : ℕ) < 2048
  · simp only [← lat_actOf X SH SC G b _ l h]
    unfold hProj
    generalize hAct (hLat X) SH SC G = A
    generalize cAct (hCtx X) SH SC G = C
    pointwise [h]
  · simp only [← ctx_actOf X SH SC G b _ l h]
    unfold hProj
    generalize hAct (hLat X) SH SC G = A
    generalize cAct (hCtx X) SH SC G = C
    have h' : (l : ℕ) - 2048 < 256 := by omega
    pointwise [h, h']

/-! ## A block -/

theorem z_at (X : FVec Ideal S1x256x1024 .f32) (SH SC : FVec Ideal S1x1x1x1024 .f32) (G : FVec Ideal S1x1024 .f32)
    (W : FVec Ideal S1024x2048 .bf16) (r : Fin 256) (j : Fin 2048) : k0_pay2 (F := Ideal) X SH SC G W (ix2 r j)
    = projAt W (act (fun k => X (ix3 0 r k)) (fun k => SH (ix4 0 0 0 k)) (fun k => SC (ix4 0 0 0 k)) (gOf G)) j := by
  unfold projAt act gain Proj.inv msq
  pointwise [k0_pay2]

theorem idx : ∀ t : Fin cfg0.N, win0_0.index t = ![t.val / 9, t.val % 9, 0] ∧ win0_1.index t = ![t.val / 9, t.val % 9 / 8, 0, 0]
    ∧ win0_2.index t = ![t.val / 9, t.val % 9 / 8, 0, 0] ∧ win0_3.index t = ![0, 0] ∧ win0_4.index t = ![0, 0]
    ∧ win0_5.index t = ![t.val / 9, t.val % 9, 0] ∧ win0_6.index t = ![t.val / 9, t.val % 9, 0]
    ∧ t.val < 18 :=
  (by decide +kernel : ∀ t : Fin grid0.N, _)

/-- The batch element of a grid point. -/
def bOf (t : Fin cfg0.N) : Fin 2 := ⟨t.val / 9, by have := (idx t).2.2.2.2.2.2.2; omega⟩
/-- The position of a grid point's row. -/
def lOf (t : Fin cfg0.N) (r : Fin 256) : Fin 2304 := ⟨t.val % 9 * 256 + r, by omega⟩

theorem seg_of (t : Fin cfg0.N) (r : Fin 256) : ((seg (lOf t r) : Fin 2) : ℕ) = t.val % 9 / 8 := by
  unfold seg lOf
  split <;> rename_i h <;> simp only at h ⊢
  · show 0 = _; omega
  · show 1 = _; omega

variable (m : (ℓ : Loc nD τ sig) → Buf (Elt Ideal) ℓ) (c : Dev nD) (t : Fin cfg0.N)

/-- The arrays at launch. -/
abbrev aX : FVec Ideal S2x2304x1024 .f32 := m ((c.tc : Thread nD τ).loc main_arg0)
@[inherit_doc aX] abbrev aSH : FVec Ideal S2x2x1x1024 .f32 := m ((c.tc : Thread nD τ).loc main_arg1)
@[inherit_doc aX] abbrev aSC : FVec Ideal S2x2x1x1024 .f32 := m ((c.tc : Thread nD τ).loc main_arg2)
@[inherit_doc aX] abbrev aG : FVec Ideal S1x1024 .f32 := m ((c.tc : Thread nD τ).loc main_arg3)
@[inherit_doc aX] abbrev aW : FVec Ideal S1024x2048 .bf16 := m ((c.tc : Thread nD τ).loc main_arg4)

theorem blk_x (r : Fin 256) (k : Fin 1024) : iblk m c 0 t (ix3 0 r k) = aX m c (ix3 (bOf t) (lOf t r) k) := by
  blk_ext [iblk, V, bOf, lOf, idx t]

theorem blk_sh (r : Fin 256) (k : Fin 1024) : iblk m c 1 t (ix4 0 0 0 k) = aSH m c (ix4 (bOf t) (seg (lOf t r)) 0 k) := by
  blk_ext [iblk, V, bOf, seg_of t r, idx t]

theorem blk_sc (r : Fin 256) (k : Fin 1024) : iblk m c 2 t (ix4 0 0 0 k) = aSC m c (ix4 (bOf t) (seg (lOf t r)) 0 k) := by
  blk_ext [iblk, V, bOf, seg_of t r, idx t]

theorem blk_g (k : Fin 1024) : iblk m c 3 t (ix2 0 k) = aG m c (ix2 0 k) := by
  blk_ext [iblk, V, idx t]

theorem blk_w (k : Fin 1024) (j : Fin 2048) : iblk m c 4 t (ix2 k j) = aW m c (ix2 k j) := by
  blk_ext [iblk, V, idx t]

/-- A block's projection is the array's. -/
theorem z_blk (r : Fin 256) (j : Fin 2048) : k0_pay2 (iblk m c 0 t) (iblk m c 1 t) (iblk m c 2 t) (iblk m c 3 t) (iblk m c 4 t) (ix2 r j)
    = hProj (aX m c) (aSH m c) (aSC m c) (aG m c) (aW m c) (ix3 (bOf t) (lOf t r) j) := by
  refine (z_at _ _ _ _ _ r j).trans (Eq.trans ?_ (hProj_at _ _ _ _ _ _ _ _).symm)
  unfold projAt
  refine Finset.sum_congr rfl fun k _ => congrArg₂ (· * ·) (congrFun (congr (congr (congrArg₂ act ?_ ?_) ?_) ?_) k) (blk_w m c t k j)
  · exact funext fun k => blk_x m c t r k
  · exact funext fun k => blk_sh m c t r k
  · exact funext fun k => blk_sc m c t r k
  · exact funext fun k => blk_g m c t k

theorem out5 : out0_5 (iblk m c 0 t) (iblk m c 1 t) (iblk m c 2 t) (iblk m c 3 t) (iblk m c 4 t)
    = k0_pay4 (iblk m c 0 t) (iblk m c 1 t) (iblk m c 2 t) (iblk m c 3 t) (iblk m c 4 t) := by
  unfold out0_5
  frame_out

theorem out6 : out0_6 (iblk m c 0 t) (iblk m c 1 t) (iblk m c 2 t) (iblk m c 3 t) (iblk m c 4 t)
    = k0_pay1 (k0_pay3 (iblk m c 0 t) (iblk m c 1 t) (iblk m c 2 t) (iblk m c 3 t) (iblk m c 4 t)) := by
  unfold out0_6
  frame_out

/-- The projection's two bands. -/
abbrev out (o : Fin 3 → ℕ) (h : Cert.Reference5Ideal.S2x2304x2048.Slices o S2x2304x1024) : FVec Ideal S2x2304x1024 .f32 :=
  extractStridedSlice S2x2304x1024 o (hProj (aX m c) (aSH m c) (aSC m c) (aG m c) (aW m c)) h

theorem final5 (h) : (dats m 0 c).arrAt 5 cfg0.N = out m c ![0, 0, 0] h := by
  refine (dats m 0 c).arrAt_eq_of_covers 5 _ (by decide +kernel) fun t hf y => ?_
  blk_simp
  rw [after0_5, out5]
  idx_vars y
  have e : (win0_5.blk t).view.emb (ix3 y0 y1 y2) = ix3 (bOf t) (lOf t y1) y2 := by
    blk_ext [bOf, lOf, idx t]
  have e' : out m c ![0, 0, 0] h (ix3 (bOf t) (lOf t y1) y2)
      = hProj (aX m c) (aSH m c) (aSC m c) (aG m c) (aW m c) (ix3 (bOf t) (lOf t y1) ⟨y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay4
  generalize k0_pay2 (iblk m c 0 t) (iblk m c 1 t) (iblk m c 2 t) (iblk m c 3 t) (iblk m c 4 t) = P
  pointwise []

theorem final6 (h) : (dats m 0 c).arrAt 6 cfg0.N = out m c ![0, 0, 1024] h := by
  refine (dats m 0 c).arrAt_eq_of_covers 6 _ (by decide +kernel) fun t hf y => ?_
  blk_simp
  rw [after0_6, out6]
  idx_vars y
  have e : (win0_6.blk t).view.emb (ix3 y0 y1 y2) = ix3 (bOf t) (lOf t y1) y2 := by
    blk_ext [bOf, lOf, idx t]
  have e' : out m c ![0, 0, 1024] h (ix3 (bOf t) (lOf t y1) y2)
      = hProj (aX m c) (aSH m c) (aSC m c) (aG m c) (aW m c) (ix3 (bOf t) (lOf t y1) ⟨1024 + y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay3
  generalize k0_pay2 (iblk m c 0 t) (iblk m c 1 t) (iblk m c 2 t) (iblk m c 3 t) (iblk m c 4 t) = P
  pointwise [k0_pay1]

end Cert.Kernel5Ideal.Array

end
-- ==== Proof.ChIn.lean ====
/- What the chunk mixer's input projection leaves in its arrays. -/
module

public import proofs.«01_k».proof.Proof.Gen.Kernel6Ideal.Value
public import proofs.«01_k».proof.Proof.InHost
public import proofs.«01_k».proof.Proof.Gen.Reference6Ideal
public import Idealize.ShloMosaic.Lib.Claim
public import Idealize.ShloMosaic.Lib.Pointwise
public import Idealize.ShloMosaic.Lib.Pipeline.ValueKit

@[expose] public section

set_option maxRecDepth 16384

noncomputable section

namespace Cert.Kernel6Ideal.Array

open Idealize.ShloMosaic Idealize.ShloMosaic.TcCoe Idealize.SL.Sem Cert.Kernel6Ideal Cert.Kernel6Ideal.Gen
open Cert.In hiding hProj hProj_at
open Cert.Proj (Row act hAct hAct_at rowOf msq gain gOf)

/-! ## The host's projection -/

/-- All rows' projection. -/
def hProj (X : FVec Ideal S2x2048x1024 .f32) (SH SC : FVec Ideal S2x2x1x1024 .f32) (G : FVec Ideal S1x1024 .f32)
    (W : FVec Ideal S1024x3072 .bf16) : FVec Ideal Cert.Reference6Ideal.S2x2048x3072 .f32 :=
  Host.dotGeneral Cert.Reference6Ideal.dot_S2x2048x1024_S1024x3072_S2x2048x3072_2_0_01_1_n_n none (hAct X SH SC G)
    (extf .f32 W bitsLt_bf16_f32)

theorem hProj_at (X : FVec Ideal S2x2048x1024 .f32) (SH SC : FVec Ideal S2x2x1x1024 .f32) (G : FVec Ideal S1x1024 .f32)
    (W : FVec Ideal S1024x3072 .bf16) (b : Fin 2) (l : Fin 2048) (j : Fin 3072) : hProj X SH SC G W (ix3 b l j)
    = projAt W (act (rowOf X b l) (modAt SH b 0) (modAt SC b 0) (gOf G)) j := by
  unfold projAt
  have e : ∀ k, hAct X SH SC G (ix3 b l k) = act (rowOf X b l) (modAt SH b 0) (modAt SC b 0) (gOf G) k :=
    fun k => hAct_at X SH SC G b l k
  simp only [← e]
  unfold hProj
  generalize hAct X SH SC G = A
  pointwise []

/-! ## A block -/

theorem z_at (X : FVec Ideal S1x512x1024 .f32) (SH SC : FVec Ideal S1x1x1x1024 .f32) (G : FVec Ideal S1x1024 .f32)
    (W : FVec Ideal S1024x3072 .bf16) (r : Fin 512) (j : Fin 3072) : k0_pay3 (F := Ideal) X SH SC G W (ix2 r j)
    = projAt W (act (fun k => X (ix3 0 r k)) (fun k => SH (ix4 0 0 0 k)) (fun k => SC (ix4 0 0 0 k)) (gOf G)) j := by
  unfold projAt act gain Proj.inv msq
  pointwise [k0_pay3]

theorem idx : ∀ t : Fin cfg0.N, win0_0.index t = ![t.val / 4, t.val % 4, 0] ∧ win0_1.index t = ![t.val / 4, 0, 0, 0]
    ∧ win0_2.index t = ![t.val / 4, 0, 0, 0] ∧ win0_3.index t = ![0, 0] ∧ win0_4.index t = ![0, 0]
    ∧ win0_5.index t = ![t.val / 4, t.val % 4, 0] ∧ win0_6.index t = ![t.val / 4, t.val % 4, 0]
    ∧ win0_7.index t = ![t.val / 4, t.val % 4, 0] ∧ t.val < 8 :=
  (by decide +kernel : ∀ t : Fin grid0.N, _)

/-- The batch element of a grid point. -/
def bOf (t : Fin cfg0.N) : Fin 2 := ⟨t.val / 4, by have := (idx t).2.2.2.2.2.2.2.2; omega⟩
/-- The position of a grid point's row. -/
def lOf (t : Fin cfg0.N) (r : Fin 512) : Fin 2048 := ⟨t.val % 4 * 512 + r, by omega⟩

variable (m : (ℓ : Loc nD τ sig) → Buf (Elt Ideal) ℓ) (c : Dev nD) (t : Fin cfg0.N)

/-- The arrays at launch. -/
abbrev aX : FVec Ideal S2x2048x1024 .f32 := m ((c.tc : Thread nD τ).loc main_arg0)
@[inherit_doc aX] abbrev aSH : FVec Ideal S2x2x1x1024 .f32 := m ((c.tc : Thread nD τ).loc main_arg1)
@[inherit_doc aX] abbrev aSC : FVec Ideal S2x2x1x1024 .f32 := m ((c.tc : Thread nD τ).loc main_arg2)
@[inherit_doc aX] abbrev aG : FVec Ideal S1x1024 .f32 := m ((c.tc : Thread nD τ).loc main_arg3)
@[inherit_doc aX] abbrev aW : FVec Ideal S1024x3072 .bf16 := m ((c.tc : Thread nD τ).loc main_arg4)

theorem blk_x (r : Fin 512) (k : Fin 1024) : iblk m c 0 t (ix3 0 r k) = aX m c (ix3 (bOf t) (lOf t r) k) := by
  blk_ext [iblk, V, bOf, lOf, idx t]

theorem blk_sh (r : Fin 512) (k : Fin 1024) : iblk m c 1 t (ix4 0 0 0 k) = aSH m c (ix4 (bOf t) 0 0 k) := by
  blk_ext [iblk, V, bOf, idx t]

theorem blk_sc (r : Fin 512) (k : Fin 1024) : iblk m c 2 t (ix4 0 0 0 k) = aSC m c (ix4 (bOf t) 0 0 k) := by
  blk_ext [iblk, V, bOf, idx t]

theorem blk_g (k : Fin 1024) : iblk m c 3 t (ix2 0 k) = aG m c (ix2 0 k) := by
  blk_ext [iblk, V, idx t]

theorem blk_w (k : Fin 1024) (j : Fin 3072) : iblk m c 4 t (ix2 k j) = aW m c (ix2 k j) := by
  blk_ext [iblk, V, idx t]

/-- A block's projection is the array's. -/
theorem z_blk (r : Fin 512) (j : Fin 3072) : k0_pay3 (iblk m c 0 t) (iblk m c 1 t) (iblk m c 2 t) (iblk m c 3 t) (iblk m c 4 t) (ix2 r j)
    = hProj (aX m c) (aSH m c) (aSC m c) (aG m c) (aW m c) (ix3 (bOf t) (lOf t r) j) := by
  refine (z_at _ _ _ _ _ r j).trans (Eq.trans ?_ (hProj_at _ _ _ _ _ _ _ _).symm)
  unfold projAt
  refine Finset.sum_congr rfl fun k _ => congrArg₂ (· * ·) (congrFun (congr (congr (congrArg₂ act ?_ ?_) ?_) ?_) k) (blk_w m c t k j)
  · exact funext fun k => blk_x m c t r k
  · exact funext fun k => blk_sh m c t r k
  · exact funext fun k => blk_sc m c t r k
  · exact funext fun k => blk_g m c t k

theorem out5 : out0_5 (iblk m c 0 t) (iblk m c 1 t) (iblk m c 2 t) (iblk m c 3 t) (iblk m c 4 t)
    = k0_pay6 (iblk m c 0 t) (iblk m c 1 t) (iblk m c 2 t) (iblk m c 3 t) (iblk m c 4 t) := by
  unfold out0_5
  frame_out

theorem out6 : out0_6 (iblk m c 0 t) (iblk m c 1 t) (iblk m c 2 t) (iblk m c 3 t) (iblk m c 4 t)
    = k0_pay1 (k0_pay4 (iblk m c 0 t) (iblk m c 1 t) (iblk m c 2 t) (iblk m c 3 t) (iblk m c 4 t)) := by
  unfold out0_6
  frame_out

theorem out7 : out0_7 (iblk m c 0 t) (iblk m c 1 t) (iblk m c 2 t) (iblk m c 3 t) (iblk m c 4 t)
    = k0_pay2 (k0_pay5 (iblk m c 0 t) (iblk m c 1 t) (iblk m c 2 t) (iblk m c 3 t) (iblk m c 4 t)) := by
  unfold out0_7
  frame_out

/-- The projection's three bands. -/
abbrev out (o : Fin 3 → ℕ) (h : Cert.Reference6Ideal.S2x2048x3072.Slices o S2x2048x1024) : FVec Ideal S2x2048x1024 .f32 :=
  extractStridedSlice S2x2048x1024 o (hProj (aX m c) (aSH m c) (aSC m c) (aG m c) (aW m c)) h

theorem final5 (h) : (dats m 0 c).arrAt 5 cfg0.N = out m c ![0, 0, 0] h := by
  refine (dats m 0 c).arrAt_eq_of_covers 5 _ (by decide +kernel) fun t hf y => ?_
  blk_simp
  rw [after0_5, out5]
  idx_vars y
  have e : (win0_5.blk t).view.emb (ix3 y0 y1 y2) = ix3 (bOf t) (lOf t y1) y2 := by
    blk_ext [bOf, lOf, idx t]
  have e' : out m c ![0, 0, 0] h (ix3 (bOf t) (lOf t y1) y2)
      = hProj (aX m c) (aSH m c) (aSC m c) (aG m c) (aW m c) (ix3 (bOf t) (lOf t y1) ⟨y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay6
  generalize k0_pay3 (iblk m c 0 t) (iblk m c 1 t) (iblk m c 2 t) (iblk m c 3 t) (iblk m c 4 t) = P
  pointwise []

theorem final6 (h) : (dats m 0 c).arrAt 6 cfg0.N = out m c ![0, 0, 1024] h := by
  refine (dats m 0 c).arrAt_eq_of_covers 6 _ (by decide +kernel) fun t hf y => ?_
  blk_simp
  rw [after0_6, out6]
  idx_vars y
  have e : (win0_6.blk t).view.emb (ix3 y0 y1 y2) = ix3 (bOf t) (lOf t y1) y2 := by
    blk_ext [bOf, lOf, idx t]
  have e' : out m c ![0, 0, 1024] h (ix3 (bOf t) (lOf t y1) y2)
      = hProj (aX m c) (aSH m c) (aSC m c) (aG m c) (aW m c) (ix3 (bOf t) (lOf t y1) ⟨1024 + y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay4
  generalize k0_pay3 (iblk m c 0 t) (iblk m c 1 t) (iblk m c 2 t) (iblk m c 3 t) (iblk m c 4 t) = P
  pointwise [k0_pay1]

theorem final7 (h) : (dats m 0 c).arrAt 7 cfg0.N = out m c ![0, 0, 2048] h := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  have e' : out m c ![0, 0, 2048] h (ix3 (bOf t) (lOf t y1) y2)
      = hProj (aX m c) (aSH m c) (aSC m c) (aG m c) (aW m c) (ix3 (bOf t) (lOf t y1) ⟨2048 + y2, by omega⟩) := by
    unfold out
    generalize hProj (aX m c) (aSH m c) (aSC m c) (aG m c) (aW m c) = P
    pointwise []
  refine Eq.trans ?_ (((congrArg _ e).trans e').trans (z_blk m c t y1 _).symm).symm
  unfold k0_pay5
  generalize k0_pay3 (iblk m c 0 t) (iblk m c 1 t) (iblk m c 2 t) (iblk m c 3 t) (iblk m c 4 t) = P
  pointwise [k0_pay2]

end Cert.Kernel6Ideal.Array

end
-- ==== Proof.MlIn.lean ====
/- What the latent attention's input projection leaves in its arrays. -/
module

public import proofs.«01_k».proof.Proof.Gen.Kernel7Ideal.Value
public import proofs.«01_k».proof.Proof.InHost
public import proofs.«01_k».proof.Proof.Gen.Reference7Ideal
public import proofs.«01_k».proof.Proof.Gen.Kernel7Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Kernel7Ideal.Array

open Idealize.ShloMosaic Idealize.ShloMosaic.TcCoe Idealize.SL.Sem Cert.Kernel7Ideal Cert.Kernel7Ideal.Gen
open Cert.In hiding hProj hProj_at
open Cert.Proj (Row act hAct msq gain gOf)

/-! ## The host's projection -/

/-- All rows' projection. -/
def hProj (X : FVec Ideal S2x2304x1024 .f32) (SH SC : FVec Ideal S2x2x1x1024 .f32) (G : FVec Ideal S1x1024 .f32)
    (W : FVec Ideal S1024x1728 .bf16) : FVec Ideal Cert.Reference7Ideal.S2x2304x1728 .f32 :=
  concatenate Cert.Reference7Ideal.S2x2304x1728 1
    [⟨Cert.Reference7Ideal.S2x2048x1728, Host.dotGeneral Cert.Reference7Ideal.dot_S2x2048x1024_S1024x1728_S2x2048x1728_2_0_01_1_n_n none
      (hAct (hLat X) SH SC G) (extf .f32 W bitsLt_bf16_f32)⟩,
    ⟨Cert.Reference7Ideal.S2x256x1728, Host.dotGeneral Cert.Reference7Ideal.dot_S2x256x1024_S1024x1728_S2x256x1728_2_0_01_1_n_n none
      (cAct (hCtx X) SH SC G) (extf .f32 W bitsLt_bf16_f32)⟩]
    Cert.Reference7Ideal.Gen.concatenates_S2x2048x1728_S2x256x1728_S2x2304x1728_d1

theorem hProj_at (X : FVec Ideal S2x2304x1024 .f32) (SH SC : FVec Ideal S2x2x1x1024 .f32) (G : FVec Ideal S1x1024 .f32)
    (W : FVec Ideal S1024x1728 .bf16) (b : Fin 2) (l : Fin 2304) (j : Fin 1728) :
    hProj X SH SC G W (ix3 b l j) = projAt W (actOf X SH SC G b l) j := by
  unfold projAt
  by_cases h : (l : ℕ) < 2048
  · simp only [← lat_actOf X SH SC G b _ l h]
    unfold hProj
    generalize hAct (hLat X) SH SC G = A
    generalize cAct (hCtx X) SH SC G = C
    pointwise [h]
  · simp only [← ctx_actOf X SH SC G b _ l h]
    unfold hProj
    generalize hAct (hLat X) SH SC G = A
    generalize cAct (hCtx X) SH SC G = C
    have h' : (l : ℕ) - 2048 < 256 := by omega
    pointwise [h, h']

/-! ## The padded weights -/

/-- The weights with 64 columns of zeros after the first 320. -/
def wPad (W : FVec Ideal S1024x1728 .bf16) : FVec Ideal S1024x1792 .bf16 :=
  concatenate S1024x1792 1 [⟨S1024x320, extractStridedSlice S1024x320 ![0, 0] W slices_S1024x1728_S1024x320_0_0⟩,
    ⟨S1024x64, broadcastInDim S1024x64 ![] bcast_S_S1024x64 (constant (F := Ideal) S_ .bf16 0x0000#16)⟩,
    ⟨S1024x1408, extractStridedSlice S1024x1408 ![0, 320] W slices_S1024x1728_S1024x1408_0_320⟩]
    concatenates_S1024x320_S1024x64_S1024x1408_S1024x1792_d1

theorem pad_lo (W : FVec Ideal S1024x1728 .bf16) (a : Row) (j : Fin 1792) (h : (j : ℕ) < 320) :
    projAt (wPad W) a j = projAt W a ⟨j, by omega⟩ := by
  unfold projAt
  refine Finset.sum_congr rfl fun k _ => congrArg (_ * ·) ?_
  pointwise [wPad, h]

theorem pad_mid (W : FVec Ideal S1024x1728 .bf16) (a : Row) (j : Fin 1792) (h : ¬(j : ℕ) < 320) (h' : (j : ℕ) - 320 < 64) :
    projAt (wPad W) a j = 0 := by
  unfold projAt
  refine Finset.sum_eq_zero fun k _ => ?_
  have e : wPad W (ix2 k j) = 0 := by
    pointwise [wPad, h, h']
  rw [e, mul_zero]

theorem pad_hi (W : FVec Ideal S1024x1728 .bf16) (a : Row) (j : Fin 1792) (h : 384 ≤ (j : ℕ)) :
    projAt (wPad W) a j = projAt W a ⟨(j : ℕ) - 64, by omega⟩ := by
  unfold projAt
  refine Finset.sum_congr rfl fun k _ => congrArg (_ * ·) ?_
  have h1 : ¬(j : ℕ) < 320 := by omega
  have h2 : ¬(j : ℕ) - 320 < 64 := by omega
  have h3 : (j : ℕ) - 320 - 64 < 1408 := by omega
  have e : wPad W (ix2 k j) = W (ix2 k ⟨320 + ((j : ℕ) - 320 - 64), by omega⟩) := by
    pointwise [wPad, h1, h2, h3]
  exact e.trans (congrArg (fun i => W (ix2 k i)) (Fin.ext (by show 320 + ((j : ℕ) - 320 - 64) = (j : ℕ) - 64; omega)))

/-! ## A block -/

theorem z_at (X : FVec Ideal S1x256x1024 .f32) (SH SC : FVec Ideal S1x1x1x1024 .f32) (G : FVec Ideal S1x1024 .f32)
    (W : FVec Ideal S1024x1792 .bf16) (r : Fin 256) (j : Fin 1792) : k0_pay5 (F := Ideal) X SH SC G W (ix2 r j)
    = projAt W (act (fun k => X (ix3 0 r k)) (fun k => SH (ix4 0 0 0 k)) (fun k => SC (ix4 0 0 0 k)) (gOf G)) j := by
  unfold projAt act gain Proj.inv msq
  pointwise [k0_pay5]

theorem idx : ∀ t : Fin cfg0.N, win0_0.index t = ![t.val / 9, t.val % 9, 0] ∧ win0_1.index t = ![t.val / 9, t.val % 9 / 8, 0, 0]
    ∧ win0_2.index t = ![t.val / 9, t.val % 9 / 8, 0, 0] ∧ win0_3.index t = ![0, 0] ∧ win0_4.index t = ![0, 0]
    ∧ win0_5.index t = ![t.val / 9, t.val % 9, 0] ∧ win0_6.index t = ![t.val / 9, t.val % 9, 0]
    ∧ win0_7.index t = ![t.val / 9, t.val % 9, 0] ∧ win0_8.index t = ![t.val / 9, t.val % 9, 0] ∧ t.val < 18 :=
  (by decide +kernel : ∀ t : Fin grid0.N, _)

/-- The batch element of a grid point. -/
def bOf (t : Fin cfg0.N) : Fin 2 := ⟨t.val / 9, by have := (idx t).2.2.2.2.2.2.2.2.2; omega⟩
/-- The position of a grid point's row. -/
def lOf (t : Fin cfg0.N) (r : Fin 256) : Fin 2304 := ⟨t.val % 9 * 256 + r, by omega⟩

theorem seg_of (t : Fin cfg0.N) (r : Fin 256) : ((seg (lOf t r) : Fin 2) : ℕ) = t.val % 9 / 8 := by
  unfold seg lOf
  split <;> rename_i h <;> simp only at h ⊢
  · show 0 = _; omega
  · show 1 = _; omega

variable (m : (ℓ : Loc nD τ sig) → Buf (Elt Ideal) ℓ) (c : Dev nD) (t : Fin cfg0.N)

/-- The arrays at launch. -/
abbrev aX : FVec Ideal S2x2304x1024 .f32 := m ((c.tc : Thread nD τ).loc main_arg0)
@[inherit_doc aX] abbrev aSH : FVec Ideal S2x2x1x1024 .f32 := m ((c.tc : Thread nD τ).loc main_arg1)
@[inherit_doc aX] abbrev aSC : FVec Ideal S2x2x1x1024 .f32 := m ((c.tc : Thread nD τ).loc main_arg2)
@[inherit_doc aX] abbrev aG : FVec Ideal S1x1024 .f32 := m ((c.tc : Thread nD τ).loc main_arg3)
@[inherit_doc aX] abbrev aW : FVec Ideal S1024x1728 .bf16 := m ((c.tc : Thread nD τ).loc main_arg4)

theorem blk_x (r : Fin 256) (k : Fin 1024) : iblk m c 0 t (ix3 0 r k) = aX m c (ix3 (bOf t) (lOf t r) k) := by
  blk_ext [iblk, V, bOf, lOf, idx t]

theorem blk_sh (r : Fin 256) (k : Fin 1024) : iblk m c 1 t (ix4 0 0 0 k) = aSH m c (ix4 (bOf t) (seg (lOf t r)) 0 k) := by
  blk_ext [iblk, V, bOf, seg_of t r, idx t]

theorem blk_sc (r : Fin 256) (k : Fin 1024) : iblk m c 2 t (ix4 0 0 0 k) = aSC m c (ix4 (bOf t) (seg (lOf t r)) 0 k) := by
  blk_ext [iblk, V, bOf, seg_of t r, idx t]

theorem blk_g (k : Fin 1024) : iblk m c 3 t (ix2 0 k) = aG m c (ix2 0 k) := by
  blk_ext [iblk, V, idx t]

/-- The three pieces of the padded weights. -/
theorem cat_eq {A A' : FVec Ideal S1024x320 .bf16} {B B' : FVec Ideal S1024x64 .bf16} {C C' : FVec Ideal S1024x1408 .bf16}
    (a : A = A') (b : B = B') (c : C = C') :
    concatenate S1024x1792 1 [⟨S1024x320, A⟩, ⟨S1024x64, B⟩, ⟨S1024x1408, C⟩] concatenates_S1024x320_S1024x64_S1024x1408_S1024x1792_d1
    = concatenate S1024x1792 1 [⟨S1024x320, A'⟩, ⟨S1024x64, B'⟩, ⟨S1024x1408, C'⟩]
      concatenates_S1024x320_S1024x64_S1024x1408_S1024x1792_d1 := by
  rw [a, b, c]

theorem V_main_v3 : V m c main_v3 = wPad (aW m c) := by
  show StableHlo.after hostOps0 _ _ = _
  simp only [StableHlo.after_cons, StableHlo.after_nil]
  refine (StableHlo.nary_result _ _ _ _ _ _).trans (cat_eq ?_ ?_ ?_)
  · show HloOp.result _ _ (Proc.devRef .tc main_v0) = _
    after_results_steps
  · show HloOp.result _ _ (Proc.devRef .tc main_v1) = _
    after_results_steps
  · show HloOp.result _ _ (Proc.devRef .tc main_v2) = _
    after_results_steps

theorem blk_w (k : Fin 1024) (j : Fin 1792) : iblk m c 4 t (ix2 k j) = wPad (aW m c) (ix2 k j) := by
  rw [← V_main_v3]
  blk_ext [iblk, idx t]

/-- A row's projection. -/
abbrev zRow (l : Fin 2304) (b : Fin 2) (j : Fin 1792) : EReal :=
  projAt (wPad (aW m c)) (actOf (aX m c) (aSH m c) (aSC m c) (aG m c) b l) j

/-- A block's projection is the array's. -/
theorem z_blk (r : Fin 256) (j : Fin 1792) : k0_pay5 (iblk m c 0 t) (iblk m c 1 t) (iblk m c 2 t) (iblk m c 3 t) (iblk m c 4 t) (ix2 r j)
    = zRow m c (lOf t r) (bOf t) j := by
  refine (z_at _ _ _ _ _ r j).trans ?_
  unfold zRow projAt
  refine Finset.sum_congr rfl fun k _ => congrArg₂ (· * ·) (congrFun (congr (congr (congrArg₂ act ?_ ?_) ?_) ?_) k) (blk_w m c t k j)
  · exact funext fun k => blk_x m c t r k
  · exact funext fun k => blk_sh m c t r k
  · exact funext fun k => blk_sc m c t r k
  · exact funext fun k => blk_g m c t k

/-- All rows' projection, over the arrays at launch. -/
abbrev P : FVec Ideal Cert.Reference7Ideal.S2x2304x1728 .f32 := hProj (aX m c) (aSH m c) (aSC m c) (aG m c) (aW m c)

theorem z_lo (r : Fin 256) (j : Fin 1792) (h : (j : ℕ) < 320) : zRow m c (lOf t r) (bOf t) j
    = P m c (ix3 (bOf t) (lOf t r) ⟨j, by omega⟩) :=
  (pad_lo _ _ j h).trans (hProj_at _ _ _ _ _ _ _ _).symm

theorem z_hi (r : Fin 256) (j : Fin 1792) (h : 384 ≤ (j : ℕ)) : zRow m c (lOf t r) (bOf t) j
    = P m c (ix3 (bOf t) (lOf t r) ⟨(j : ℕ) - 64, by omega⟩) :=
  (pad_hi _ _ j h).trans (hProj_at _ _ _ _ _ _ _ _).symm

theorem out5 : out0_5 (iblk m c 0 t) (iblk m c 1 t) (iblk m c 2 t) (iblk m c 3 t) (iblk m c 4 t)
    = k0_pay1 (k0_pay6 (iblk m c 0 t) (iblk m c 1 t) (iblk m c 2 t) (iblk m c 3 t) (iblk m c 4 t)) := by
  unfold out0_5
  frame_out

theorem out6 : out0_6 (iblk m c 0 t) (iblk m c 1 t) (iblk m c 2 t) (iblk m c 3 t) (iblk m c 4 t)
    = k0_pay2 (k0_pay7 (iblk m c 0 t) (iblk m c 1 t) (iblk m c 2 t) (iblk m c 3 t) (iblk m c 4 t)) := by
  unfold out0_6
  frame_out

theorem out7 : out0_7 (iblk m c 0 t) (iblk m c 1 t) (iblk m c 2 t) (iblk m c 3 t) (iblk m c 4 t)
    = k0_pay3 (k0_pay8 (iblk m c 0 t) (iblk m c 1 t) (iblk m c 2 t) (iblk m c 3 t) (iblk m c 4 t)) := by
  unfold out0_7
  frame_out

theorem out8 : out0_8 (iblk m c 0 t) (iblk m c 1 t) (iblk m c 2 t) (iblk m c 3 t) (iblk m c 4 t)
    = k0_pay4 (k0_pay9 (iblk m c 0 t) (iblk m c 1 t) (iblk m c 2 t) (iblk m c 3 t) (iblk m c 4 t)) := by
  unfold out0_8
  frame_out

theorem final5 (h) : (dats m 0 c).arrAt 5 cfg0.N
    = extractStridedSlice Cert.Reference7Ideal.S2x2304x256 ![0, 0, 0] (P m c) h := by
  refine (dats m 0 c).arrAt_eq_of_covers 5 _ (by decide +kernel) fun t hf y => ?_
  blk_simp
  rw [after0_5, out5]
  idx_vars y
  have e : (win0_5.blk t).view.emb (ix3 y0 y1 y2) = ix3 (bOf t) (lOf t y1) y2 := by
    blk_ext [bOf, lOf, idx t]
  have e' : extractStridedSlice Cert.Reference7Ideal.S2x2304x256 ![0, 0, 0] (P m c) h (ix3 (bOf t) (lOf t y1) y2)
      = P m c (ix3 (bOf t) (lOf t y1) ⟨y2, by omega⟩) := by
    generalize P m c = Q
    pointwise []
  have z : zRow m c (lOf t y1) (bOf t) ⟨y2, by omega⟩ = P m c (ix3 (bOf t) (lOf t y1) ⟨y2, by omega⟩) :=
    z_lo m c t y1 _ (by simp only; omega)
  refine Eq.trans ?_ (((congrArg _ e).trans e').trans (z.symm.trans (z_blk m c t y1 _).symm)).symm
  unfold k0_pay6
  generalize k0_pay5 (iblk m c 0 t) (iblk m c 1 t) (iblk m c 2 t) (iblk m c 3 t) (iblk m c 4 t) = Q
  pointwise [k0_pay1]

theorem final7 (h) : (dats m 0 c).arrAt 7 cfg0.N
    = extractStridedSlice Cert.Reference7Ideal.S2x2304x384 ![0, 0, 320] (P m c) h := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  have e' : extractStridedSlice Cert.Reference7Ideal.S2x2304x384 ![0, 0, 320] (P m c) h (ix3 (bOf t) (lOf t y1) y2)
      = P m c (ix3 (bOf t) (lOf t y1) ⟨320 + y2, by omega⟩) := by
    generalize P m c = Q
    pointwise []
  have z : zRow m c (lOf t y1) (bOf t) ⟨384 + y2, by omega⟩ = P m c (ix3 (bOf t) (lOf t y1) ⟨320 + y2, by omega⟩) :=
    (z_hi m c t y1 _ (by simp only; omega)).trans (congrArg (fun i => P m c (ix3 (bOf t) (lOf t y1) i)) (Fin.ext (by simp only; omega)))
  refine Eq.trans ?_ (((congrArg _ e).trans e').trans (z.symm.trans (z_blk m c t y1 _).symm)).symm
  unfold k0_pay8
  generalize k0_pay5 (iblk m c 0 t) (iblk m c 1 t) (iblk m c 2 t) (iblk m c 3 t) (iblk m c 4 t) = Q
  pointwise [k0_pay3]

theorem final8 (h) : (dats m 0 c).arrAt 8 cfg0.N
    = extractStridedSlice Cert.Reference7Ideal.S2x2304x1024 ![0, 0, 704] (P m c) h := by
  refine (dats m 0 c).arrAt_eq_of_covers 8 _ (by decide +kernel) fun t hf y => ?_
  blk_simp
  rw [after0_8, out8]
  idx_vars y
  have e : (win0_8.blk t).view.emb (ix3 y0 y1 y2) = ix3 (bOf t) (lOf t y1) y2 := by
    blk_ext [bOf, lOf, idx t]
  have e' : extractStridedSlice Cert.Reference7Ideal.S2x2304x1024 ![0, 0, 704] (P m c) h (ix3 (bOf t) (lOf t y1) y2)
      = P m c (ix3 (bOf t) (lOf t y1) ⟨704 + y2, by omega⟩) := by
    generalize P m c = Q
    pointwise []
  have z : zRow m c (lOf t y1) (bOf t) ⟨768 + y2, by omega⟩ = P m c (ix3 (bOf t) (lOf t y1) ⟨704 + y2, by omega⟩) :=
    (z_hi m c t y1 _ (by simp only; omega)).trans (congrArg (fun i => P m c (ix3 (bOf t) (lOf t y1) i)) (Fin.ext (by simp only; omega)))
  refine Eq.trans ?_ (((congrArg _ e).trans e').trans (z.symm.trans (z_blk m c t y1 _).symm)).symm
  unfold k0_pay9
  generalize k0_pay5 (iblk m c 0 t) (iblk m c 1 t) (iblk m c 2 t) (iblk m c 3 t) (iblk m c 4 t) = Q
  pointwise [k0_pay4]

/-- The rotary key's columns, padded to 128 lanes. -/
def padKr (P : FVec Ideal Cert.Reference7Ideal.S2x2304x1728 .f32) : FVec Ideal Cert.Reference7Ideal.S2x2304x128 .f32 :=
  pad Cert.Reference7Ideal.S2x2304x128 ![0, 0, 0] ![0, 0, 64] ![0, 0, 0]
    (extractStridedSlice Cert.Reference7Ideal.S2x2304x64 ![0, 0, 256] P Cert.Reference7Ideal.Gen.slices_S2x2304x1728_S2x2304x64_0_0_256)
    (sitofp (F := Ideal) .f32 (constantI Cert.Reference7Ideal.S_ 32 0#32))
    Cert.Reference7Ideal.Gen.pads_S2x2304x64_S2x2304x128_000_000_0640 Cert.Reference7Ideal.Gen.h_S_

theorem padKr_lo (P : FVec Ideal Cert.Reference7Ideal.S2x2304x1728 .f32) (b : Fin 2) (l : Fin 2304) (j : Fin 128) (h : (j : ℕ) < 64) :
    padKr P (ix3 b l j) = P (ix3 b l ⟨256 + j, by omega⟩) := by
  pointwise [padKr, h]

theorem padKr_hi (P : FVec Ideal Cert.Reference7Ideal.S2x2304x1728 .f32) (b : Fin 2) (l : Fin 2304) (j : Fin 128) (h : ¬(j : ℕ) < 64) :
    padKr P (ix3 b l j) = 0 := by
  have e : FloatOps.sitofp (F := Ideal) .f32 (0#32 : BitVec 32) = 0 := by
    show (((0#32 : BitVec 32).toInt : ℝ) : EReal) = 0
    simp
  pointwise [padKr, h, e]

theorem final6 : (dats m 0 c).arrAt 6 cfg0.N = padKr (P m c) := by
  refine (dats m 0 c).arrAt_eq_of_covers 6 _ (by decide +kernel) fun t hf y => ?_
  blk_simp
  rw [after0_6, out6]
  idx_vars y
  have e : (win0_6.blk t).view.emb (ix3 y0 y1 y2) = ix3 (bOf t) (lOf t y1) y2 := by
    blk_ext [bOf, lOf, idx t]
  have z : zRow m c (lOf t y1) (bOf t) ⟨256 + y2, by omega⟩ = padKr (P m c) (ix3 (bOf t) (lOf t y1) y2) := by
    by_cases h : (y2 : ℕ) < 64
    · exact (z_lo m c t y1 _ (by simp only; omega)).trans (padKr_lo _ _ _ _ h).symm
    · exact (pad_mid _ _ _ (by simp only; omega) (by simp only; omega)).trans (padKr_hi _ _ _ _ h).symm
  refine Eq.trans ?_ ((congrArg _ e).trans (z.symm.trans (z_blk m c t y1 _).symm)).symm
  unfold k0_pay7
  generalize k0_pay5 (iblk m c 0 t) (iblk m c 1 t) (iblk m c 2 t) (iblk m c 3 t) (iblk m c 4 t) = Q
  pointwise [k0_pay2]

end Cert.Kernel7Ideal.Array

end
-- ==== Proof.InClaims.lean ====
/- The frames, named constants and value claims of the calls before the mixers: the modulated norm and input projection of
   the convolution mixer, the pooling mixer, the chunk mixer and the latent attention. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.CvIn
public import proofs.«01_k».proof.Proof.PlIn
public import proofs.«01_k».proof.Proof.ChIn
public import proofs.«01_k».proof.Proof.MlIn

@[expose] public section

set_option maxRecDepth 16384

namespace Cert.Proof

open Idealize.ShloMosaic Idealize.ShloMosaic.TcCoe Idealize.SL.Sem

/-! ## The convolution mixer's input projection -/

theorem frame_k4 : Cert.quiescent_Kernel4 := fun m ρ _ => Cert.Kernel4.Gen.frame m ρ

theorem frame_ki4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem preserves4 : Cert.preserves_Kernel4_Kernel4Ideal := trivial

/-- The call's arrays are the reference's. -/
theorem algebraic4 : Cert.algebraic_Kernel4Ideal_Reference4Ideal := by
  intro m ρ m' ρ' _ hagree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    Cert.Kernel4Ideal.Value.run_blocks (F := Ideal) m ρ, ?_⟩
  refine (θ_run Cert.Reference4Ideal.defs _ _).mono (fun r h c => ?_) (Cert.Reference4Ideal.Value.run (F := Ideal) m' ρ')
  obtain ⟨e0, e1, e2, e3, e4⟩ := hagree c
  obtain ⟨h0, h1, h2, h3⟩ := h c
  refine ⟨h0.trans ?_, h1.trans ?_, h2.trans ?_, h3⟩
  · refine Eq.trans ?_ (Cert.Kernel4Ideal.Array.final5 m c
      Cert.Reference4Ideal.Gen.slices_S2x2304x3072_S2x2304x1024_0_0_0).symm
    rw [e0, e1, e2, e3, e4]
    rfl
  · refine Eq.trans ?_ (Cert.Kernel4Ideal.Array.final6 m c
      Cert.Reference4Ideal.Gen.slices_S2x2304x3072_S2x2304x1024_0_0_1024).symm
    rw [e0, e1, e2, e3, e4]
    rfl
  · refine Eq.trans ?_ (Cert.Kernel4Ideal.Array.final7 m c
      Cert.Reference4Ideal.Gen.slices_S2x2304x3072_S2x2304x1024_0_0_2048).symm
    rw [e0, e1, e2, e3, e4]
    rfl

/-! ## The pooling mixer's input projection -/

theorem frame_k5 : Cert.quiescent_Kernel5 := fun m ρ _ => Cert.Kernel5.Gen.frame m ρ

theorem frame_ki5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves5 : Cert.preserves_Kernel5_Kernel5Ideal := trivial

/-- The call's arrays are the reference's. -/
theorem algebraic5 : Cert.algebraic_Kernel5Ideal_Reference5Ideal := by
  intro m ρ m' ρ' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    Cert.Kernel5Ideal.Value.run_blocks (F := Ideal) m ρ, ?_⟩
  refine (θ_run Cert.Reference5Ideal.defs _ _).mono (fun r h c => ?_) (Cert.Reference5Ideal.Value.run (F := Ideal) m' ρ')
  obtain ⟨e0, e1, e2, e3, e4⟩ := hagree c
  obtain ⟨h0, h1, h2⟩ := h c
  refine ⟨h0.trans ?_, h1.trans ?_, h2⟩
  · refine Eq.trans ?_ (Cert.Kernel5Ideal.Array.final5 m c
      Cert.Reference5Ideal.Gen.slices_S2x2304x2048_S2x2304x1024_0_0_0).symm
    rw [e0, e1, e2, e3, e4]
    rfl
  · refine Eq.trans ?_ (Cert.Kernel5Ideal.Array.final6 m c
      Cert.Reference5Ideal.Gen.slices_S2x2304x2048_S2x2304x1024_0_0_1024).symm
    rw [e0, e1, e2, e3, e4]
    rfl

/-! ## The chunk mixer's input projection -/

theorem frame_k6 : Cert.quiescent_Kernel6 := fun m ρ _ => Cert.Kernel6.Gen.frame m ρ

theorem frame_ki6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem preserves6 : Cert.preserves_Kernel6_Kernel6Ideal := trivial

/-- The call's arrays are the reference's. -/
theorem algebraic6 : Cert.algebraic_Kernel6Ideal_Reference6Ideal := by
  intro m ρ m' ρ' _ hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks (F := Ideal) m ρ, ?_⟩
  refine (θ_run Cert.Reference6Ideal.defs _ _).mono (fun r h c => ?_) (Cert.Reference6Ideal.Value.run (F := Ideal) m' ρ')
  obtain ⟨e0, e1, e2, e3, e4⟩ := hagree c
  obtain ⟨h0, h1, h2, h3⟩ := h c
  refine ⟨h0.trans ?_, h1.trans ?_, h2.trans ?_, h3⟩
  · refine Eq.trans ?_ (Cert.Kernel6Ideal.Array.final5 m c
      Cert.Reference6Ideal.Gen.slices_S2x2048x3072_S2x2048x1024_0_0_0).symm
    rw [e0, e1, e2, e3, e4]
    rfl
  · refine Eq.trans ?_ (Cert.Kernel6Ideal.Array.final6 m c
      Cert.Reference6Ideal.Gen.slices_S2x2048x3072_S2x2048x1024_0_0_1024).symm
    rw [e0, e1, e2, e3, e4]
    rfl
  · refine Eq.trans ?_ (Cert.Kernel6Ideal.Array.final7 m c
      Cert.Reference6Ideal.Gen.slices_S2x2048x3072_S2x2048x1024_0_0_2048).symm
    rw [e0, e1, e2, e3, e4]
    rfl

/-! ## The latent attention's input projection -/

theorem frame_k7 : Cert.quiescent_Kernel7 := fun m ρ _ => Cert.Kernel7.Gen.frame m ρ

theorem frame_ki7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2.2.2.2,
      Idealize.ShloMosaic.sem_eq_zero_of_no_sems (by decide) r.2⟩)
    (Cert.Reference7Ideal.Value.run (F := Ideal) m ρ)

theorem preserves7 : Cert.preserves_Kernel7_Kernel7Ideal := trivial

/-- The call's arrays are the reference's. -/
theorem algebraic7 : Cert.algebraic_Kernel7Ideal_Reference7Ideal := by
  intro m ρ m' ρ' _ hagree
  refine ⟨fun c => (Cert.Kernel7Ideal.Gen.dats m 0 c).arrAt 5 Cert.Kernel7Ideal.cfg0.N,
    fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    Cert.Kernel7Ideal.Value.run_blocks (F := Ideal) m ρ, ?_⟩
  refine (θ_run Cert.Reference7Ideal.defs _ _).mono (fun r h c => ?_) (Cert.Reference7Ideal.Value.run (F := Ideal) m' ρ')
  obtain ⟨e0, e1, e2, e3, e4⟩ := hagree c
  obtain ⟨h0, h1, h2, h3, h4⟩ := h c
  refine ⟨h0.trans ?_, h1.trans ?_, h2.trans ?_, h3.trans ?_, h4⟩
  · refine Eq.trans ?_ (Cert.Kernel7Ideal.Array.final5 m c Cert.Reference7Ideal.Gen.slices_S2x2304x1728_S2x2304x256_0_0_0).symm
    rw [e0, e1, e2, e3, e4]
    rfl
  · refine Eq.trans ?_ (Cert.Kernel7Ideal.Array.final6 m c).symm
    rw [e0, e1, e2, e3, e4]
    rfl
  · refine Eq.trans ?_ (Cert.Kernel7Ideal.Array.final7 m c Cert.Reference7Ideal.Gen.slices_S2x2304x1728_S2x2304x384_0_0_320).symm
    rw [e0, e1, e2, e3, e4]
    rfl
  · refine Eq.trans ?_ (Cert.Kernel7Ideal.Array.final8 m c Cert.Reference7Ideal.Gen.slices_S2x2304x1728_S2x2304x1024_0_0_704).symm
    rw [e0, e1, e2, e3, e4]
    rfl

end Cert.Proof

end
-- ==== Proof.MlOut.lean ====
/- The gradients of the latent attention's gated output projection: the host's, read at an index, and what the call leaves in
   its arrays. -/
module

public import proofs.«01_k».proof.Proof.Gen.Reference8Ideal
public import proofs.«01_k».proof.Proof.Gen.Kernel8Ideal.Value
public import Idealize.ShloMosaic.Lib.Claim
public import Idealize.ShloMosaic.Lib.Pointwise
public import Idealize.ShloMosaic.Lib.Pipeline.ValueKit

@[expose] public section

set_option maxRecDepth 16384

noncomputable section

/-! ## The host's arrays -/

namespace Cert.MlOut

open Idealize.ShloMosaic Idealize.ShloMosaic.TcCoe Idealize.SL.Sem Cert.Reference8Ideal Cert.Reference8Ideal.Gen

variable (T G DY : FVec Ideal S2x2048x1024 .f32) (M : FVec Ideal S2x2x1x1024 .f32) (W : FVec Ideal S1024x1024 .bf16)
  (b : Fin 2) (l : Fin 2048) (k : Fin 1024)

/-- The logistic function. -/
def sg (x : EReal) : EReal := FloatOps.logistic (F := Ideal) (φ := .f32) x

/-- The gate's logistic. -/
def hSig : FVec Ideal S2x2048x1024 .f32 :=
  Host.divf (broadcastInDim S2x2048x1024 ![] bcast_S_S2x2048x1024 (constant S_ .f32 0x3F800000#32))
    (addf (broadcastInDim S2x2048x1024 ![] bcast_S_S2x2048x1024 (constant S_ .f32 0x3F800000#32)) (Host.exp (Host.negf G)))

theorem hSig_at : hSig G (ix3 b l k) = sg (G (ix3 b l k)) := by
  unfold sg
  pointwise [hSig]
  rfl

/-- The modulated cotangent. -/
def hDz : FVec Ideal S2x2048x1024 .f32 :=
  mulf (broadcastInDim S2x2048x1024 ![0, 1, 2] bcast_S2x1x1024_S2x2048x1024_0_1_2 (shapeCast _
    (extractStridedSlice S2x1x1x1024 ![0, 0, 0, 0] M slices_S2x2x1x1024_S2x1x1x1024_0_0_0_0) shapeCasts_S2x1x1x1024_S2x1x1024)) DY

theorem hDz_at : hDz DY M (ix3 b l k) = M (ix4 b 0 0 k) * DY (ix3 b l k) := by
  pointwise [hDz]

/-- The gated rows' cotangent. -/
def hDa : FVec Ideal S2x2048x1024 .f32 :=
  Host.dotGeneral dot_S2x2048x1024_S1024x1024_S2x2048x1024_2_1_01_0_n_n none (hDz DY M) (extf .f32 W bitsLt_bf16_f32)

theorem hDa_at : hDa DY M W (ix3 b l k) = ∑ j, M (ix4 b 0 0 j) * DY (ix3 b l j) * W (ix2 k j) := by
  simp only [← hDz_at]
  unfold hDa
  generalize hDz DY M = Z
  pointwise []

/-- The gated rows. -/
def hA : FVec Ideal S2x2048x1024 .f32 := mulf T (mulf G (hSig G))

theorem hA_at : hA T G (ix3 b l k) = T (ix3 b l k) * (G (ix3 b l k) * sg (G (ix3 b l k))) := by
  rw [← hSig_at]
  pointwise [hA]

/-- The attention's cotangent. -/
def hDt : FVec Ideal S2x2048x1024 .f32 := mulf (hDa DY M W) (mulf G (hSig G))

theorem hDt_at : hDt G DY M W (ix3 b l k) = hDa DY M W (ix3 b l k) * (G (ix3 b l k) * sg (G (ix3 b l k))) := by
  rw [← hSig_at]
  pointwise [hDt]

/-- The gate's cotangent. -/
def hDg : FVec Ideal S2x2048x1024 .f32 :=
  addf (mulf (mulf T (hDa DY M W)) (hSig G)) (mulf (mulf G (mulf T (hDa DY M W)))
    (mulf (hSig G) (subf (broadcastInDim S2x2048x1024 ![] bcast_S_S2x2048x1024 (constant S_ .f32 0x3F800000#32)) (hSig G))))

theorem hDg_at : hDg T G DY M W (ix3 b l k) = T (ix3 b l k) * hDa DY M W (ix3 b l k) * sg (G (ix3 b l k))
    + G (ix3 b l k) * (T (ix3 b l k) * hDa DY M W (ix3 b l k)) * (sg (G (ix3 b l k)) * (1 - sg (G (ix3 b l k)))) := by
  rw [← hSig_at]
  pointwise [hDg]

/-- The weights' gradient. -/
def hDw : FVec Ideal S1024x1024 .f32 :=
  transpose S1024x1024 [1, 0] (Host.dotGeneral dot_S2x2048x1024_S2x2048x1024_S1024x1024_01_01_2_2_n_n none (hDz DY M) (hA T G))
    transposes_S1024x1024_S1024x1024_1_0

theorem hDw_at (j : Fin 1024) : hDw T G DY M (ix2 k j) = ∑ b : Fin 2, ∑ l : Fin 2048, hDz DY M (ix3 b l j) * hA T G (ix3 b l k) := by
  unfold hDw
  generalize hDz DY M = Z
  generalize hA T G = A
  pointwise []

end Cert.MlOut

/-! ## The call's arrays -/

namespace Cert.Kernel8Ideal.Array

open Idealize.ShloMosaic Idealize.ShloMosaic.TcCoe Idealize.SL.Sem Cert.Kernel8Ideal Cert.Kernel8Ideal.Gen
open Cert.MlOut

variable (T G DY : FVec Ideal S1x512x1024 .f32) (M : FVec Ideal S1x1x1x1024 .f32) (W : FVec Ideal S1024x1024 .bf16)
  (r : Fin 512) (k : Fin 1024)

theorem sg_at : k0_pay9 (F := Ideal) G (ix2 r k) = sg (G (ix3 0 r k)) := by
  unfold sg
  pointwise [k0_pay9, k0_pay8]

theorem dz_at : k0_pay14 (F := Ideal) M DY (ix2 r k) = M (ix4 0 0 0 k) * DY (ix3 0 r k) := by
  pointwise [k0_pay14, k0_pay13]

theorem da_at : k0_pay18 (F := Ideal) M DY W (ix2 r k) = ∑ j, M (ix4 0 0 0 j) * DY (ix3 0 r j) * W (ix2 k j) := by
  simp only [← dz_at]
  unfold k0_pay18
  generalize k0_pay14 (F := Ideal) M DY = Z
  pointwise []

theorem a_at : k0_pay12 (F := Ideal) T G (ix2 r k) = T (ix3 0 r k) * (G (ix3 0 r k) * sg (G (ix3 0 r k))) := by
  rw [← sg_at G]
  pointwise [k0_pay12, k0_pay7, k0_pay11, k0_pay8]

/-- The attention's cotangent in a block. -/
abbrev dtBlock : FVec Ideal S1x512x1024 .f32 := k0_pay1 k0_pay16 (k0_pay21 G M DY W)

theorem dt_at (z : Fin 1) : dtBlock G DY M W (ix3 z r k)
    = k0_pay18 (F := Ideal) M DY W (ix2 r k) * (G (ix3 0 r k) * sg (G (ix3 0 r k))) := by
  rw [← sg_at G]
  unfold dtBlock k0_pay21
  generalize k0_pay18 (F := Ideal) M DY W = Z
  pointwise [k0_pay1, k0_pay16, k0_pay11, k0_pay8]

/-- The gate's cotangent in a block. -/
abbrev dgBlock : FVec Ideal S1x512x1024 .f32 :=
  k0_pay2 (k0_pay10 G) k0_pay17 (k0_pay22 T G M DY W) (k0_pay23 T G M DY W)

theorem dg_at (z : Fin 1) : dgBlock T G DY M W (ix3 z r k)
    = T (ix3 0 r k) * k0_pay18 (F := Ideal) M DY W (ix2 r k) * sg (G (ix3 0 r k))
      + G (ix3 0 r k) * (T (ix3 0 r k) * k0_pay18 (F := Ideal) M DY W (ix2 r k)) * (sg (G (ix3 0 r k)) * (1 - sg (G (ix3 0 r k)))) := by
  rw [← sg_at G]
  unfold dgBlock k0_pay22 k0_pay23 k0_pay20
  generalize k0_pay18 (F := Ideal) M DY W = Z
  pointwise [k0_pay2, k0_pay10, k0_pay17, k0_pay8, k0_pay7]

theorem dw_at (j : Fin 1024) : k0_pay19 (F := Ideal) T G M DY (ix2 k j)
    = ∑ r : Fin 512, T (ix3 0 r k) * (G (ix3 0 r k) * sg (G (ix3 0 r k))) * (M (ix4 0 0 0 j) * DY (ix3 0 r j)) := by
  simp only [← dz_at, ← a_at]
  unfold k0_pay19
  generalize k0_pay14 (F := Ideal) M DY = Z
  generalize k0_pay12 (F := Ideal) T G = A
  pointwise []

/-! ### The blocks of a grid point -/

theorem idx : ∀ t : Fin cfg0.N, win0_0.index t = ![t.val / 4, t.val % 4, 0] ∧ win0_1.index t = ![t.val / 4, t.val % 4, 0]
    ∧ win0_3.index t = ![t.val / 4, 0, 0, 0] ∧ win0_4.index t = ![0, 0] ∧ win0_5.index t = ![t.val / 4, t.val % 4, 0]
    ∧ win0_6.index t = ![t.val / 4, t.val % 4, 0] ∧ win0_7.index t = ![t.val / 4, t.val % 4, 0] ∧ win0_9.index t = ![0, 0]
    ∧ t.val < 8 :=
  (by decide +kernel : ∀ t : Fin grid0.N, _)

theorem lt8 (t : Fin cfg0.N) : t.val < 8 := (idx t).2.2.2.2.2.2.2.2

/-- The batch element of a grid point. -/
def bOf (t : Fin cfg0.N) : Fin 2 := ⟨t.val / 4, by have := lt8 t; omega⟩
/-- The position of a grid point's row. -/
def lOf (t : Fin cfg0.N) (r : Fin 512) : Fin 2048 := ⟨t.val % 4 * 512 + r, by omega⟩

variable (m : (ℓ : Loc nD τ sig) → Buf (Elt Ideal) ℓ) (c : Dev nD) (t : Fin cfg0.N)

/-- The arrays at launch. -/
abbrev aT : FVec Ideal S2x2048x1024 .f32 := m ((c.tc : Thread nD τ).loc main_arg0)
@[inherit_doc aT] abbrev aG : FVec Ideal S2x2048x1024 .f32 := m ((c.tc : Thread nD τ).loc main_arg1)
@[inherit_doc aT] abbrev aM : FVec Ideal S2x2x1x1024 .f32 := m ((c.tc : Thread nD τ).loc main_arg3)
@[inherit_doc aT] abbrev aW : FVec Ideal S1024x1024 .bf16 := m ((c.tc : Thread nD τ).loc main_arg4)
@[inherit_doc aT] abbrev aDY : FVec Ideal S2x2048x1024 .f32 := m ((c.tc : Thread nD τ).loc main_arg5)

theorem blk_t : iblk m c 0 t (ix3 0 r k) = aT m c (ix3 (bOf t) (lOf t r) k) := by
  blk_ext [iblk, V, bOf, lOf, idx t]

theorem blk_g : iblk m c 1 t (ix3 0 r k) = aG m c (ix3 (bOf t) (lOf t r) k) := by
  blk_ext [iblk, V, bOf, lOf, idx t]

theorem blk_m : iblk m c 3 t (ix4 0 0 0 k) = aM m c (ix4 (bOf t) 0 0 k) := by
  blk_ext [iblk, V, bOf, idx t]

theorem blk_w (j : Fin 1024) : iblk m c 4 t (ix2 k j) = aW m c (ix2 k j) := by
  blk_ext [iblk, V, idx t]

theorem blk_dy : iblk m c 5 t (ix3 0 r k) = aDY m c (ix3 (bOf t) (lOf t r) k) := by
  blk_ext [iblk, V, bOf, lOf, idx t]

theorem da_blk : k0_pay18 (iblk m c 3 t) (iblk m c 5 t) (iblk m c 4 t) (ix2 r k)
    = hDa (aDY m c) (aM m c) (aW m c) (ix3 (bOf t) (lOf t r) k) := by
  refine (da_at _ _ _ r k).trans (Eq.trans ?_ (hDa_at _ _ _ _ _ _).symm)
  exact Finset.sum_congr rfl fun j _ => congrArg₂ (· * ·) (congrArg₂ (· * ·) (blk_m j m c t) (blk_dy r j m c t)) (blk_w k m c t j)

/-! ### What a point leaves in each output -/

theorem out6 : (outsAt0 m c t.val t.isLt).1 = dtBlock (iblk m c 1 t) (iblk m c 5 t) (iblk m c 3 t) (iblk m c 4 t) := by
  have hl := lt8 t
  by_cases h : t.val % 4 = 0
  · by_cases h' : t.val % 8 = 0
    · rw [outsAt0_A m c t (by omega) (by omega) (by omega) (by omega)]
      dsimp only
      unfold out0_A_6
      frame_out
    · rw [outsAt0_C m c t (by omega) (by omega) (by omega) (by omega)]
      dsimp only
      unfold out0_C_6
      frame_out
  · rw [outsAt0_B m c t (by omega) (by omega) (by omega) (by omega)]
    dsimp only
    unfold out0_B_6
    frame_out

theorem out7 : (outsAt0 m c t.val t.isLt).2.1
    = dgBlock (iblk m c 0 t) (iblk m c 1 t) (iblk m c 5 t) (iblk m c 3 t) (iblk m c 4 t) := by
  have hl := lt8 t
  by_cases h : t.val % 4 = 0
  · by_cases h' : t.val % 8 = 0
    · rw [outsAt0_A m c t (by omega) (by omega) (by omega) (by omega)]
      dsimp only
      unfold out0_A_7
      frame_out
    · rw [outsAt0_C m c t (by omega) (by omega) (by omega) (by omega)]
      dsimp only
      unfold out0_C_7
      frame_out
  · rw [outsAt0_B m c t (by omega) (by omega) (by omega) (by omega)]
    dsimp only
    unfold out0_B_7
    frame_out

/-- What a point adds to the weights' gradient. -/
abbrev dwBlock : FVec Ideal S1024x1024 .f32 := k0_pay19 (iblk m c 0 t) (iblk m c 1 t) (iblk m c 3 t) (iblk m c 5 t)

theorem out9_first (h : t.val = 0) : (outsAt0 m c t.val t.isLt).2.2.2 = dwBlock m c t := by
  rw [outsAt0_A m c t (by omega) (by omega) (by omega) (by omega)]
  dsimp only
  unfold out0_A_9
  frame_out

theorem out9_next (h : t.val ≠ 0) : (outsAt0 m c t.val t.isLt).2.2.2
    = k0_pay6 (dwBlock m c t) (outsAt0 m c (t.val - 1) (Nat.lt_of_le_of_lt (Nat.sub_le _ _) t.isLt)).2.2.2 := by
  have hl := lt8 t
  by_cases h : t.val % 4 = 0
  · rw [outsAt0_C m c t (by omega) (by omega) (by omega) (by omega)]
    dsimp only
    unfold out0_C_9
    frame_out
  · rw [outsAt0_B m c t (by omega) (by omega) (by omega) (by omega)]
    dsimp only
    unfold out0_B_9
    frame_out

/-! ### The sum over the points -/

/-- The grid point at a position, and past the grid nothing. -/
def upTo (f : Fin cfg0.N → EReal) (s : ℕ) : EReal := if h : s < cfg0.N then f ⟨s, h⟩ else 0

theorem upTo_of (f : Fin cfg0.N → EReal) (s : ℕ) (h : s < cfg0.N) : upTo f s = f ⟨s, h⟩ := dif_pos h

theorem sum9 (k j : Fin 1024) : ∀ (n : ℕ) (h : n < cfg0.N), (outsAt0 m c n h).2.2.2 (ix2 k j)
    = ∑ s ∈ Finset.range (n + 1), upTo (fun t => dwBlock m c t (ix2 k j)) s
  | 0, h => by
    rw [Finset.sum_range_one, upTo_of _ _ h]
    exact congrFun (out9_first m c ⟨0, h⟩ rfl) _
  | n + 1, h => by
    rw [Finset.sum_range_succ, upTo_of _ _ h, ← sum9 k j n (by omega)]
    refine (congrFun (out9_next m c ⟨n + 1, h⟩ (Nat.succ_ne_zero n)) _).trans ?_
    have e (a b : FVec Ideal S1024x1024 .f32) : k0_pay6 (F := Ideal) a b (ix2 k j) = b (ix2 k j) + a (ix2 k j) := by
      pointwise [k0_pay6]
    exact e _ _

/-- The points' sums of their rows are the sum over all rows. -/
theorem sum_points (f : Fin cfg0.N → EReal) (g : Fin 2 → Fin 2048 → EReal) (h : ∀ t, f t = ∑ r : Fin 512, g (bOf t) (lOf t r)) :
    ∑ s ∈ Finset.range 8, upTo f s = ∑ b : Fin 2, ∑ l : Fin 2048, g b l := by
  rw [Finset.sum_range, Fin.sum_univ_tiles 2 4 rfl]
  refine Finset.sum_congr rfl fun b _ => ?_
  rw [Fin.sum_univ_tiles 4 512 rfl]
  refine Finset.sum_congr rfl fun j _ => ?_
  have hj := j.isLt
  have hb := b.isLt
  refine (upTo_of f _ (show (b : ℕ) * 4 + (j : ℕ) < 8 by omega)).trans ((h _).trans (Finset.sum_congr rfl fun r _ => ?_))
  exact congrArg₂ g (Fin.ext (by show ((b : ℕ) * 4 + j) / 4 = b; omega))
    (Fin.ext (by show ((b : ℕ) * 4 + j) % 4 * 512 + (r : ℕ) = j * 512 + r; omega))

theorem last : ∀ t : Fin cfg0.N, (cfg0.win 9).flush t = true → t.val = 7 := by decide +kernel

/-! ### The arrays after the run -/

theorem final_dt : (dats m 0 c).arrAt 6 cfg0.N = hDt (aG m c) (aDY m c) (aM m c) (aW m c) := by
  refine (dats m 0 c).arrAt_eq_of_covers 6 _ (by decide +kernel) fun t hf y => ?_
  blk_simp
  rw [after0_6, out6]
  idx_vars y
  have e : (win0_6.blk t).view.emb (ix3 y0 y1 y2) = ix3 (bOf t) (lOf t y1) y2 := by
    blk_ext [bOf, lOf, idx t]
  refine (dt_at _ _ _ _ y1 y2 y0).trans (Eq.trans ?_ ((congrArg _ e).trans (hDt_at _ _ _ _ _ _ _)).symm)
  rw [da_blk, blk_g]

theorem final_dg : (dats m 0 c).arrAt 7 cfg0.N = hDg (aT m c) (aG m c) (aDY m c) (aM m c) (aW m c) := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  refine (dg_at _ _ _ _ _ y1 y2 y0).trans (Eq.trans ?_ ((congrArg _ e).trans (hDg_at _ _ _ _ _ _ _ _)).symm)
  rw [da_blk, blk_g, blk_t]

theorem final_dw : (dats m 0 c).arrAt 9 cfg0.N = hDw (aT m c) (aG m c) (aDY m c) (aM m c) := by
  refine (dats m 0 c).arrAt_eq_of_covers 9 _ (by decide +kernel) fun t hf y => ?_
  blk_simp
  rw [after0_9]
  idx_vars y
  have e : (win0_9.blk t).view.emb (ix2 y0 y1) = ix2 y0 y1 := by
    blk_ext [idx t]
  refine (sum9 m c y0 y1 t.val t.isLt).trans (Eq.trans ?_ ((congrArg _ e).trans (hDw_at _ _ _ _ _ _)).symm)
  rw [last t hf]
  refine sum_points _ _ fun t => ?_
  refine (dw_at _ _ _ _ y0 y1).trans (Finset.sum_congr rfl fun r _ => ?_)
  rw [blk_t, blk_g, blk_m, blk_dy, hDz_at, hA_at, mul_comm]

end Cert.Kernel8Ideal.Array

end
-- ==== Proof.OutHost.lean ====
/- The host's residual of latent and context rows, and its layer norm, read at an index. -/
module

public import proofs.«01_k».proof.Proof.Gen.Reference10Ideal
public import proofs.«01_k».proof.Proof.InHost
public import proofs.«01_k».proof.Proof.MlOut
public import Idealize.ShloMosaic.Lib.Pointwise

@[expose] public section

set_option maxRecDepth 16384

noncomputable section

namespace Cert.Out

open Idealize.ShloMosaic Idealize.ShloMosaic.TcCoe Idealize.SL.Sem Cert.Reference10Ideal Cert.Reference10Ideal.Gen
open Cert.Proj (Row)
open Cert.In (seg)
open Cert.MlOut (sg)

/-! ## Rows -/

/-- A row's mean. -/
def mean (x : Row) : EReal := Ideal.div (∑ k, x k) (Ideal.ofBits .f32 0x44800000#32)
/-- A row less its mean. -/
def cen (x : Row) : Row := fun k => x k - mean x
/-- The inverse root of a row's variance. -/
def cinv (x : Row) : EReal :=
  Ideal.rsqrt (Ideal.div (∑ k, cen x k * cen x k) (Ideal.ofBits .f32 0x44800000#32) + Ideal.ofBits .f32 0x358637BD#32)
/-- A row's layer norm. -/
def ln (x g b : Row) : Row := fun k => cen x k * cinv x * g k + b k
/-- A number through the sigmoid linear unit. -/
def silu (x : EReal) : EReal := x * sg x
/-- A row's product with a column of the weights. -/
def dotAt (W : FVec Ideal S1024x1024 .bf16) (a : Row) (k : Fin 1024) : EReal := ∑ j, a j * W (ix2 j k)

/-! ## The residual -/

variable (X Y : FVec Ideal S2x2304x1024 .f32) (M : FVec Ideal S2x2x1x1024 .f32) (W : FVec Ideal S1024x1024 .bf16)
  (b : Fin 2) (l : Fin 2304) (k : Fin 1024)

/-- The rows with their modulated projection added. -/
def hAdd : FVec Ideal S2x2304x1024 .f32 :=
  concatenate S2x2304x1024 1 [⟨S2x2048x1024, addf (extractStridedSlice S2x2048x1024 ![0, 0, 0] X slices_S2x2304x1024_S2x2048x1024_0_0_0)
      (mulf (broadcastInDim S2x2048x1024 ![0, 1, 2] bcast_S2x1x1024_S2x2048x1024_0_1_2 (shapeCast _
        (extractStridedSlice S2x1x1x1024 ![0, 0, 0, 0] M slices_S2x2x1x1024_S2x1x1x1024_0_0_0_0) shapeCasts_S2x1x1x1024_S2x1x1024))
      (Host.dotGeneral dot_S2x2048x1024_S1024x1024_S2x2048x1024_2_0_01_1_n_n none
        (extractStridedSlice S2x2048x1024 ![0, 0, 0] Y slices_S2x2304x1024_S2x2048x1024_0_0_0) (extf .f32 W bitsLt_bf16_f32)))⟩,
    ⟨S2x256x1024, addf (extractStridedSlice S2x256x1024 ![0, 2048, 0] X slices_S2x2304x1024_S2x256x1024_0_2048_0)
      (mulf (broadcastInDim S2x256x1024 ![0, 1, 2] bcast_S2x1x1024_S2x256x1024_0_1_2 (shapeCast _
        (extractStridedSlice S2x1x1x1024 ![0, 1, 0, 0] M slices_S2x2x1x1024_S2x1x1x1024_0_1_0_0) shapeCasts_S2x1x1x1024_S2x1x1024))
      (Host.dotGeneral dot_S2x256x1024_S1024x1024_S2x256x1024_2_0_01_1_n_n none
        (extractStridedSlice S2x256x1024 ![0, 2048, 0] Y slices_S2x2304x1024_S2x256x1024_0_2048_0) (extf .f32 W bitsLt_bf16_f32)))⟩]
    concatenates_S2x2048x1024_S2x256x1024_S2x2304x1024_d1

theorem hAdd_at : hAdd X Y M W (ix3 b l k)
    = X (ix3 b l k) + M (ix4 b (seg l) 0 k) * dotAt W (fun j => Y (ix3 b l j)) k := by
  unfold dotAt
  by_cases h : (l : ℕ) < 2048
  · have e : seg l = 0 := if_pos h
    rw [e]
    pointwise [hAdd, h]
  · have e : seg l = 1 := if_neg h
    have h' : (l : ℕ) - 2048 < 256 := by omega
    have i : (⟨2048 + ((l : ℕ) - 2048), by omega⟩ : Fin 2304) = l := Fin.ext (by show 2048 + ((l : ℕ) - 2048) = l; omega)
    rw [e, ← i]
    pointwise [hAdd, h, h', i]

/-! ## The layer norm -/

/-- The rows' means. -/
def hMean : FVec Ideal S2x2304x1 .f32 :=
  Host.divf (broadcastInDim S2x2304x1 ![0, 1] bcast_S2x2304_S2x2304x1_0_1
      (Host.reduceAdd X (constant S_ .f32 0x00000000#32) reducesTo_S2x2304x1024_S2x2304_d2 h_S_))
    (broadcastInDim S2x2304x1 ![] bcast_S_S2x2304x1 (constant S_ .f32 0x44800000#32))

theorem hMean_at (z : Fin 1) : hMean X (ix3 b l z) = mean (fun k => X (ix3 b l k)) := by
  unfold mean
  pointwise [hMean]

/-- The rows less their means. -/
def hCen : FVec Ideal S2x2304x1024 .f32 :=
  subf X (broadcastInDim S2x2304x1024 ![0, 1, 2] bcast_S2x2304x1_S2x2304x1024_0_1_2 (hMean X))

theorem hCen_at : hCen X (ix3 b l k) = cen (fun k => X (ix3 b l k)) k := by
  unfold cen
  rw [← hMean_at X b l 0]
  pointwise [hCen]

/-- The inverse roots of the rows' variances. -/
def hCinv : FVec Ideal S2x2304x1 .f32 :=
  Host.rsqrt (addf (Host.divf (broadcastInDim S2x2304x1 ![0, 1] bcast_S2x2304_S2x2304x1_0_1
      (Host.reduceAdd (mulf (hCen X) (hCen X)) (constant S_ .f32 0x00000000#32) reducesTo_S2x2304x1024_S2x2304_d2 h_S_))
    (broadcastInDim S2x2304x1 ![] bcast_S_S2x2304x1 (constant S_ .f32 0x44800000#32)))
    (broadcastInDim S2x2304x1 ![] bcast_S_S2x2304x1 (constant S_ .f32 0x358637BD#32)))

theorem hCinv_at (z : Fin 1) : hCinv X (ix3 b l z) = cinv (fun k => X (ix3 b l k)) := by
  unfold cinv
  simp only [← hCen_at]
  unfold hCinv
  generalize hCen X = C
  pointwise []

variable (G B : FVec Ideal S1x1024 .f32)

/-- The layer norm. -/
def hLn : FVec Ideal S2x2304x1024 .f32 :=
  addf (mulf (mulf (hCen X) (broadcastInDim S2x2304x1024 ![0, 1, 2] bcast_S2x2304x1_S2x2304x1024_0_1_2 (hCinv X)))
    (broadcastInDim S2x2304x1024 ![0, 1, 2] bcast_S1x1x1024_S2x2304x1024_0_1_2 (broadcastInDim S1x1x1024 ![1, 2] bcast_S1x1024_S1x1x1024_1_2 G)))
    (broadcastInDim S2x2304x1024 ![0, 1, 2] bcast_S1x1x1024_S2x2304x1024_0_1_2 (broadcastInDim S1x1x1024 ![1, 2] bcast_S1x1024_S1x1x1024_1_2 B))

theorem hLn_at : hLn X G B (ix3 b l k) = ln (fun k => X (ix3 b l k)) (fun k => G (ix2 0 k)) (fun k => B (ix2 0 k)) k := by
  unfold ln
  rw [← hCen_at, ← hCinv_at X b l 0]
  unfold hLn
  generalize hCen X = C
  generalize hCinv X = I
  pointwise []

/-- The sigmoid linear unit. -/
def hSilu : FVec Ideal S2x2304x1024 .f32 :=
  mulf X (Host.divf (broadcastInDim S2x2304x1024 ![] bcast_S_S2x2304x1024 (constant S_ .f32 0x3F800000#32))
    (addf (broadcastInDim S2x2304x1024 ![] bcast_S_S2x2304x1024 (constant S_ .f32 0x3F800000#32)) (Host.exp (Host.negf X))))

theorem hSilu_at : hSilu X (ix3 b l k) = silu (X (ix3 b l k)) := by
  unfold silu sg
  pointwise [hSilu]
  rfl

end Cert.Out

end
-- ==== Proof.MlFwd.lean ====
/- What the latent attention's gated output projection leaves in its array. -/
module

public import proofs.«01_k».proof.Proof.Gen.Reference9Ideal
public import proofs.«01_k».proof.Proof.Gen.Kernel9Ideal.Value
public import proofs.«01_k».proof.Proof.OutHost
public import Idealize.ShloMosaic.Lib.Claim
public import Idealize.ShloMosaic.Lib.Pointwise
public import Idealize.ShloMosaic.Lib.Pipeline.ValueKit

@[expose] public section

set_option maxRecDepth 16384

noncomputable section

/-! ## The host's rows -/

namespace Cert.MlFwd

open Idealize.ShloMosaic Idealize.ShloMosaic.TcCoe Idealize.SL.Sem Cert.Reference9Ideal Cert.Reference9Ideal.Gen
open Cert.MlOut (hA hA_at)
open Cert.Out (dotAt silu)

variable (T G X : FVec Ideal S2x2048x1024 .f32) (M : FVec Ideal S2x2x1x1024 .f32) (W : FVec Ideal S1024x1024 .bf16)
  (b : Fin 2) (l : Fin 2048) (k : Fin 1024)

/-- The latent rows with a modulated projection added. -/
def hAdd (Y : FVec Ideal S2x2048x1024 .f32) : FVec Ideal S2x2048x1024 .f32 :=
  addf X (mulf (broadcastInDim S2x2048x1024 ![0, 1, 2] bcast_S2x1x1024_S2x2048x1024_0_1_2 (shapeCast _
      (extractStridedSlice S2x1x1x1024 ![0, 0, 0, 0] M slices_S2x2x1x1024_S2x1x1x1024_0_0_0_0) shapeCasts_S2x1x1x1024_S2x1x1024))
    (Host.dotGeneral dot_S2x2048x1024_S1024x1024_S2x2048x1024_2_0_01_1_n_n none Y (extf .f32 W bitsLt_bf16_f32)))

theorem hAdd_at (Y : FVec Ideal S2x2048x1024 .f32) : hAdd X M W Y (ix3 b l k)
    = X (ix3 b l k) + M (ix4 b 0 0 k) * dotAt W (fun j => Y (ix3 b l j)) k := by
  unfold dotAt
  pointwise [hAdd]

/-- The gated rows' projection, added. -/
def hOut : FVec Ideal S2x2048x1024 .f32 := hAdd X M W (hA T G)

theorem hOut_at : hOut T G X M W (ix3 b l k)
    = X (ix3 b l k) + M (ix4 b 0 0 k) * dotAt W (fun j => T (ix3 b l j) * silu (G (ix3 b l j))) k := by
  unfold silu
  simp only [← hA_at]
  exact hAdd_at X M W b l k _

end Cert.MlFwd

/-! ## The call's array -/

namespace Cert.Kernel9Ideal.Array

open Idealize.ShloMosaic Idealize.ShloMosaic.TcCoe Idealize.SL.Sem Cert.Kernel9Ideal Cert.Kernel9Ideal.Gen
open Cert.MlFwd
open Cert.MlOut (sg)
open Cert.Out (dotAt silu)

variable (r : Fin 512) (k : Fin 1024)

theorem out_at (T G X : FVec Ideal S1x512x1024 .f32) (M : FVec Ideal S1x1x1x1024 .f32) (W : FVec Ideal S1024x1024 .bf16)
    (z : Fin 1) : k0_pay1 (F := Ideal) T G X M W (ix3 z r k)
    = X (ix3 0 r k) + M (ix4 0 0 0 k) * dotAt W (fun j => T (ix3 0 r j) * silu (G (ix3 0 r j))) k := by
  unfold dotAt silu sg
  pointwise [k0_pay1]

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0, 0] ∧ win0_4.index t = ![0, 0]
    ∧ win0_5.index t = ![t.val / 4, t.val % 4, 0] ∧ t.val < 8 :=
  (by decide +kernel : ∀ t : Fin grid0.N, _)

/-- The batch element of a grid point. -/
def bOf (t : Fin cfg0.N) : Fin 2 := ⟨t.val / 4, by have := (idx t).2.2.2.2.2.2; omega⟩
/-- The position of a grid point's row. -/
def lOf (t : Fin cfg0.N) (r : Fin 512) : Fin 2048 := ⟨t.val % 4 * 512 + r, by omega⟩

variable (m : (ℓ : Loc nD τ sig) → Buf (Elt Ideal) ℓ) (c : Dev nD) (t : Fin cfg0.N)

/-- The arrays at launch. -/
abbrev aT : FVec Ideal S2x2048x1024 .f32 := m ((c.tc : Thread nD τ).loc main_arg0)
@[inherit_doc aT] abbrev aG : FVec Ideal S2x2048x1024 .f32 := m ((c.tc : Thread nD τ).loc main_arg1)
@[inherit_doc aT] abbrev aX : FVec Ideal S2x2048x1024 .f32 := m ((c.tc : Thread nD τ).loc main_arg2)
@[inherit_doc aT] abbrev aM : FVec Ideal S2x2x1x1024 .f32 := m ((c.tc : Thread nD τ).loc main_arg3)
@[inherit_doc aT] abbrev aW : FVec Ideal S1024x1024 .bf16 := m ((c.tc : Thread nD τ).loc main_arg4)

theorem blk_t : iblk m c 0 t (ix3 0 r k) = aT m c (ix3 (bOf t) (lOf t r) k) := by
  blk_ext [iblk, V, bOf, lOf, idx t]

theorem blk_g : iblk m c 1 t (ix3 0 r k) = aG m c (ix3 (bOf t) (lOf t r) k) := by
  blk_ext [iblk, V, bOf, lOf, idx t]

theorem blk_x : iblk m c 2 t (ix3 0 r k) = aX m c (ix3 (bOf t) (lOf t r) k) := by
  blk_ext [iblk, V, bOf, lOf, idx t]

theorem blk_m : iblk m c 3 t (ix4 0 0 0 k) = aM m c (ix4 (bOf t) 0 0 k) := by
  blk_ext [iblk, V, bOf, idx t]

theorem blk_w (j : Fin 1024) : iblk m c 4 t (ix2 j k) = aW m c (ix2 j k) := by
  blk_ext [iblk, V, idx t]

theorem out5 : out0_5 (iblk m c 0 t) (iblk m c 1 t) (iblk m c 2 t) (iblk m c 3 t) (iblk m c 4 t)
    = k0_pay1 (iblk m c 0 t) (iblk m c 1 t) (iblk m c 2 t) (iblk m c 3 t) (iblk m c 4 t) := by
  unfold out0_5
  frame_out

theorem final : (dats m 0 c).arrAt 5 cfg0.N = hOut (aT m c) (aG m c) (aX m c) (aM m c) (aW m c) := by
  refine (dats m 0 c).arrAt_eq_of_covers 5 _ (by decide +kernel) fun t hf y => ?_
  blk_simp
  rw [after0_5, out5]
  idx_vars y
  have e : (win0_5.blk t).view.emb (ix3 y0 y1 y2) = ix3 (bOf t) (lOf t y1) y2 := by
    blk_ext [bOf, lOf, idx t]
  refine (out_at y1 y2 _ _ _ _ _ y0).trans (Eq.trans ?_ ((congrArg _ e).trans (hOut_at _ _ _ _ _ _ _ _)).symm)
  refine congrArg₂ (· + ·) (blk_x y1 y2 m c t) (congrArg₂ (· * ·) (blk_m y2 m c t) ?_)
  exact Finset.sum_congr rfl fun j _ => congrArg₂ (· * ·)
    (congrArg₂ (· * ·) (blk_t y1 j m c t) (congrArg silu (blk_g y1 j m c t))) (blk_w y2 m c t j)

end Cert.Kernel9Ideal.Array

end
-- ==== Proof.ChHost.lean ====
/- The chunk mixer's gated output projection on the host: its rows one by one. -/
module

public import proofs.«01_k».proof.Proof.Gen.Reference12Ideal
public import proofs.«01_k».proof.Proof.MlFwd
public import Idealize.ShloMosaic.Lib.Claim
public import Idealize.ShloMosaic.Lib.Pointwise

@[expose] public section

set_option maxRecDepth 16384

noncomputable section

namespace Cert.ChFwd

open Idealize.ShloMosaic Idealize.ShloMosaic.TcCoe Idealize.SL.Sem Cert.Reference12Ideal Cert.Reference12Ideal.Gen
open Cert.Out (dotAt silu mean cen cinv ln)
open Cert.MlFwd (hAdd hAdd_at)
open Cert.MlOut (sg)

variable (X : FVec Ideal S2x2048x1024 .f32) (b : Fin 2) (l : Fin 2048) (k : Fin 1024)

/-! ## The layer norm -/

/-- The rows' means. -/
def hMean : FVec Ideal S2x2048x1 .f32 :=
  Host.divf (broadcastInDim S2x2048x1 ![0, 1] bcast_S2x2048_S2x2048x1_0_1
      (Host.reduceAdd X (constant S_ .f32 0x00000000#32) reducesTo_S2x2048x1024_S2x2048_d2 h_S_))
    (broadcastInDim S2x2048x1 ![] bcast_S_S2x2048x1 (constant S_ .f32 0x44800000#32))

theorem hMean_at (z : Fin 1) : hMean X (ix3 b l z) = mean (fun k => X (ix3 b l k)) := by
  unfold mean
  pointwise [hMean]

/-- The rows less their means. -/
def hCen : FVec Ideal S2x2048x1024 .f32 :=
  subf X (broadcastInDim S2x2048x1024 ![0, 1, 2] bcast_S2x2048x1_S2x2048x1024_0_1_2 (hMean X))

theorem hCen_at : hCen X (ix3 b l k) = cen (fun k => X (ix3 b l k)) k := by
  unfold cen
  rw [← hMean_at X b l 0]
  pointwise [hCen]

/-- The inverse roots of the rows' variances. -/
def hCinv : FVec Ideal S2x2048x1 .f32 :=
  Host.rsqrt (addf (Host.divf (broadcastInDim S2x2048x1 ![0, 1] bcast_S2x2048_S2x2048x1_0_1
      (Host.reduceAdd (mulf (hCen X) (hCen X)) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32)))

theorem hCinv_at (z : Fin 1) : hCinv X (ix3 b l z) = cinv (fun k => X (ix3 b l k)) := by
  unfold cinv
  simp only [← hCen_at]
  unfold hCinv
  generalize hCen X = C
  pointwise []

variable (LG LB : FVec Ideal S1x1024 .f32)

/-- The layer norm. -/
def hLn : FVec Ideal S2x2048x1024 .f32 :=
  addf (mulf (mulf (hCen X) (broadcastInDim S2x2048x1024 ![0, 1, 2] bcast_S2x2048x1_S2x2048x1024_0_1_2 (hCinv X)))
    (broadcastInDim S2x2048x1024 ![0, 1, 2] bcast_S1x1x1024_S2x2048x1024_0_1_2 (broadcastInDim S1x1x1024 ![1, 2] bcast_S1x1024_S1x1x1024_1_2 LG)))
    (broadcastInDim S2x2048x1024 ![0, 1, 2] bcast_S1x1x1024_S2x2048x1024_0_1_2 (broadcastInDim S1x1x1024 ![1, 2] bcast_S1x1024_S1x1x1024_1_2 LB))

theorem hLn_at : hLn X LG LB (ix3 b l k) = ln (fun k => X (ix3 b l k)) (fun k => LG (ix2 0 k)) (fun k => LB (ix2 0 k)) k := by
  unfold ln
  rw [← hCen_at, ← hCinv_at X b l 0]
  unfold hLn
  generalize hCen X = C
  generalize hCinv X = I
  pointwise []

/-! ## The chunks -/

variable (WS : FVec Ideal S8x128x128 .f32) (BS : FVec Ideal S128x8 .f32)

/-- The rows of each chunk mixed, lane group by lane group. -/
def hMix : FVec Ideal S2x2048x1024 .f32 :=
  shapeCast _ (addf (transpose S2x16x128x8x128 [1, 2, 4, 0, 3]
      (Host.dotGeneral dot_S2x16x128x8x128_S8x128x128_S8x2x16x128x128_2_2_014_1_3_0 none
        (shapeCast _ X shapeCasts_S2x2048x1024_S2x16x128x8x128) WS) transposes_S8x2x16x128x128_S2x16x128x8x128_1_2_4_0_3)
    (broadcastInDim S2x16x128x8x128 ![0, 1, 2, 3, 4] bcast_S1x1x128x8x1_S2x16x128x8x128_0_1_2_3_4
      (broadcastInDim S1x1x128x8x1 ![2, 3, 4] bcast_S128x8x1_S1x1x128x8x1_2_3_4
        (broadcastInDim S128x8x1 ![0, 1] bcast_S128x8_S128x8x1_0_1 BS)))) shapeCasts_S2x16x128x8x128_S2x2048x1024

/-- The same, of one row. -/
def mixed (x : Fin 2048 → EReal) : EReal :=
  ∑ i : Fin 128, WS (ix3 ⟨k.val / 128, by omega⟩ ⟨l.val % 128, by omega⟩ i) * x ⟨l.val / 128 * 128 + i, by omega⟩
    + BS (ix2 ⟨l.val % 128, by omega⟩ ⟨k.val / 128, by omega⟩)

theorem hMix_at : hMix X WS BS (ix3 b l k) = mixed l k WS BS (fun l => X (ix3 b l k)) := by
  unfold mixed
  simp only [mul_comm (WS _)]
  pointwise [hMix]

/-- The sigmoid linear unit. -/
def hSilu : FVec Ideal S2x2048x1024 .f32 :=
  mulf X (Host.divf (broadcastInDim S2x2048x1024 ![] bcast_S_S2x2048x1024 (constant S_ .f32 0x3F800000#32))
    (addf (broadcastInDim S2x2048x1024 ![] bcast_S_S2x2048x1024 (constant S_ .f32 0x3F800000#32)) (Host.exp (Host.negf X))))

theorem hSilu_at : hSilu X (ix3 b l k) = silu (X (ix3 b l k)) := by
  unfold silu sg
  pointwise [hSilu]
  rfl

/-! ## The residual -/

variable (U V G : FVec Ideal S2x2048x1024 .f32) (M : FVec Ideal S2x2x1x1024 .f32) (W : FVec Ideal S1024x1024 .bf16)

/-- The mixed rows, gated. -/
def hA : FVec Ideal S2x2048x1024 .f32 := mulf (mulf U (hMix (hLn V LG LB) WS BS)) (hSilu G)

/-- The same, of one row. -/
def gated (u q y : Cert.Proj.Row) : Cert.Proj.Row := fun k => u k * q k * silu (y k)

theorem hA_at : hA LG LB WS BS U V G (ix3 b l k) = gated (fun k => U (ix3 b l k))
    (fun k => mixed l k WS BS fun l => ln (fun k => V (ix3 b l k)) (fun k => LG (ix2 0 k)) (fun k => LB (ix2 0 k)) k)
    (fun k => G (ix3 b l k)) k := by
  unfold gated
  simp only [← hLn_at]
  rw [← hMix_at, ← hSilu_at G]
  unfold hA
  generalize hMix (hLn V LG LB) WS BS = P
  generalize hSilu G = Q
  pointwise []

/-- The gated rows' projection, added. -/
def hOut : FVec Ideal S2x2048x1024 .f32 := hAdd X M W (hA LG LB WS BS U V G)

theorem hOut_at : hOut X LG LB WS BS U V G M W (ix3 b l k) = X (ix3 b l k) + M (ix4 b 0 0 k)
    * dotAt W (gated (fun k => U (ix3 b l k))
      (fun k => mixed l k WS BS fun l => ln (fun k => V (ix3 b l k)) (fun k => LG (ix2 0 k)) (fun k => LB (ix2 0 k)) k)
      (fun k => G (ix3 b l k))) k := by
  refine (hAdd_at _ _ _ _ _ _ _).trans ?_
  refine congrArg (fun s => X (ix3 b l k) + M (ix4 b 0 0 k) * dotAt W s k) (funext fun j => hA_at b l j LG LB WS BS U V G)

end Cert.ChFwd

end
-- ==== Proof.ChTile.lean ====
/- The chunk mixer's tiles in the call: one chunk's rows mixed, lane group by lane group, and the chunks stacked. -/
module

public import proofs.«01_k».proof.Proof.Gen.Kernel12Ideal.Value
public import Idealize.ShloMosaic.Lib.Claim
public import Idealize.ShloMosaic.Lib.Pointwise
public import Idealize.ShloMosaic.Lib.Pipeline.ValueKit

@[expose] public section

set_option maxRecDepth 16384

noncomputable section

namespace Cert.Kernel12Ideal.Array

open Idealize.ShloMosaic Idealize.ShloMosaic.TcCoe Idealize.SL.Sem Cert.Kernel12Ideal Cert.Kernel12Ideal.Gen

variable (W : FVec Ideal S8x128x128 .f32) (B : FVec Ideal S128x8 .f32) (S : FVec Ideal S128x1024 .f32) (p : Fin 128) (k : Fin 1024)

/-- One element of a chunk's mixed rows. -/
def band : EReal := ∑ i : Fin 128, W (ix3 ⟨k.val / 128, by omega⟩ p i) * S (ix2 i k) + B (ix2 p ⟨k.val / 128, by omega⟩)

/-- The element of a tile is the chunk's. -/
theorem tile (g : Fin 8) (k' : Fin 1024) (hg : (g : ℕ) = k / 128) (hk : (k' : ℕ) = k) :
    ∑ i : Fin 128, W (ix3 g p i) * S (ix2 i k') + B (ix2 p g) = band W B S p k := by
  obtain rfl : k' = k := Fin.ext hk
  rw [show g = ⟨k'.val / 128, by omega⟩ from Fin.ext hg]
  rfl

/-- The last chunk's rows, mixed, from its first tiles. -/
def last (v12 : Vec Ideal S8x128x128 .f32) (v13 : Vec Ideal S128x8 .f32) (v256 : FVec Ideal S128x1024 .f32) (v265 v274 v283 v292 v298 : FVec Ideal S128x128 .f32) : FVec Ideal S128x1024 .f32 :=
  have v299 : FVec Ideal S128x1 .f32 := extractStridedSlice S128x1 ![0, 4] v13 slices_S128x8_o0_4_S128x1
  have v300 : FVec Ideal S128x128 .f32 := broadcastTo S128x128 v299 broadcasts_S128x1_S128x128
  have v301 : FVec Ideal S128x128 .f32 := addf v298 v300
  have v302 : FVec Ideal S1x128x128 .f32 := extractStridedSlice S1x128x128 ![5, 0, 0] v12 slices_S8x128x128_o5_0_0_S1x128x128
  have v303 : FVec Ideal S128x128 .f32 := shapeCast S128x128 v302 shapeCasts_S1x128x128_S128x128
  have v304 : FVec Ideal S128x128 .f32 := extractStridedSlice S128x128 ![0, 640] v256 slices_S128x1024_o0_640_S128x128
  have v305 : FVec Ideal S128x128 .bf16 := truncf .bf16 v303 bitsLt_bf16_f32
  have v306 : FVec Ideal S128x128 .bf16 := truncf .bf16 v304 bitsLt_bf16_f32
  have cst_57 : FVec Ideal S128x128 .f32 := constant S128x128 .f32 0x00000000#32
  have v307 : FVec Ideal S128x128 .f32 := matmul dot_S128x128_S128x128_S128x128_1_0_0_1_n_n none v305 v306 cst_57
  have v308 : FVec Ideal S128x1 .f32 := extractStridedSlice S128x1 ![0, 5] v13 slices_S128x8_o0_5_S128x1
  have v309 : FVec Ideal S128x128 .f32 := broadcastTo S128x128 v308 broadcasts_S128x1_S128x128
  have v310 : FVec Ideal S128x128 .f32 := addf v307 v309
  have v311 : FVec Ideal S1x128x128 .f32 := extractStridedSlice S1x128x128 ![6, 0, 0] v12 slices_S8x128x128_o6_0_0_S1x128x128
  have v312 : FVec Ideal S128x128 .f32 := shapeCast S128x128 v311 shapeCasts_S1x128x128_S128x128
  have v313 : FVec Ideal S128x128 .f32 := extractStridedSlice S128x128 ![0, 768] v256 slices_S128x1024_o0_768_S128x128
  have v314 : FVec Ideal S128x128 .bf16 := truncf .bf16 v312 bitsLt_bf16_f32
  have v315 : FVec Ideal S128x128 .bf16 := truncf .bf16 v313 bitsLt_bf16_f32
  have cst_58 : FVec Ideal S128x128 .f32 := constant S128x128 .f32 0x00000000#32
  have v316 : FVec Ideal S128x128 .f32 := matmul dot_S128x128_S128x128_S128x128_1_0_0_1_n_n none v314 v315 cst_58
  have v317 : FVec Ideal S128x1 .f32 := extractStridedSlice S128x1 ![0, 6] v13 slices_S128x8_o0_6_S128x1
  have v318 : FVec Ideal S128x128 .f32 := broadcastTo S128x128 v317 broadcasts_S128x1_S128x128
  have v319 : FVec Ideal S128x128 .f32 := addf v316 v318
  have v320 : FVec Ideal S1x128x128 .f32 := extractStridedSlice S1x128x128 ![7, 0, 0] v12 slices_S8x128x128_o7_0_0_S1x128x128
  have v321 : FVec Ideal S128x128 .f32 := shapeCast S128x128 v320 shapeCasts_S1x128x128_S128x128
  have v322 : FVec Ideal S128x128 .f32 := extractStridedSlice S128x128 ![0, 896] v256 slices_S128x1024_o0_896_S128x128
  have v323 : FVec Ideal S128x128 .bf16 := truncf .bf16 v321 bitsLt_bf16_f32
  have v324 : FVec Ideal S128x128 .bf16 := truncf .bf16 v322 bitsLt_bf16_f32
  have cst_59 : FVec Ideal S128x128 .f32 := constant S128x128 .f32 0x00000000#32
  have v325 : FVec Ideal S128x128 .f32 := matmul dot_S128x128_S128x128_S128x128_1_0_0_1_n_n none v323 v324 cst_59
  have v326 : FVec Ideal S128x1 .f32 := extractStridedSlice S128x1 ![0, 7] v13 slices_S128x8_o0_7_S128x1
  have v327 : FVec Ideal S128x128 .f32 := broadcastTo S128x128 v326 broadcasts_S128x1_S128x128
  have v328 : FVec Ideal S128x128 .f32 := addf v325 v327
  have v329 : FVec Ideal S128x1024 .f32 := concatenate S128x1024 1 [⟨S128x128, v265⟩, ⟨S128x128, v274⟩, ⟨S128x128, v283⟩, ⟨S128x128, v292⟩, ⟨S128x128, v301⟩, ⟨S128x128, v310⟩, ⟨S128x128, v319⟩, ⟨S128x128, v328⟩] concatenates_S128x128_S128x128_S128x128_S128x128_S128x128_S128x128_S128x128_S128x128_S128x1024_d1
  v329

/-- Four chunks' rows. -/
def stack (v107 v181 v255 v329 : FVec Ideal S128x1024 .f32) : FVec Ideal S512x1024 .f32 :=
  have v330 : FVec Ideal S512x1024 .f32 := concatenate S512x1024 0 [⟨S128x1024, v107⟩, ⟨S128x1024, v181⟩, ⟨S128x1024, v255⟩, ⟨S128x1024, v329⟩] concatenates_S128x1024_S128x1024_S128x1024_S128x1024_S512x1024_d0
  v330

/-- The gated rows' projection, added. -/
def closing (v1 v5 v7 : FVec Ideal S512x1024 .f32) (v9 : FVec Ideal S1x1024 .f32) (v330 : FVec Ideal S512x1024 .f32) (v335 : FVec Ideal S1024x1024 .bf16) : FVec Ideal S1x512x1024 .f32 :=
  have v331 : FVec Ideal S512x1024 .f32 := mulf v1 v330
  have v332 : FVec Ideal S512x1024 .f32 := logistic v5
  have v333 : FVec Ideal S512x1024 .f32 := mulf v5 v332
  have v334 : FVec Ideal S512x1024 .f32 := mulf v331 v333
  have v336 : FVec Ideal S512x1024 .bf16 := truncf .bf16 v334 bitsLt_bf16_f32
  have cst_62 : FVec Ideal S512x1024 .f32 := constant S512x1024 .f32 0x00000000#32
  have v337 : FVec Ideal S512x1024 .f32 := matmul dot_S512x1024_S1024x1024_S512x1024_1_0_0_1_n_n none v336 v335 cst_62
  have v338 : FVec Ideal S512x1024 .f32 := broadcastTo S512x1024 v9 broadcasts_S1x1024_S512x1024
  have v339 : FVec Ideal S512x1024 .f32 := mulf v338 v337
  have v340 : FVec Ideal S512x1024 .f32 := addf v7 v339
  have v343 : FVec Ideal S1x512x1024 .f32 := shapeCast S1x512x1024 v340 shapeCasts_S512x1024_S1x512x1024
  v343

theorem band1_at (x y : FVec Ideal S1x1024 .f32) (c : FVec Ideal S512x1024 .f32) (d : FVec Ideal S512x1 .f32)
    (hS : k0_pay8 x y c d = S) :
    k0_pay16 (F := Ideal) W B (k0_pay8 x y c d) (k0_pay9 x y W B c d) (k0_pay10 x y W B c d) (k0_pay11 x y W B c d)
      (k0_pay12 x y W B c d) (k0_pay13 x y W B c d) (k0_pay14 W) (k0_pay15 x y c d) (ix2 p k) = band W B S p k := by
  have hk := k.isLt
  unfold k0_pay16 k0_pay9 k0_pay10 k0_pay11 k0_pay12 k0_pay13 k0_pay14 k0_pay15
  rw [hS]
  pointwise []
  by_cases h0 : (k : ℕ) < 128
  · rw [dif_pos h0]
    exact tile W B S p k _ _ (by show 0 = (k : ℕ) / 128; omega) (by show ((k : ℕ)) = k; omega)
  rw [dif_neg h0]
  by_cases h1 : (k : ℕ) - 128 < 128
  · rw [dif_pos h1]
    exact tile W B S p k _ _ (by show 1 = (k : ℕ) / 128; omega) (by show 128 + ((k : ℕ) - 128) = k; omega)
  rw [dif_neg h1]
  by_cases h2 : (k : ℕ) - 128 - 128 < 128
  · rw [dif_pos h2]
    exact tile W B S p k _ _ (by show 2 = (k : ℕ) / 128; omega) (by show 256 + ((k : ℕ) - 128 - 128) = k; omega)
  rw [dif_neg h2]
  by_cases h3 : (k : ℕ) - 128 - 128 - 128 < 128
  · rw [dif_pos h3]
    exact tile W B S p k _ _ (by show 3 = (k : ℕ) / 128; omega) (by show 384 + ((k : ℕ) - 128 - 128 - 128) = k; omega)
  rw [dif_neg h3]
  by_cases h4 : (k : ℕ) - 128 - 128 - 128 - 128 < 128
  · rw [dif_pos h4]
    exact tile W B S p k _ _ (by show 4 = (k : ℕ) / 128; omega) (by show 512 + ((k : ℕ) - 128 - 128 - 128 - 128) = k; omega)
  rw [dif_neg h4]
  by_cases h5 : (k : ℕ) - 128 - 128 - 128 - 128 - 128 < 128
  · rw [dif_pos h5]
    exact tile W B S p k _ _ (by show 5 = (k : ℕ) / 128; omega) (by show 640 + ((k : ℕ) - 128 - 128 - 128 - 128 - 128) = k; omega)
  rw [dif_neg h5]
  by_cases h6 : (k : ℕ) - 128 - 128 - 128 - 128 - 128 - 128 < 128
  · rw [dif_pos h6]
    exact tile W B S p k _ _ (by show 6 = (k : ℕ) / 128; omega) (by show 768 + ((k : ℕ) - 128 - 128 - 128 - 128 - 128 - 128) = k; omega)
  rw [dif_neg h6]
  exact tile W B S p k _ _ (by show 7 = (k : ℕ) / 128; omega) (by show 896 + ((k : ℕ) - 128 - 128 - 128 - 128 - 128 - 128 - 128) = k; omega)

theorem band2_at (N : FVec Ideal S512x1024 .f32) (hS : k0_pay17 N = S) :
    k0_pay22 (F := Ideal) W B (k0_pay17 N) (k0_pay18 W B N) (k0_pay19 W B N) (k0_pay20 W B N) (k0_pay21 W) (ix2 p k)
      = band W B S p k := by
  have hk := k.isLt
  unfold k0_pay22 k0_pay18 k0_pay19 k0_pay20 k0_pay21
  rw [hS]
  pointwise []
  by_cases h0 : (k : ℕ) < 128
  · rw [dif_pos h0]
    exact tile W B S p k _ _ (by show 0 = (k : ℕ) / 128; omega) (by show ((k : ℕ)) = k; omega)
  rw [dif_neg h0]
  by_cases h1 : (k : ℕ) - 128 < 128
  · rw [dif_pos h1]
    exact tile W B S p k _ _ (by show 1 = (k : ℕ) / 128; omega) (by show 128 + ((k : ℕ) - 128) = k; omega)
  rw [dif_neg h1]
  by_cases h2 : (k : ℕ) - 128 - 128 < 128
  · rw [dif_pos h2]
    exact tile W B S p k _ _ (by show 2 = (k : ℕ) / 128; omega) (by show 256 + ((k : ℕ) - 128 - 128) = k; omega)
  rw [dif_neg h2]
  by_cases h3 : (k : ℕ) - 128 - 128 - 128 < 128
  · rw [dif_pos h3]
    exact tile W B S p k _ _ (by show 3 = (k : ℕ) / 128; omega) (by show 384 + ((k : ℕ) - 128 - 128 - 128) = k; omega)
  rw [dif_neg h3]
  by_cases h4 : (k : ℕ) - 128 - 128 - 128 - 128 < 128
  · rw [dif_pos h4]
    exact tile W B S p k _ _ (by show 4 = (k : ℕ) / 128; omega) (by show 512 + ((k : ℕ) - 128 - 128 - 128 - 128) = k; omega)
  rw [dif_neg h4]
  by_cases h5 : (k : ℕ) - 128 - 128 - 128 - 128 - 128 < 128
  · rw [dif_pos h5]
    exact tile W B S p k _ _ (by show 5 = (k : ℕ) / 128; omega) (by show 640 + ((k : ℕ) - 128 - 128 - 128 - 128 - 128) = k; omega)
  rw [dif_neg h5]
  by_cases h6 : (k : ℕ) - 128 - 128 - 128 - 128 - 128 - 128 < 128
  · rw [dif_pos h6]
    exact tile W B S p k _ _ (by show 6 = (k : ℕ) / 128; omega) (by show 768 + ((k : ℕ) - 128 - 128 - 128 - 128 - 128 - 128) = k; omega)
  rw [dif_neg h6]
  exact tile W B S p k _ _ (by show 7 = (k : ℕ) / 128; omega) (by show 896 + ((k : ℕ) - 128 - 128 - 128 - 128 - 128 - 128 - 128) = k; omega)

theorem band3_at (N : FVec Ideal S512x1024 .f32) (hS : k0_pay23 N = S) :
    k0_pay34 (F := Ideal) W B (k0_pay23 N) (k0_pay26 (k0_pay24 W N) (k0_pay25 B)) (k0_pay27 W B (k0_pay23 N))
      (k0_pay28 W B (k0_pay23 N)) (k0_pay29 W B (k0_pay23 N)) (k0_pay30 W B (k0_pay23 N)) (k0_pay31 W B (k0_pay23 N))
      (k0_pay32 W (k0_pay23 N)) (k0_pay33 B) (ix2 p k) = band W B S p k := by
  have hk := k.isLt
  unfold k0_pay34 k0_pay26 k0_pay24 k0_pay25 k0_pay27 k0_pay28 k0_pay29 k0_pay30 k0_pay31 k0_pay32 k0_pay33
  rw [hS]
  pointwise []
  by_cases h0 : (k : ℕ) < 128
  · rw [dif_pos h0]
    exact tile W B S p k _ _ (by show 0 = (k : ℕ) / 128; omega) (by show ((k : ℕ)) = k; omega)
  rw [dif_neg h0]
  by_cases h1 : (k : ℕ) - 128 < 128
  · rw [dif_pos h1]
    exact tile W B S p k _ _ (by show 1 = (k : ℕ) / 128; omega) (by show 128 + ((k : ℕ) - 128) = k; omega)
  rw [dif_neg h1]
  by_cases h2 : (k : ℕ) - 128 - 128 < 128
  · rw [dif_pos h2]
    exact tile W B S p k _ _ (by show 2 = (k : ℕ) / 128; omega) (by show 256 + ((k : ℕ) - 128 - 128) = k; omega)
  rw [dif_neg h2]
  by_cases h3 : (k : ℕ) - 128 - 128 - 128 < 128
  · rw [dif_pos h3]
    exact tile W B S p k _ _ (by show 3 = (k : ℕ) / 128; omega) (by show 384 + ((k : ℕ) - 128 - 128 - 128) = k; omega)
  rw [dif_neg h3]
  by_cases h4 : (k : ℕ) - 128 - 128 - 128 - 128 < 128
  · rw [dif_pos h4]
    exact tile W B S p k _ _ (by show 4 = (k : ℕ) / 128; omega) (by show 512 + ((k : ℕ) - 128 - 128 - 128 - 128) = k; omega)
  rw [dif_neg h4]
  by_cases h5 : (k : ℕ) - 128 - 128 - 128 - 128 - 128 < 128
  · rw [dif_pos h5]
    exact tile W B S p k _ _ (by show 5 = (k : ℕ) / 128; omega) (by show 640 + ((k : ℕ) - 128 - 128 - 128 - 128 - 128) = k; omega)
  rw [dif_neg h5]
  by_cases h6 : (k : ℕ) - 128 - 128 - 128 - 128 - 128 - 128 < 128
  · rw [dif_pos h6]
    exact tile W B S p k _ _ (by show 6 = (k : ℕ) / 128; omega) (by show 768 + ((k : ℕ) - 128 - 128 - 128 - 128 - 128 - 128) = k; omega)
  rw [dif_neg h6]
  exact tile W B S p k _ _ (by show 7 = (k : ℕ) / 128; omega) (by show 896 + ((k : ℕ) - 128 - 128 - 128 - 128 - 128 - 128 - 128) = k; omega)

theorem band4_at (N : FVec Ideal S512x1024 .f32) (hS : k0_pay35 N = S) :
    last W B (k0_pay35 N) (k0_pay36 W B N) (k0_pay37 W B N) (k0_pay38 W B N) (k0_pay39 W B N) (k0_pay40 W N) (ix2 p k)
      = band W B S p k := by
  have hk := k.isLt
  unfold last k0_pay36 k0_pay37 k0_pay38 k0_pay39 k0_pay40
  rw [hS]
  pointwise []
  by_cases h0 : (k : ℕ) < 128
  · rw [dif_pos h0]
    exact tile W B S p k _ _ (by show 0 = (k : ℕ) / 128; omega) (by show ((k : ℕ)) = k; omega)
  rw [dif_neg h0]
  by_cases h1 : (k : ℕ) - 128 < 128
  · rw [dif_pos h1]
    exact tile W B S p k _ _ (by show 1 = (k : ℕ) / 128; omega) (by show 128 + ((k : ℕ) - 128) = k; omega)
  rw [dif_neg h1]
  by_cases h2 : (k : ℕ) - 128 - 128 < 128
  · rw [dif_pos h2]
    exact tile W B S p k _ _ (by show 2 = (k : ℕ) / 128; omega) (by show 256 + ((k : ℕ) - 128 - 128) = k; omega)
  rw [dif_neg h2]
  by_cases h3 : (k : ℕ) - 128 - 128 - 128 < 128
  · rw [dif_pos h3]
    exact tile W B S p k _ _ (by show 3 = (k : ℕ) / 128; omega) (by show 384 + ((k : ℕ) - 128 - 128 - 128) = k; omega)
  rw [dif_neg h3]
  by_cases h4 : (k : ℕ) - 128 - 128 - 128 - 128 < 128
  · rw [dif_pos h4]
    exact tile W B S p k _ _ (by show 4 = (k : ℕ) / 128; omega) (by show 512 + ((k : ℕ) - 128 - 128 - 128 - 128) = k; omega)
  rw [dif_neg h4]
  by_cases h5 : (k : ℕ) - 128 - 128 - 128 - 128 - 128 < 128
  · rw [dif_pos h5]
    exact tile W B S p k _ _ (by show 5 = (k : ℕ) / 128; omega) (by show 640 + ((k : ℕ) - 128 - 128 - 128 - 128 - 128) = k; omega)
  rw [dif_neg h5]
  by_cases h6 : (k : ℕ) - 128 - 128 - 128 - 128 - 128 - 128 < 128
  · rw [dif_pos h6]
    exact tile W B S p k _ _ (by show 6 = (k : ℕ) / 128; omega) (by show 768 + ((k : ℕ) - 128 - 128 - 128 - 128 - 128 - 128) = k; omega)
  rw [dif_neg h6]
  exact tile W B S p k _ _ (by show 7 = (k : ℕ) / 128; omega) (by show 896 + ((k : ℕ) - 128 - 128 - 128 - 128 - 128 - 128 - 128) = k; omega)

theorem stack_at (v107 v181 v255 v329 : FVec Ideal S128x1024 .f32) (f : Fin 512 → EReal)
    (h0 : ∀ p : Fin 128, v107 (ix2 p k) = f ⟨p, by omega⟩) (h1 : ∀ p : Fin 128, v181 (ix2 p k) = f ⟨128 + p, by omega⟩)
    (h2 : ∀ p : Fin 128, v255 (ix2 p k) = f ⟨256 + p, by omega⟩) (h3 : ∀ p : Fin 128, v329 (ix2 p k) = f ⟨384 + p, by omega⟩)
    (r : Fin 512) : stack v107 v181 v255 v329 (ix2 r k) = f r := by
  have hr := r.isLt
  pointwise [stack]
  by_cases a0 : (r : ℕ) < 128
  · rw [dif_pos a0]
    exact (h0 _).trans (congrArg f (Fin.ext (by show (r : ℕ) = r; rfl)))
  rw [dif_neg a0]
  by_cases a1 : (r : ℕ) - 128 < 128
  · rw [dif_pos a1]
    exact (h1 _).trans (congrArg f (Fin.ext (by show 128 + ((r : ℕ) - 128) = r; omega)))
  rw [dif_neg a1]
  by_cases a2 : (r : ℕ) - 128 - 128 < 128
  · rw [dif_pos a2]
    exact (h2 _).trans (congrArg f (Fin.ext (by show 256 + ((r : ℕ) - 128 - 128) = r; omega)))
  rw [dif_neg a2]
  exact (h3 _).trans (congrArg f (Fin.ext (by show 384 + ((r : ℕ) - 128 - 128 - 128) = r; omega)))

theorem pay8_at (x y : FVec Ideal S1x1024 .f32) (c : FVec Ideal S512x1024 .f32) (d : FVec Ideal S512x1 .f32) :
    k0_pay8 (F := Ideal) x y c d (ix2 p k) = k0_pay7 (F := Ideal) x y c d (ix2 ⟨p, by omega⟩ k) := by
  unfold k0_pay8
  generalize k0_pay7 (F := Ideal) x y c d = N
  pointwise []

theorem pay17_at (N : FVec Ideal S512x1024 .f32) : k0_pay17 (F := Ideal) N (ix2 p k) = N (ix2 ⟨128 + p, by omega⟩ k) := by
  pointwise [k0_pay17]

theorem pay23_at (N : FVec Ideal S512x1024 .f32) : k0_pay23 (F := Ideal) N (ix2 p k) = N (ix2 ⟨256 + p, by omega⟩ k) := by
  pointwise [k0_pay23]

theorem pay35_at (N : FVec Ideal S512x1024 .f32) : k0_pay35 (F := Ideal) N (ix2 p k) = N (ix2 ⟨384 + p, by omega⟩ k) := by
  pointwise [k0_pay35]

end Cert.Kernel12Ideal.Array

end
-- ==== Proof.ChFwd.lean ====
/- What the chunk mixer's gated output projection leaves in its array. -/
module

public import proofs.«01_k».proof.Proof.ChHost
public import proofs.«01_k».proof.Proof.ChTile

@[expose] public section

set_option maxRecDepth 16384

noncomputable section

namespace Cert.Kernel12Ideal.Array

open Idealize.ShloMosaic Idealize.ShloMosaic.TcCoe Idealize.SL.Sem Cert.Kernel12Ideal Cert.Kernel12Ideal.Gen
open Cert.ChFwd
open Cert.MlOut (sg)
open Cert.Out (dotAt silu ln cen cinv mean)

/-! ## A block -/

section block

variable (U V G X : FVec Ideal S1x512x1024 .f32) (M : FVec Ideal S1x1x1x1024 .f32) (LG LB : FVec Ideal S1x1024 .f32)
  (WS : FVec Ideal S8x128x128 .f32) (BS : FVec Ideal S128x8 .f32) (W : FVec Ideal S1024x1024 .bf16)
  (r : Fin 512) (k : Fin 1024)

/-- The block's normed rows. -/
abbrev norm : FVec Ideal S512x1024 .f32 := k0_pay7 LG LB (k0_pay5 V) (k0_pay6 V)

theorem norm_at : norm V LG LB (ix2 r k)
    = ln (fun k => V (ix3 0 r k)) (fun k => LG (ix2 0 k)) (fun k => LB (ix2 0 k)) k := by
  unfold norm ln cinv cen mean
  pointwise [k0_pay7, k0_pay6, k0_pay5]

/-- One element of the block's mixed rows. -/
def bandN (N : FVec Ideal S512x1024 .f32) (r : Fin 512) : EReal :=
  ∑ i : Fin 128, WS (ix3 ⟨k.val / 128, by omega⟩ ⟨r.val % 128, by omega⟩ i) * N (ix2 ⟨r.val / 128 * 128 + i, by omega⟩ k)
    + BS (ix2 ⟨r.val % 128, by omega⟩ ⟨k.val / 128, by omega⟩)

theorem band_row (N : FVec Ideal S512x1024 .f32) (S : FVec Ideal S128x1024 .f32) (p : Fin 128) (o : ℕ) (ho : o + 128 ≤ 512)
    (hd : o % 128 = 0) (hS : ∀ i : Fin 128, S (ix2 i k) = N (ix2 ⟨o + i, by omega⟩ k)) :
    band WS BS S p k = bandN WS BS k N ⟨o + p, by omega⟩ := by
  have e : (⟨(o + p.val) % 128, by omega⟩ : Fin 128) = p := Fin.ext (by show (o + (p : ℕ)) % 128 = p; omega)
  unfold band bandN
  simp only [e]
  refine congrArg (· + BS (ix2 p ⟨k.val / 128, by omega⟩)) (Finset.sum_congr rfl fun i _ => congrArg (WS (ix3 _ p i) * ·) ?_)
  exact (hS i).trans (congrArg (fun q => N (ix2 q k)) (Fin.ext (by show o + (i : ℕ) = (o + p) / 128 * 128 + i; omega)))

/-- The block's mixed rows. -/
abbrev mix : FVec Ideal S512x1024 .f32 :=
  stack (k0_pay16 WS BS (k0_pay8 LG LB (k0_pay5 V) (k0_pay6 V)) (k0_pay9 LG LB WS BS (k0_pay5 V) (k0_pay6 V))
      (k0_pay10 LG LB WS BS (k0_pay5 V) (k0_pay6 V)) (k0_pay11 LG LB WS BS (k0_pay5 V) (k0_pay6 V))
      (k0_pay12 LG LB WS BS (k0_pay5 V) (k0_pay6 V)) (k0_pay13 LG LB WS BS (k0_pay5 V) (k0_pay6 V)) (k0_pay14 WS)
      (k0_pay15 LG LB (k0_pay5 V) (k0_pay6 V)))
    (k0_pay22 WS BS (k0_pay17 (norm V LG LB)) (k0_pay18 WS BS (norm V LG LB)) (k0_pay19 WS BS (norm V LG LB))
      (k0_pay20 WS BS (norm V LG LB)) (k0_pay21 WS))
    (k0_pay34 WS BS (k0_pay23 (norm V LG LB)) (k0_pay26 (k0_pay24 WS (norm V LG LB)) (k0_pay25 BS))
      (k0_pay27 WS BS (k0_pay23 (norm V LG LB))) (k0_pay28 WS BS (k0_pay23 (norm V LG LB)))
      (k0_pay29 WS BS (k0_pay23 (norm V LG LB))) (k0_pay30 WS BS (k0_pay23 (norm V LG LB)))
      (k0_pay31 WS BS (k0_pay23 (norm V LG LB))) (k0_pay32 WS (k0_pay23 (norm V LG LB))) (k0_pay33 BS))
    (last WS BS (k0_pay35 (norm V LG LB)) (k0_pay36 WS BS (norm V LG LB)) (k0_pay37 WS BS (norm V LG LB))
      (k0_pay38 WS BS (norm V LG LB)) (k0_pay39 WS BS (norm V LG LB)) (k0_pay40 WS (norm V LG LB)))

theorem mix_at : mix V LG LB WS BS (ix2 r k) = bandN WS BS k (norm V LG LB) r := by
  unfold mix
  refine stack_at k _ _ _ _ (bandN WS BS k (norm V LG LB)) (fun p => ?_) (fun p => ?_) (fun p => ?_) (fun p => ?_) r
  · refine (band1_at WS BS _ p k LG LB _ _ rfl).trans ?_
    refine (band_row WS BS k (norm V LG LB) _ p 0 (by omega) (by omega) fun i => ?_).trans (congrArg _ (Fin.ext (Nat.zero_add _)))
    exact (pay8_at i k LG LB _ _).trans (congrArg (fun q => norm V LG LB (ix2 q k)) (Fin.ext (Nat.zero_add _).symm))
  · exact (band2_at WS BS _ p k _ rfl).trans
      (band_row WS BS k (norm V LG LB) _ p 128 (by omega) (by omega) fun i => pay17_at i k _)
  · exact (band3_at WS BS _ p k _ rfl).trans
      (band_row WS BS k (norm V LG LB) _ p 256 (by omega) (by omega) fun i => pay23_at i k _)
  · exact (band4_at WS BS _ p k _ rfl).trans
      (band_row WS BS k (norm V LG LB) _ p 384 (by omega) (by omega) fun i => pay35_at i k _)

/-- A block's result. -/
abbrev outBlock : FVec Ideal S1x512x1024 .f32 :=
  closing (k0_pay1 U) (k0_pay2 G) (k0_pay3 X) (k0_pay4 M) (mix V LG LB WS BS) W

theorem out_at (z : Fin 1) : outBlock U V G X M LG LB WS BS W (ix3 z r k) = X (ix3 0 r k) + M (ix4 0 0 0 k)
    * dotAt W (gated (fun k => U (ix3 0 r k)) (fun k => bandN WS BS k (norm V LG LB) r) (fun k => G (ix3 0 r k))) k := by
  unfold dotAt gated silu sg
  simp only [← mix_at]
  unfold outBlock
  generalize mix V LG LB WS BS = Q
  pointwise [closing, k0_pay1, k0_pay2, k0_pay3, k0_pay4]

end block

/-! ## The call's array -/

variable (r : Fin 512) (k : Fin 1024)

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, 0, 0, 0] ∧ win0_5.index t = ![0, 0] ∧ win0_6.index t = ![0, 0]
    ∧ win0_7.index t = ![0, 0, 0] ∧ win0_8.index t = ![0, 0] ∧ win0_9.index t = ![0, 0]
    ∧ win0_10.index t = ![t.val / 4, t.val % 4, 0] ∧ t.val < 8 :=
  (by decide +kernel : ∀ t : Fin grid0.N, _)

/-- The batch element of a grid point. -/
def bOf (t : Fin cfg0.N) : Fin 2 := ⟨t.val / 4, by have := (idx t).2.2.2.2.2.2.2.2.2.2.2; omega⟩
/-- The position of a grid point's row. -/
def lOf (t : Fin cfg0.N) (r : Fin 512) : Fin 2048 := ⟨t.val % 4 * 512 + r, by omega⟩

variable (m : (ℓ : Loc nD τ sig) → Buf (Elt Ideal) ℓ) (c : Dev nD) (t : Fin cfg0.N)

/-- The arrays at launch. -/
abbrev aU : FVec Ideal S2x2048x1024 .f32 := m ((c.tc : Thread nD τ).loc main_arg0)
@[inherit_doc aU] abbrev aV : FVec Ideal S2x2048x1024 .f32 := m ((c.tc : Thread nD τ).loc main_arg1)
@[inherit_doc aU] abbrev aG : FVec Ideal S2x2048x1024 .f32 := m ((c.tc : Thread nD τ).loc main_arg2)
@[inherit_doc aU] abbrev aX : FVec Ideal S2x2048x1024 .f32 := m ((c.tc : Thread nD τ).loc main_arg3)
@[inherit_doc aU] abbrev aM : FVec Ideal S2x2x1x1024 .f32 := m ((c.tc : Thread nD τ).loc main_arg4)
@[inherit_doc aU] abbrev aLG : FVec Ideal S1x1024 .f32 := m ((c.tc : Thread nD τ).loc main_arg5)
@[inherit_doc aU] abbrev aLB : FVec Ideal S1x1024 .f32 := m ((c.tc : Thread nD τ).loc main_arg6)
@[inherit_doc aU] abbrev aWS : FVec Ideal S8x128x128 .f32 := m ((c.tc : Thread nD τ).loc main_arg7)
@[inherit_doc aU] abbrev aBS : FVec Ideal S128x8 .f32 := m ((c.tc : Thread nD τ).loc main_arg8)
@[inherit_doc aU] abbrev aW : FVec Ideal S1024x1024 .bf16 := m ((c.tc : Thread nD τ).loc main_arg9)

theorem blk_u : iblk m c 0 t (ix3 0 r k) = aU m c (ix3 (bOf t) (lOf t r) k) := by
  blk_ext [iblk, Gen.V, bOf, lOf, idx t]

theorem blk_v : iblk m c 1 t (ix3 0 r k) = aV m c (ix3 (bOf t) (lOf t r) k) := by
  blk_ext [iblk, Gen.V, bOf, lOf, idx t]

theorem blk_g : iblk m c 2 t (ix3 0 r k) = aG m c (ix3 (bOf t) (lOf t r) k) := by
  blk_ext [iblk, Gen.V, bOf, lOf, idx t]

theorem blk_x : iblk m c 3 t (ix3 0 r k) = aX m c (ix3 (bOf t) (lOf t r) k) := by
  blk_ext [iblk, Gen.V, bOf, lOf, idx t]

theorem blk_m : iblk m c 4 t (ix4 0 0 0 k) = aM m c (ix4 (bOf t) 0 0 k) := by
  blk_ext [iblk, Gen.V, bOf, idx t]

theorem blk_lg : iblk m c 5 t (ix2 0 k) = aLG m c (ix2 0 k) := by
  blk_ext [iblk, Gen.V, idx t]

theorem blk_lb : iblk m c 6 t (ix2 0 k) = aLB m c (ix2 0 k) := by
  blk_ext [iblk, Gen.V, idx t]

theorem blk_ws : iblk m c 7 t = aWS m c := by
  funext y
  idx_vars y
  blk_ext [iblk, Gen.V, idx t]

theorem blk_bs : iblk m c 8 t = aBS m c := by
  funext y
  idx_vars y
  blk_ext [iblk, Gen.V, idx t]

theorem blk_w (j : Fin 1024) : iblk m c 9 t (ix2 j k) = aW m c (ix2 j k) := by
  blk_ext [iblk, Gen.V, idx t]

/-- A block's mixed row is the host's. -/
theorem mixed_at : bandN (iblk m c 7 t) (iblk m c 8 t) k (norm (iblk m c 1 t) (iblk m c 5 t) (iblk m c 6 t)) r
    = mixed (lOf t r) k (aWS m c) (aBS m c) fun l =>
      ln (fun k => aV m c (ix3 (bOf t) l k)) (fun k => aLG m c (ix2 0 k)) (fun k => aLB m c (ix2 0 k)) k := by
  rw [blk_ws, blk_bs]
  have e : (⟨(lOf t r).val % 128, by omega⟩ : Fin 128) = ⟨r.val % 128, by omega⟩ :=
    Fin.ext (by show (t.val % 4 * 512 + (r : ℕ)) % 128 = r % 128; omega)
  unfold bandN mixed
  rw [e]
  refine congrArg (· + aBS m c (ix2 ⟨r.val % 128, by omega⟩ ⟨k.val / 128, by omega⟩))
    (Finset.sum_congr rfl fun i _ => congrArg (aWS m c (ix3 _ _ i) * ·) ?_)
  have q : (⟨(lOf t r).val / 128 * 128 + i, by omega⟩ : Fin 2048) = lOf t ⟨r.val / 128 * 128 + i, by omega⟩ :=
    Fin.ext (by show (t.val % 4 * 512 + (r : ℕ)) / 128 * 128 + i = t.val % 4 * 512 + (r / 128 * 128 + i); omega)
  refine (norm_at _ _ _ _ k).trans ?_
  rw [q]
  refine congrFun (congr (congrArg₂ ln ?_ ?_) ?_) k
  · exact funext fun k => blk_v _ k m c t
  · exact funext fun k => blk_lg k m c t
  · exact funext fun k => blk_lb k m c t

theorem out10 : out0_10 (iblk m c 0 t) (iblk m c 1 t) (iblk m c 2 t) (iblk m c 3 t) (iblk m c 4 t) (iblk m c 5 t) (iblk m c 6 t)
      (iblk m c 7 t) (iblk m c 8 t) (iblk m c 9 t)
    = outBlock (iblk m c 0 t) (iblk m c 1 t) (iblk m c 2 t) (iblk m c 3 t) (iblk m c 4 t) (iblk m c 5 t) (iblk m c 6 t)
      (iblk m c 7 t) (iblk m c 8 t) (iblk m c 9 t) := by
  unfold_out out0_10
  frame_out
  rfl

theorem final : (dats m 0 c).arrAt 10 cfg0.N
    = hOut (aX m c) (aLG m c) (aLB m c) (aWS m c) (aBS m c) (aU m c) (aV m c) (aG m c) (aM m c) (aW m c) := by
  refine (dats m 0 c).arrAt_eq_of_covers 10 _ (by decide +kernel) fun t hf y => ?_
  blk_simp
  rw [after0_10, out10]
  idx_vars y
  have e : (win0_10.blk t).view.emb (ix3 y0 y1 y2) = ix3 (bOf t) (lOf t y1) y2 := by
    blk_ext [bOf, lOf, idx t]
  refine (out_at _ _ _ _ _ _ _ _ _ _ y1 y2 y0).trans
    (Eq.trans ?_ ((congrArg _ e).trans (hOut_at _ _ _ _ _ _ _ _ _ _ _ _ _)).symm)
  refine congrArg₂ (· + ·) (blk_x y1 y2 m c t) (congrArg₂ (· * ·) (blk_m y2 m c t) ?_)
  refine Finset.sum_congr rfl fun j _ => congrArg₂ (· * ·) ?_ (blk_w y2 m c t j)
  refine congrFun (congr (congrArg₂ gated ?_ ?_) ?_) j
  · exact funext fun k => blk_u y1 k m c t
  · exact funext fun k => mixed_at y1 k m c t
  · exact funext fun k => blk_g y1 k m c t

end Cert.Kernel12Ideal.Array

end
-- ==== Proof.ChTileBwd.lean ====
/- The chunk mixer's gradients on the host and in a block of the call, read at an index. -/
module

public import proofs.«01_k».proof.Proof.Gen.Kernel13Ideal.Skeleton
public import proofs.«01_k».proof.Proof.ChFwd

@[expose] public section

set_option maxRecDepth 16384

noncomputable section

/-! ## The host's arrays -/

namespace Cert.ChBwd

open Idealize.ShloMosaic Idealize.ShloMosaic.TcCoe Idealize.SL.Sem Cert.Reference12Ideal Cert.Reference12Ideal.Gen
open Cert.ChFwd
open Cert.MlOut (sg hDa hDt hDt_at)
open Cert.Out (ln)

variable (U V G DY : FVec Ideal S2x2048x1024 .f32) (M : FVec Ideal S2x2x1x1024 .f32) (LG LB : FVec Ideal S1x1024 .f32)
  (WS : FVec Ideal S8x128x128 .f32) (BS : FVec Ideal S128x8 .f32) (W : FVec Ideal S1024x1024 .bf16)
  (b : Fin 2) (l : Fin 2048) (k : Fin 1024)

/-- The mixed rows. -/
abbrev hQ : FVec Ideal S2x2048x1024 .f32 := hMix (hLn V LG LB) WS BS

theorem hQ_at : hQ V LG LB WS BS (ix3 b l k) = mixed l k WS BS fun l =>
    ln (fun k => V (ix3 b l k)) (fun k => LG (ix2 0 k)) (fun k => LB (ix2 0 k)) k := by
  refine (hMix_at _ _ _ _ _ _).trans ?_
  simp only [hLn_at]

/-- The mixed rows, times `u`. -/
abbrev hT : FVec Ideal S2x2048x1024 .f32 := mulf U (hQ V LG LB WS BS)

theorem hT_at : hT U V LG LB WS BS (ix3 b l k) = U (ix3 b l k) * hQ V LG LB WS BS (ix3 b l k) := rfl

/-- The cotangent of `u`. -/
def hDu : FVec Ideal S2x2048x1024 .f32 := mulf (hDt G DY M W) (hQ V LG LB WS BS)

theorem hDu_at : hDu V G DY M LG LB WS BS W (ix3 b l k)
    = hDa DY M W (ix3 b l k) * (G (ix3 b l k) * sg (G (ix3 b l k))) * hQ V LG LB WS BS (ix3 b l k) :=
  congrArg (· * hQ V LG LB WS BS (ix3 b l k)) (hDt_at G DY M W b l k)

end Cert.ChBwd

/-! ## A block -/

namespace Cert.Kernel13Ideal.Array

open Idealize.ShloMosaic Idealize.ShloMosaic.TcCoe Idealize.SL.Sem Cert.Kernel13Ideal Cert.Kernel13Ideal.Gen
open Cert.MlOut (sg)
open Cert.Kernel12Ideal.Array (norm norm_at mix mix_at bandN)

variable (U V G DY : FVec Ideal S1x512x1024 .f32) (M : FVec Ideal S1x1x1x1024 .f32) (LG LB : FVec Ideal S1x1024 .f32)
  (WS : FVec Ideal S8x128x128 .f32) (BS : FVec Ideal S128x8 .f32) (W : FVec Ideal S1024x1024 .bf16)
  (r : Fin 512) (k : Fin 1024)

/-- The block's normed rows. -/
abbrev nrm : FVec Ideal S512x1024 .f32 := k0_pay12 LG LB (k0_pay6 V) (k0_pay10 V)

theorem nrm_eq : nrm V LG LB = norm V LG LB := rfl

/-- The first chunk's mixed rows. -/
abbrev chunk1 : FVec Ideal S128x1024 .f32 :=
  k0_pay36 WS BS (k0_pay13 LG LB (k0_pay6 V) (k0_pay10 V)) (k0_pay16 LG LB WS BS (k0_pay6 V) (k0_pay10 V))
    (k0_pay19 LG LB WS BS (k0_pay6 V) (k0_pay10 V)) (k0_pay22 LG LB WS BS (k0_pay6 V) (k0_pay10 V))
    (k0_pay25 LG LB WS BS (k0_pay6 V) (k0_pay10 V)) (k0_pay28 LG LB WS BS (k0_pay6 V) (k0_pay10 V))
    (k0_pay30 LG LB (k0_pay6 V) (k0_pay10 V)) (k0_pay31 WS)

/-- The second chunk's. -/
abbrev chunk2 (N : FVec Ideal S512x1024 .f32) : FVec Ideal S128x1024 .f32 :=
  k0_pay57 WS BS (k0_pay37 N) (k0_pay40 WS BS N) (k0_pay43 WS BS N) (k0_pay46 WS BS N) (k0_pay47 WS)

/-- The third chunk's. -/
abbrev chunk3 (N : FVec Ideal S512x1024 .f32) : FVec Ideal S128x1024 .f32 :=
  k0_pay82 WS BS (k0_pay58 N) (k0_pay61 WS BS N) (k0_pay64 WS BS (k0_pay58 N)) (k0_pay67 WS BS (k0_pay58 N))
    (k0_pay70 WS BS (k0_pay58 N)) (k0_pay73 WS BS (k0_pay58 N)) (k0_pay76 WS BS (k0_pay58 N)) (k0_pay79 WS BS (k0_pay58 N))

/-- The block's mixed rows. -/
abbrev mixq : FVec Ideal S512x1024 .f32 :=
  k0_pay106 WS BS (chunk1 V LG LB WS BS) (chunk2 WS BS (nrm V LG LB)) (chunk3 WS BS (nrm V LG LB)) (k0_pay83 (nrm V LG LB))
    (k0_pay86 WS BS (nrm V LG LB)) (k0_pay89 WS BS (nrm V LG LB)) (k0_pay92 WS BS (nrm V LG LB)) (k0_pay95 WS BS (nrm V LG LB))
    (k0_pay98 WS (nrm V LG LB)) (k0_pay99 BS)

theorem mixq_eq : mixq V LG LB WS BS = mix V LG LB WS BS := rfl

theorem mixq_at : mixq V LG LB WS BS (ix2 r k) = bandN WS BS k (norm V LG LB) r :=
  (congrFun (mixq_eq V LG LB WS BS) _).trans (mix_at V LG LB WS BS r k)

theorem sg_at (g : FVec Ideal S512x1024 .f32) : k0_pay108 (F := Ideal) g (ix2 r k) = sg (g (ix2 r k)) := by
  unfold sg
  pointwise [k0_pay108]

theorem row_at : k0_pay4 (F := Ideal) G (ix2 r k) = G (ix3 0 r k) := by
  pointwise [k0_pay4]

theorem dz_at : k0_pay113 (F := Ideal) (k0_pay5 M) DY (ix2 r k) = M (ix4 0 0 0 k) * DY (ix3 0 r k) := by
  pointwise [k0_pay113, k0_pay112, k0_pay5]

theorem da_at : k0_pay122 (F := Ideal) (k0_pay113 (k0_pay5 M) DY) W (ix2 r k)
    = ∑ j, M (ix4 0 0 0 j) * DY (ix3 0 r j) * W (ix2 k j) := by
  simp only [← dz_at]
  generalize k0_pay113 (F := Ideal) (k0_pay5 M) DY = Z
  pointwise [k0_pay122]

section rows

variable (c1 c2 c3 c4 : FVec Ideal S128x1024 .f32) (t0 t1 t2 t3 t4 : FVec Ideal S128x128 .f32) (s : FVec Ideal S128x1 .f32)

theorem t_at : k0_pay107 (F := Ideal) (k0_pay3 U) WS BS c1 c2 c3 c4 t0 t1 t2 t3 t4 s (ix2 r k)
    = U (ix3 0 r k) * k0_pay106 (F := Ideal) WS BS c1 c2 c3 c4 t0 t1 t2 t3 t4 s (ix2 r k) := by
  unfold k0_pay107
  generalize k0_pay106 (F := Ideal) WS BS c1 c2 c3 c4 t0 t1 t2 t3 t4 s = Q
  pointwise [k0_pay3]

theorem a_at : k0_pay111 (F := Ideal) (k0_pay3 U) (k0_pay4 G) WS BS c1 c2 c3 c4 t0 t1 t2 t3 t4 s (ix2 r k)
    = U (ix3 0 r k) * k0_pay106 (F := Ideal) WS BS c1 c2 c3 c4 t0 t1 t2 t3 t4 s (ix2 r k)
      * (G (ix3 0 r k) * sg (G (ix3 0 r k))) := by
  rw [← t_at, ← row_at G, ← sg_at]
  unfold k0_pay111
  generalize k0_pay107 (F := Ideal) (k0_pay3 U) WS BS c1 c2 c3 c4 t0 t1 t2 t3 t4 s = Q
  pointwise [k0_pay110, k0_pay4]

end rows

/-- The cotangent of `u` in a block. -/
abbrev duBlock (Q : FVec Ideal S512x1024 .f32) : FVec Ideal S1x512x1024 .f32 :=
  k0_pay246 (k0_pay115 (Scalar.ofBits .f32 0x00000000#32)) (k0_pay127 Q (k0_pay110 (k0_pay4 G)) (k0_pay113 (k0_pay5 M) DY) W)

theorem du_at (Q : FVec Ideal S512x1024 .f32) (z : Fin 1) : duBlock G DY M W Q (ix3 z r k)
    = k0_pay122 (F := Ideal) (k0_pay113 (k0_pay5 M) DY) W (ix2 r k) * (G (ix3 0 r k) * sg (G (ix3 0 r k))) * Q (ix2 r k) := by
  rw [← row_at G, ← sg_at]
  unfold duBlock k0_pay127 k0_pay124
  generalize k0_pay122 (F := Ideal) (k0_pay113 (k0_pay5 M) DY) W = Z
  pointwise [k0_pay246, k0_pay115, k0_pay110, k0_pay4]

/-- The gate's cotangent in a block. -/
abbrev dgBlock (T : FVec Ideal S512x1024 .f32) : FVec Ideal S1x512x1024 .f32 :=
  k0_pay248 k0_pay117 (k0_pay125 (k0_pay4 G) T (k0_pay108 (k0_pay4 G)) (k0_pay109 (k0_pay4 G)) (k0_pay113 (k0_pay5 M) DY) W)

theorem dg_at (T : FVec Ideal S512x1024 .f32) (z : Fin 1) : dgBlock G DY M W T (ix3 z r k)
    = T (ix2 r k) * k0_pay122 (F := Ideal) (k0_pay113 (k0_pay5 M) DY) W (ix2 r k) * sg (G (ix3 0 r k))
      + G (ix3 0 r k) * (T (ix2 r k) * k0_pay122 (F := Ideal) (k0_pay113 (k0_pay5 M) DY) W (ix2 r k))
        * (sg (G (ix3 0 r k)) * (1 - sg (G (ix3 0 r k)))) := by
  rw [← row_at G, ← sg_at]
  unfold dgBlock k0_pay125 k0_pay109
  generalize k0_pay122 (F := Ideal) (k0_pay113 (k0_pay5 M) DY) W = Z
  generalize k0_pay108 (F := Ideal) (k0_pay4 G) = S
  pointwise [k0_pay248, k0_pay117, k0_pay4]

theorem dw_at (A : FVec Ideal S512x1024 .f32) (j : Fin 1024) : k0_pay123 (F := Ideal) A (k0_pay113 (k0_pay5 M) DY) (ix2 k j)
    = ∑ r : Fin 512, A (ix2 r k) * (M (ix4 0 0 0 j) * DY (ix3 0 r j)) := by
  simp only [← dz_at]
  generalize k0_pay113 (F := Ideal) (k0_pay5 M) DY = Z
  pointwise [k0_pay123]

end Cert.Kernel13Ideal.Array

end
-- ==== Proof.ChOut.lean ====
/- What the chunk mixer's gradient kernel leaves in three of its arrays. -/
module

public import proofs.«01_k».proof.Proof.Gen.Kernel13.Frame
public import proofs.«01_k».proof.Proof.Gen.Kernel13Ideal.Value
public import proofs.«01_k».proof.Proof.Gen.Reference13Ideal.Run
public import proofs.«01_k».proof.Proof.ChTileBwd

@[expose] public section

set_option maxRecDepth 16384

noncomputable section

namespace Cert.Kernel13Ideal.Array

open Idealize.ShloMosaic Idealize.ShloMosaic.TcCoe Idealize.SL.Sem Cert.Kernel13Ideal Cert.Kernel13Ideal.Gen
open Cert.ChBwd
open Cert.ChFwd (mixed)
open Cert.MlOut (sg hDa hDa_at hDz_at hA_at hDg hDg_at hDw hDw_at)
open Cert.Out (ln)
open Cert.Kernel12Ideal.Array (norm norm_at bandN)

variable (r : Fin 512) (k : Fin 1024)

/-! ### The blocks of a grid point -/

theorem idx : ∀ t : Fin cfg0.N, win0_0.index t = ![t.val / 4, t.val % 4, 0] ∧ win0_1.index t = ![t.val / 4, t.val % 4, 0]
    ∧ win0_2.index t = ![t.val / 4, t.val % 4, 0] ∧ win0_4.index t = ![t.val / 4, 0, 0, 0] ∧ win0_5.index t = ![0, 0]
    ∧ win0_6.index t = ![0, 0] ∧ win0_7.index t = ![0, 0, 0] ∧ win0_8.index t = ![0, 0] ∧ win0_9.index t = ![0, 0]
    ∧ win0_10.index t = ![t.val / 4, t.val % 4, 0] ∧ win0_11.index t = ![t.val / 4, t.val % 4, 0]
    ∧ win0_13.index t = ![t.val / 4, t.val % 4, 0] ∧ win0_19.index t = ![0, 0] ∧ t.val < 8 :=
  (by decide +kernel : ∀ t : Fin grid0.N, _)

theorem lt8 (t : Fin cfg0.N) : t.val < 8 := (idx t).2.2.2.2.2.2.2.2.2.2.2.2.2

/-- The batch element of a grid point. -/
def bOf (t : Fin cfg0.N) : Fin 2 := ⟨t.val / 4, by have := lt8 t; omega⟩
/-- The position of a grid point's row. -/
def lOf (t : Fin cfg0.N) (r : Fin 512) : Fin 2048 := ⟨t.val % 4 * 512 + r, by omega⟩

variable (m : (ℓ : Loc nD τ sig) → Buf (Elt Ideal) ℓ) (c : Dev nD) (t : Fin cfg0.N)

/-- The arrays at launch. -/
abbrev aU : FVec Ideal S2x2048x1024 .f32 := m ((c.tc : Thread nD τ).loc main_arg0)
@[inherit_doc aU] abbrev aV : FVec Ideal S2x2048x1024 .f32 := m ((c.tc : Thread nD τ).loc main_arg1)
@[inherit_doc aU] abbrev aG : FVec Ideal S2x2048x1024 .f32 := m ((c.tc : Thread nD τ).loc main_arg2)
@[inherit_doc aU] abbrev aM : FVec Ideal S2x2x1x1024 .f32 := m ((c.tc : Thread nD τ).loc main_arg4)
@[inherit_doc aU] abbrev aLG : FVec Ideal S1x1024 .f32 := m ((c.tc : Thread nD τ).loc main_arg5)
@[inherit_doc aU] abbrev aLB : FVec Ideal S1x1024 .f32 := m ((c.tc : Thread nD τ).loc main_arg6)
@[inherit_doc aU] abbrev aWS : FVec Ideal S8x128x128 .f32 := m ((c.tc : Thread nD τ).loc main_arg7)
@[inherit_doc aU] abbrev aBS : FVec Ideal S128x8 .f32 := m ((c.tc : Thread nD τ).loc main_arg8)
@[inherit_doc aU] abbrev aW : FVec Ideal S1024x1024 .bf16 := m ((c.tc : Thread nD τ).loc main_arg9)
@[inherit_doc aU] abbrev aDY : FVec Ideal S2x2048x1024 .f32 := m ((c.tc : Thread nD τ).loc main_arg10)

theorem blk_u : iblk m c 0 t (ix3 0 r k) = aU m c (ix3 (bOf t) (lOf t r) k) := by
  blk_ext [iblk, Gen.V, bOf, lOf, idx t]

theorem blk_v : iblk m c 1 t (ix3 0 r k) = aV m c (ix3 (bOf t) (lOf t r) k) := by
  blk_ext [iblk, Gen.V, bOf, lOf, idx t]

theorem blk_g : iblk m c 2 t (ix3 0 r k) = aG m c (ix3 (bOf t) (lOf t r) k) := by
  blk_ext [iblk, Gen.V, bOf, lOf, idx t]

theorem blk_m : iblk m c 4 t (ix4 0 0 0 k) = aM m c (ix4 (bOf t) 0 0 k) := by
  blk_ext [iblk, Gen.V, bOf, idx t]

theorem blk_lg : iblk m c 5 t (ix2 0 k) = aLG m c (ix2 0 k) := by
  blk_ext [iblk, Gen.V, idx t]

theorem blk_lb : iblk m c 6 t (ix2 0 k) = aLB m c (ix2 0 k) := by
  blk_ext [iblk, Gen.V, idx t]

theorem blk_ws : iblk m c 7 t = aWS m c := by
  funext y
  idx_vars y
  blk_ext [iblk, Gen.V, idx t]

theorem blk_bs : iblk m c 8 t = aBS m c := by
  funext y
  idx_vars y
  blk_ext [iblk, Gen.V, idx t]

theorem blk_w (j : Fin 1024) : iblk m c 9 t (ix2 k j) = aW m c (ix2 k j) := by
  blk_ext [iblk, Gen.V, idx t]

theorem blk_dy : iblk m c 10 t (ix3 0 r k) = aDY m c (ix3 (bOf t) (lOf t r) k) := by
  blk_ext [iblk, Gen.V, bOf, lOf, idx t]

/-- The rows' cotangent in a block is the host's. -/
theorem da_blk : k0_pay122 (F := Ideal) (k0_pay113 (k0_pay5 (iblk m c 4 t)) (iblk m c 10 t)) (iblk m c 9 t) (ix2 r k)
    = hDa (aDY m c) (aM m c) (aW m c) (ix3 (bOf t) (lOf t r) k) := by
  refine (da_at _ _ _ r k).trans (Eq.trans ?_ (hDa_at _ _ _ _ _ _).symm)
  exact Finset.sum_congr rfl fun j _ => congrArg₂ (· * ·) (congrArg₂ (· * ·) (blk_m j m c t) (blk_dy r j m c t)) (blk_w k m c t j)

/-- The host's mixed rows. -/
abbrev hq : FVec Ideal S2x2048x1024 .f32 := hQ (aV m c) (aLG m c) (aLB m c) (aWS m c) (aBS m c)
/-- The host's mixed rows, times `u`. -/
abbrev ht : FVec Ideal S2x2048x1024 .f32 := hT (aU m c) (aV m c) (aLG m c) (aLB m c) (aWS m c) (aBS m c)

/-- A block's mixed row is the host's. -/
theorem q_blk : mixq (iblk m c 1 t) (iblk m c 5 t) (iblk m c 6 t) (iblk m c 7 t) (iblk m c 8 t) (ix2 r k)
    = hq m c (ix3 (bOf t) (lOf t r) k) := by
  refine (mixq_at _ _ _ _ _ r k).trans (Eq.trans ?_ (hQ_at _ _ _ _ _ _ _ _).symm)
  rw [blk_ws, blk_bs]
  have e : (⟨(lOf t r).val % 128, by omega⟩ : Fin 128) = ⟨r.val % 128, by omega⟩ :=
    Fin.ext (by show (t.val % 4 * 512 + (r : ℕ)) % 128 = r % 128; omega)
  unfold bandN mixed
  rw [e]
  refine congrArg (· + aBS m c (ix2 ⟨r.val % 128, by omega⟩ ⟨k.val / 128, by omega⟩))
    (Finset.sum_congr rfl fun i _ => congrArg (aWS m c (ix3 _ _ i) * ·) ?_)
  have q : (⟨(lOf t r).val / 128 * 128 + i, by omega⟩ : Fin 2048) = lOf t ⟨r.val / 128 * 128 + i, by omega⟩ :=
    Fin.ext (by show (t.val % 4 * 512 + (r : ℕ)) / 128 * 128 + i = t.val % 4 * 512 + (r / 128 * 128 + i); omega)
  refine (norm_at _ _ _ _ k).trans ?_
  rw [q]
  refine congrFun (congr (congrArg₂ ln ?_ ?_) ?_) k
  · exact funext fun k => blk_v _ k m c t
  · exact funext fun k => blk_lg k m c t
  · exact funext fun k => blk_lb k m c t

/-- The block's mixed rows, times `u`. -/
abbrev tBlock : FVec Ideal S512x1024 .f32 :=
  k0_pay107 (k0_pay3 (iblk m c 0 t)) (iblk m c 7 t) (iblk m c 8 t)
    (chunk1 (iblk m c 1 t) (iblk m c 5 t) (iblk m c 6 t) (iblk m c 7 t) (iblk m c 8 t))
    (chunk2 (iblk m c 7 t) (iblk m c 8 t) (nrm (iblk m c 1 t) (iblk m c 5 t) (iblk m c 6 t))) (chunk3 (iblk m c 7 t) (iblk m c 8 t) (nrm (iblk m c 1 t) (iblk m c 5 t) (iblk m c 6 t)))
    (k0_pay83 (nrm (iblk m c 1 t) (iblk m c 5 t) (iblk m c 6 t))) (k0_pay86 (iblk m c 7 t) (iblk m c 8 t) (nrm (iblk m c 1 t) (iblk m c 5 t) (iblk m c 6 t)))
    (k0_pay89 (iblk m c 7 t) (iblk m c 8 t) (nrm (iblk m c 1 t) (iblk m c 5 t) (iblk m c 6 t))) (k0_pay92 (iblk m c 7 t) (iblk m c 8 t) (nrm (iblk m c 1 t) (iblk m c 5 t) (iblk m c 6 t)))
    (k0_pay95 (iblk m c 7 t) (iblk m c 8 t) (nrm (iblk m c 1 t) (iblk m c 5 t) (iblk m c 6 t))) (k0_pay98 (iblk m c 7 t) (nrm (iblk m c 1 t) (iblk m c 5 t) (iblk m c 6 t))) (k0_pay99 (iblk m c 8 t))

theorem t_blk : tBlock m c t (ix2 r k) = ht m c (ix3 (bOf t) (lOf t r) k) :=
  (t_at _ _ _ _ _ _ _ _ _ _ _ _ _ _ _).trans (congrArg₂ (· * ·) (blk_u r k m c t) (q_blk r k m c t))

/-- The block's gated rows. -/
abbrev aBlock : FVec Ideal S512x1024 .f32 :=
  k0_pay111 (k0_pay3 (iblk m c 0 t)) (k0_pay4 (iblk m c 2 t)) (iblk m c 7 t) (iblk m c 8 t)
    (chunk1 (iblk m c 1 t) (iblk m c 5 t) (iblk m c 6 t) (iblk m c 7 t) (iblk m c 8 t))
    (chunk2 (iblk m c 7 t) (iblk m c 8 t) (nrm (iblk m c 1 t) (iblk m c 5 t) (iblk m c 6 t))) (chunk3 (iblk m c 7 t) (iblk m c 8 t) (nrm (iblk m c 1 t) (iblk m c 5 t) (iblk m c 6 t)))
    (k0_pay83 (nrm (iblk m c 1 t) (iblk m c 5 t) (iblk m c 6 t))) (k0_pay86 (iblk m c 7 t) (iblk m c 8 t) (nrm (iblk m c 1 t) (iblk m c 5 t) (iblk m c 6 t)))
    (k0_pay89 (iblk m c 7 t) (iblk m c 8 t) (nrm (iblk m c 1 t) (iblk m c 5 t) (iblk m c 6 t))) (k0_pay92 (iblk m c 7 t) (iblk m c 8 t) (nrm (iblk m c 1 t) (iblk m c 5 t) (iblk m c 6 t)))
    (k0_pay95 (iblk m c 7 t) (iblk m c 8 t) (nrm (iblk m c 1 t) (iblk m c 5 t) (iblk m c 6 t))) (k0_pay98 (iblk m c 7 t) (nrm (iblk m c 1 t) (iblk m c 5 t) (iblk m c 6 t))) (k0_pay99 (iblk m c 8 t))

theorem a_blk : aBlock m c t (ix2 r k) = Cert.MlOut.hA (ht m c) (aG m c) (ix3 (bOf t) (lOf t r) k) := by
  refine (a_at _ _ _ _ _ _ _ _ _ _ _ _ _ _ _ _).trans (Eq.trans ?_ (hA_at _ _ _ _ _).symm)
  exact congrArg₂ (· * ·) (congrArg₂ (· * ·) (blk_u r k m c t) (q_blk r k m c t))
    (congrArg (fun x => x * sg x) (blk_g r k m c t))

/-! ### What a point leaves in each output -/

theorem out11 : (outsAt0 m c t.val t.isLt).1 = duBlock (iblk m c 2 t) (iblk m c 10 t) (iblk m c 4 t) (iblk m c 9 t)
    (mixq (iblk m c 1 t) (iblk m c 5 t) (iblk m c 6 t) (iblk m c 7 t) (iblk m c 8 t)) := by
  have hl := lt8 t
  by_cases h : t.val % 4 = 0
  · by_cases h' : t.val % 8 = 0
    · rw [outsAt0_A m c t (by omega) (by omega) (by omega) (by omega) (by omega) (by omega) (by omega) (by omega) (by omega)
      (by omega) (by omega) (by omega)]
      dsimp only
      unfold out0_A_11
      frame_out
    · rw [outsAt0_C m c t (by omega) (by omega) (by omega) (by omega) (by omega) (by omega) (by omega) (by omega) (by omega)
      (by omega) (by omega) (by omega)]
      dsimp only
      unfold out0_C_11
      frame_out
  · rw [outsAt0_B m c t (by omega) (by omega) (by omega) (by omega) (by omega) (by omega) (by omega) (by omega) (by omega)
      (by omega) (by omega) (by omega)]
    dsimp only
    unfold out0_B_11
    frame_out

theorem out13 : (outsAt0 m c t.val t.isLt).2.2.1
    = dgBlock (iblk m c 2 t) (iblk m c 10 t) (iblk m c 4 t) (iblk m c 9 t) (tBlock m c t) := by
  have hl := lt8 t
  by_cases h : t.val % 4 = 0
  · by_cases h' : t.val % 8 = 0
    · rw [outsAt0_A m c t (by omega) (by omega) (by omega) (by omega) (by omega) (by omega) (by omega) (by omega) (by omega)
      (by omega) (by omega) (by omega)]
      dsimp only
      unfold out0_A_13
      frame_out
    · rw [outsAt0_C m c t (by omega) (by omega) (by omega) (by omega) (by omega) (by omega) (by omega) (by omega) (by omega)
      (by omega) (by omega) (by omega)]
      dsimp only
      unfold out0_C_13
      frame_out
  · rw [outsAt0_B m c t (by omega) (by omega) (by omega) (by omega) (by omega) (by omega) (by omega) (by omega) (by omega)
      (by omega) (by omega) (by omega)]
    dsimp only
    unfold out0_B_13
    frame_out

/-- What a point adds to the weights' gradient. -/
abbrev dwBlock : FVec Ideal S1024x1024 .f32 := k0_pay123 (aBlock m c t) (k0_pay113 (k0_pay5 (iblk m c 4 t)) (iblk m c 10 t))

theorem out19_first (h : t.val = 0) : (outsAt0 m c t.val t.isLt).2.2.2.2.2.2.2.2 = dwBlock m c t := by
  rw [outsAt0_A m c t (by omega) (by omega) (by omega) (by omega) (by omega) (by omega) (by omega) (by omega) (by omega)
      (by omega) (by omega) (by omega)]
  dsimp only
  unfold out0_A_19
  frame_out

theorem out19_next (h : t.val ≠ 0) : (outsAt0 m c t.val t.isLt).2.2.2.2.2.2.2.2
    = k0_pay2 (dwBlock m c t) (outsAt0 m c (t.val - 1) (Nat.lt_of_le_of_lt (Nat.sub_le _ _) t.isLt)).2.2.2.2.2.2.2.2 := by
  have hl := lt8 t
  by_cases h : t.val % 4 = 0
  · rw [outsAt0_C m c t (by omega) (by omega) (by omega) (by omega) (by omega) (by omega) (by omega) (by omega) (by omega)
      (by omega) (by omega) (by omega)]
    dsimp only
    unfold out0_C_19
    frame_out
  · rw [outsAt0_B m c t (by omega) (by omega) (by omega) (by omega) (by omega) (by omega) (by omega) (by omega) (by omega)
      (by omega) (by omega) (by omega)]
    dsimp only
    unfold out0_B_19
    frame_out

/-! ### The sum over the points -/

/-- The grid point at a position, and past the grid nothing. -/
def upTo (f : Fin cfg0.N → EReal) (s : ℕ) : EReal := if h : s < cfg0.N then f ⟨s, h⟩ else 0

theorem upTo_of (f : Fin cfg0.N → EReal) (s : ℕ) (h : s < cfg0.N) : upTo f s = f ⟨s, h⟩ := dif_pos h

theorem sum19 (k j : Fin 1024) : ∀ (n : ℕ) (h : n < cfg0.N), (outsAt0 m c n h).2.2.2.2.2.2.2.2 (ix2 k j)
    = ∑ s ∈ Finset.range (n + 1), upTo (fun t => dwBlock m c t (ix2 k j)) s
  | 0, h => by
    rw [Finset.sum_range_one, upTo_of _ _ h]
    exact congrFun (out19_first m c ⟨0, h⟩ rfl) _
  | n + 1, h => by
    rw [Finset.sum_range_succ, upTo_of _ _ h, ← sum19 k j n (by omega)]
    refine (congrFun (out19_next m c ⟨n + 1, h⟩ (Nat.succ_ne_zero n)) _).trans ?_
    have e (a b : FVec Ideal S1024x1024 .f32) : k0_pay2 (F := Ideal) a b (ix2 k j) = b (ix2 k j) + a (ix2 k j) := by
      pointwise [k0_pay2]
    exact e _ _

/-- The points' sums of their rows are the sum over all rows. -/
theorem sum_points (f : Fin cfg0.N → EReal) (g : Fin 2 → Fin 2048 → EReal) (h : ∀ t, f t = ∑ r : Fin 512, g (bOf t) (lOf t r)) :
    ∑ s ∈ Finset.range 8, upTo f s = ∑ b : Fin 2, ∑ l : Fin 2048, g b l := by
  rw [Finset.sum_range, Fin.sum_univ_tiles 2 4 rfl]
  refine Finset.sum_congr rfl fun b _ => ?_
  rw [Fin.sum_univ_tiles 4 512 rfl]
  refine Finset.sum_congr rfl fun j _ => ?_
  have hj := j.isLt
  have hb := b.isLt
  refine (upTo_of f _ (show (b : ℕ) * 4 + (j : ℕ) < 8 by omega)).trans ((h _).trans (Finset.sum_congr rfl fun r _ => ?_))
  exact congrArg₂ g (Fin.ext (by show ((b : ℕ) * 4 + j) / 4 = b; omega))
    (Fin.ext (by show ((b : ℕ) * 4 + j) % 4 * 512 + (r : ℕ) = j * 512 + r; omega))

theorem last : ∀ t : Fin cfg0.N, (cfg0.win 19).flush t = true → t.val = 7 := by decide +kernel

/-! ### The arrays after the run -/

theorem final_du : (dats m 0 c).arrAt 11 cfg0.N
    = hDu (aV m c) (aG m c) (aDY m c) (aM m c) (aLG m c) (aLB m c) (aWS m c) (aBS m c) (aW m c) := by
  refine (dats m 0 c).arrAt_eq_of_covers 11 _ (by decide +kernel) fun t hf y => ?_
  blk_simp
  rw [after0_11, out11]
  idx_vars y
  have e : (win0_11.blk t).view.emb (ix3 y0 y1 y2) = ix3 (bOf t) (lOf t y1) y2 := by
    blk_ext [bOf, lOf, idx t]
  refine (du_at _ _ _ _ y1 y2 _ y0).trans (Eq.trans ?_ ((congrArg _ e).trans (hDu_at _ _ _ _ _ _ _ _ _ _ _ _)).symm)
  rw [da_blk, blk_g, q_blk]

theorem final_dg : (dats m 0 c).arrAt 13 cfg0.N = hDg (ht m c) (aG m c) (aDY m c) (aM m c) (aW m c) := by
  refine (dats m 0 c).arrAt_eq_of_covers 13 _ (by decide +kernel) fun t hf y => ?_
  blk_simp
  rw [after0_13, out13]
  idx_vars y
  have e : (win0_13.blk t).view.emb (ix3 y0 y1 y2) = ix3 (bOf t) (lOf t y1) y2 := by
    blk_ext [bOf, lOf, idx t]
  refine (dg_at _ _ _ _ y1 y2 _ y0).trans (Eq.trans ?_ ((congrArg _ e).trans (hDg_at _ _ _ _ _ _ _ _)).symm)
  rw [da_blk, blk_g, t_blk]

theorem final_dw : (dats m 0 c).arrAt 19 cfg0.N = hDw (ht m c) (aG m c) (aDY m c) (aM m c) := by
  refine (dats m 0 c).arrAt_eq_of_covers 19 _ (by decide +kernel) fun t hf y => ?_
  blk_simp
  rw [after0_19]
  idx_vars y
  have e : (win0_19.blk t).view.emb (ix2 y0 y1) = ix2 y0 y1 := by
    blk_ext [idx t]
  refine (sum19 m c y0 y1 t.val t.isLt).trans (Eq.trans ?_ ((congrArg _ e).trans (hDw_at _ _ _ _ _ _)).symm)
  rw [last t hf]
  refine sum_points _ _ fun t => ?_
  refine (dw_at _ _ y0 _ y1).trans (Finset.sum_congr rfl fun r _ => ?_)
  rw [a_blk, blk_m, blk_dy, hDz_at, mul_comm]

end Cert.Kernel13Ideal.Array

end
-- ==== Proof.CvFwd.lean ====
/- What the convolution mixer's normed and gated output projection leaves in its array. -/
module

public import proofs.«01_k».proof.Proof.Gen.Reference10Ideal
public import proofs.«01_k».proof.Proof.Gen.Kernel10Ideal.Value
public import proofs.«01_k».proof.Proof.OutHost
public import Idealize.ShloMosaic.Lib.Claim
public import Idealize.ShloMosaic.Lib.Pointwise
public import Idealize.ShloMosaic.Lib.Pipeline.ValueKit

@[expose] public section

set_option maxRecDepth 16384

noncomputable section

/-! ## The host's rows -/

namespace Cert.CvFwd

open Idealize.ShloMosaic Idealize.ShloMosaic.TcCoe Idealize.SL.Sem Cert.Reference10Ideal Cert.Reference10Ideal.Gen
open Cert.Out
open Cert.In (seg)

variable (C G X : FVec Ideal S2x2304x1024 .f32) (M : FVec Ideal S2x2x1x1024 .f32) (LG LB : FVec Ideal S1x1024 .f32)
  (W : FVec Ideal S1024x1024 .bf16) (b : Fin 2) (l : Fin 2304) (k : Fin 1024)

/-- The normed rows, gated. -/
def hA : FVec Ideal S2x2304x1024 .f32 := mulf (hSilu (hLn C LG LB)) (hSilu G)

/-- The same, of a row. -/
def gated (x g b y : Cert.Proj.Row) : Cert.Proj.Row := fun k => silu (ln x g b k) * silu (y k)

theorem hA_at : hA C G LG LB (ix3 b l k)
    = gated (fun k => C (ix3 b l k)) (fun k => LG (ix2 0 k)) (fun k => LB (ix2 0 k)) (fun k => G (ix3 b l k)) k := by
  unfold gated
  rw [← hLn_at, ← hSilu_at, ← hSilu_at G]
  unfold hA
  generalize hSilu (hLn C LG LB) = P
  generalize hSilu G = Q
  pointwise []

/-- The gated rows' projection, added. -/
def hOut : FVec Ideal S2x2304x1024 .f32 := hAdd X (hA C G LG LB) M W

theorem hOut_at : hOut C G X M LG LB W (ix3 b l k) = X (ix3 b l k) + M (ix4 b (seg l) 0 k)
    * dotAt W (gated (fun k => C (ix3 b l k)) (fun k => LG (ix2 0 k)) (fun k => LB (ix2 0 k)) (fun k => G (ix3 b l k))) k := by
  refine (hAdd_at _ _ _ _ _ _ _).trans ?_
  refine congrArg (fun s => X (ix3 b l k) + M (ix4 b (seg l) 0 k) * dotAt W s k) (funext fun j => hA_at C G LG LB b l j)

end Cert.CvFwd

/-! ## The call's array -/

namespace Cert.Kernel10Ideal.Array

open Idealize.ShloMosaic Idealize.ShloMosaic.TcCoe Idealize.SL.Sem Cert.Kernel10Ideal Cert.Kernel10Ideal.Gen
open Cert.CvFwd
open Cert.MlOut (sg)
open Cert.In (seg)
open Cert.Out (dotAt silu ln cen cinv mean)

variable (r : Fin 256) (k : Fin 1024)

theorem a_at (C G : FVec Ideal S1x256x1024 .f32) (LG LB : FVec Ideal S1x1024 .f32) : k0_pay4 (F := Ideal) C G LG LB (ix2 r k)
    = gated (fun k => C (ix3 0 r k)) (fun k => LG (ix2 0 k)) (fun k => LB (ix2 0 k)) (fun k => G (ix3 0 r k)) k := by
  unfold gated silu sg ln cinv cen mean
  pointwise [k0_pay4]

/-- A block's result. -/
abbrev outBlock (C G X : FVec Ideal S1x256x1024 .f32) (M : FVec Ideal S1x1x1x1024 .f32) (LG LB : FVec Ideal S1x1024 .f32)
    (W : FVec Ideal S1024x1024 .bf16) : FVec Ideal S1x256x1024 .f32 :=
  k0_pay1 (k0_pay2 X) (k0_pay3 M) (k0_pay4 C G LG LB) W

theorem out_at (C G X : FVec Ideal S1x256x1024 .f32) (M : FVec Ideal S1x1x1x1024 .f32) (LG LB : FVec Ideal S1x1024 .f32)
    (W : FVec Ideal S1024x1024 .bf16) (z : Fin 1) : outBlock C G X M LG LB W (ix3 z r k) = X (ix3 0 r k) + M (ix4 0 0 0 k)
    * dotAt W (gated (fun k => C (ix3 0 r k)) (fun k => LG (ix2 0 k)) (fun k => LB (ix2 0 k)) (fun k => G (ix3 0 r k))) k := by
  unfold dotAt
  simp only [← a_at]
  unfold outBlock
  generalize k0_pay4 (F := Ideal) C G LG LB = A
  pointwise [k0_pay1, k0_pay2, k0_pay3]

theorem idx : ∀ t : Fin cfg0.N, win0_0.index t = ![t.val / 9, t.val % 9, 0] ∧ win0_1.index t = ![t.val / 9, t.val % 9, 0]
    ∧ win0_2.index t = ![t.val / 9, t.val % 9, 0] ∧ win0_3.index t = ![t.val / 9, t.val % 9 / 8, 0, 0]
    ∧ win0_4.index t = ![0, 0] ∧ win0_5.index t = ![0, 0] ∧ win0_6.index t = ![0, 0]
    ∧ win0_7.index t = ![t.val / 9, t.val % 9, 0] ∧ t.val < 18 :=
  (by decide +kernel : ∀ t : Fin grid0.N, _)

/-- The batch element of a grid point. -/
def bOf (t : Fin cfg0.N) : Fin 2 := ⟨t.val / 9, by have := (idx t).2.2.2.2.2.2.2.2; omega⟩
/-- The position of a grid point's row. -/
def lOf (t : Fin cfg0.N) (r : Fin 256) : Fin 2304 := ⟨t.val % 9 * 256 + r, by omega⟩

theorem seg_of (t : Fin cfg0.N) (r : Fin 256) : ((seg (lOf t r) : Fin 2) : ℕ) = t.val % 9 / 8 := by
  unfold seg lOf
  split <;> rename_i h <;> simp only at h ⊢
  · show 0 = _; omega
  · show 1 = _; omega

variable (m : (ℓ : Loc nD τ sig) → Buf (Elt Ideal) ℓ) (c : Dev nD) (t : Fin cfg0.N)

/-- The arrays at launch. -/
abbrev aC : FVec Ideal S2x2304x1024 .f32 := m ((c.tc : Thread nD τ).loc main_arg0)
@[inherit_doc aC] abbrev aG : FVec Ideal S2x2304x1024 .f32 := m ((c.tc : Thread nD τ).loc main_arg1)
@[inherit_doc aC] abbrev aX : FVec Ideal S2x2304x1024 .f32 := m ((c.tc : Thread nD τ).loc main_arg2)
@[inherit_doc aC] abbrev aM : FVec Ideal S2x2x1x1024 .f32 := m ((c.tc : Thread nD τ).loc main_arg3)
@[inherit_doc aC] abbrev aLG : FVec Ideal S1x1024 .f32 := m ((c.tc : Thread nD τ).loc main_arg4)
@[inherit_doc aC] abbrev aLB : FVec Ideal S1x1024 .f32 := m ((c.tc : Thread nD τ).loc main_arg5)
@[inherit_doc aC] abbrev aW : FVec Ideal S1024x1024 .bf16 := m ((c.tc : Thread nD τ).loc main_arg6)

theorem blk_c : iblk m c 0 t (ix3 0 r k) = aC m c (ix3 (bOf t) (lOf t r) k) := by
  blk_ext [iblk, V, bOf, lOf, idx t]

theorem blk_g : iblk m c 1 t (ix3 0 r k) = aG m c (ix3 (bOf t) (lOf t r) k) := by
  blk_ext [iblk, V, bOf, lOf, idx t]

theorem blk_x : iblk m c 2 t (ix3 0 r k) = aX m c (ix3 (bOf t) (lOf t r) k) := by
  blk_ext [iblk, V, bOf, lOf, idx t]

theorem blk_m : iblk m c 3 t (ix4 0 0 0 k) = aM m c (ix4 (bOf t) (seg (lOf t r)) 0 k) := by
  blk_ext [iblk, V, bOf, seg_of t r, idx t]

theorem blk_lg : iblk m c 4 t (ix2 0 k) = aLG m c (ix2 0 k) := by
  blk_ext [iblk, V, idx t]

theorem blk_lb : iblk m c 5 t (ix2 0 k) = aLB m c (ix2 0 k) := by
  blk_ext [iblk, V, idx t]

theorem blk_w (j : Fin 1024) : iblk m c 6 t (ix2 j k) = aW m c (ix2 j k) := by
  blk_ext [iblk, V, idx t]

theorem out7 : out0_7 (iblk m c 0 t) (iblk m c 1 t) (iblk m c 2 t) (iblk m c 3 t) (iblk m c 4 t) (iblk m c 5 t) (iblk m c 6 t)
    = outBlock (iblk m c 0 t) (iblk m c 1 t) (iblk m c 2 t) (iblk m c 3 t) (iblk m c 4 t) (iblk m c 5 t) (iblk m c 6 t) := by
  unfold out0_7
  frame_out

theorem final : (dats m 0 c).arrAt 7 cfg0.N = hOut (aC m c) (aG m c) (aX m c) (aM m c) (aLG m c) (aLB m c) (aW m c) := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  refine (out_at y1 y2 _ _ _ _ _ _ _ y0).trans (Eq.trans ?_ ((congrArg _ e).trans (hOut_at _ _ _ _ _ _ _ _ _ _)).symm)
  refine congrArg₂ (· + ·) (blk_x y1 y2 m c t) (congrArg₂ (· * ·) (blk_m y1 y2 m c t) ?_)
  refine Finset.sum_congr rfl fun j _ => congrArg₂ (· * ·) ?_ (blk_w y2 m c t j)
  refine congrFun (congr (congr (congrArg₂ gated ?_ ?_) ?_) ?_) j
  · exact funext fun k => blk_c y1 k m c t
  · exact funext fun k => blk_lg k m c t
  · exact funext fun k => blk_lb k m c t
  · exact funext fun k => blk_g y1 k m c t

end Cert.Kernel10Ideal.Array

end
-- ==== Proof.PlFwd.lean ====
/- What the pooling mixer's grouped and gated output projection leaves in its array. -/
module

public import proofs.«01_k».proof.Proof.Gen.Reference11Ideal
public import proofs.«01_k».proof.Proof.Gen.Kernel11Ideal.Value
public import proofs.«01_k».proof.Proof.OutHost
public import Idealize.ShloMosaic.Lib.Claim
public import Idealize.ShloMosaic.Lib.Pointwise
public import Idealize.ShloMosaic.Lib.Pipeline.ValueKit

@[expose] public section

set_option maxRecDepth 16384

noncomputable section

/-! ## The host's rows -/

namespace Cert.PlFwd

open Idealize.ShloMosaic Idealize.ShloMosaic.TcCoe Idealize.SL.Sem Cert.Reference11Ideal Cert.Reference11Ideal.Gen
open Cert.Out
open Cert.Proj (Row)
open Cert.In (seg)

variable (P G X : FVec Ideal S2x2304x1024 .f32) (M : FVec Ideal S2x2x1x1024 .f32) (WG : FVec Ideal S4x256x256 .f32)
  (SC : FVec Ideal S1x1024 .f32) (W : FVec Ideal S1024x1024 .bf16) (b : Fin 2) (l : Fin 2304) (k : Fin 1024)

/-- A row's product with its groups' weights. -/
def groups (WG : FVec Ideal S4x256x256 .f32) (x : Row) : Row := fun k =>
  ∑ i : Fin 256, x ⟨k.val / 256 * 256 + i, by omega⟩ * WG (ix3 ⟨k.val / 256, by omega⟩ i ⟨k.val % 256, by omega⟩)

/-- The rows' products with their groups' weights. -/
def hGrp : FVec Ideal S2x2304x1024 .f32 :=
  shapeCast _ (transpose S2x2304x4x256 [2, 3, 0, 1] (Host.dotGeneral dot_S4x256x256_S2x2304x4x256_S4x256x2x2304_1_3_2_01_0_2 none WG
    (shapeCast _ P shapeCasts_S2x2304x1024_S2x2304x4x256)) transposes_S4x256x2x2304_S2x2304x4x256_2_3_0_1)
    shapeCasts_S2x2304x4x256_S2x2304x1024

theorem hGrp_at : hGrp P WG (ix3 b l k) = groups WG (fun k => P (ix3 b l k)) k := by
  unfold groups
  simp only [mul_comm (P _)]
  pointwise [hGrp]

/-- The scaled products, gated. -/
def hA : FVec Ideal S2x2304x1024 .f32 :=
  mulf (mulf (hGrp P WG) (broadcastInDim S2x2304x1024 ![0, 1, 2] bcast_S1x1x1024_S2x2304x1024_0_1_2
    (broadcastInDim S1x1x1024 ![1, 2] bcast_S1x1024_S1x1x1024_1_2 SC))) (hSilu G)

/-- The same, of a row. -/
def gated (WG : FVec Ideal S4x256x256 .f32) (x s y : Row) : Row := fun k => groups WG x k * s k * silu (y k)

theorem hA_at : hA P G WG SC (ix3 b l k)
    = gated WG (fun k => P (ix3 b l k)) (fun k => SC (ix2 0 k)) (fun k => G (ix3 b l k)) k := by
  unfold gated
  rw [← hGrp_at, ← hSilu_at G]
  unfold hA
  generalize hGrp P WG = Y
  generalize hSilu G = Q
  pointwise []

/-- The gated rows' projection, added. -/
def hOut : FVec Ideal S2x2304x1024 .f32 := hAdd X (hA P G WG SC) M W

theorem hOut_at : hOut P G X M WG SC W (ix3 b l k) = X (ix3 b l k) + M (ix4 b (seg l) 0 k)
    * dotAt W (gated WG (fun k => P (ix3 b l k)) (fun k => SC (ix2 0 k)) (fun k => G (ix3 b l k))) k := by
  refine (hAdd_at _ _ _ _ _ _ _).trans ?_
  refine congrArg (fun s => X (ix3 b l k) + M (ix4 b (seg l) 0 k) * dotAt W s k) (funext fun j => hA_at P G WG SC b l j)

end Cert.PlFwd

/-! ## The call's array -/

namespace Cert.Kernel11Ideal.Array

open Idealize.ShloMosaic Idealize.ShloMosaic.TcCoe Idealize.SL.Sem Cert.Kernel11Ideal Cert.Kernel11Ideal.Gen
open Cert.PlFwd
open Cert.MlOut (sg)
open Cert.In (seg)
open Cert.Out (dotAt silu)

variable (r : Fin 256) (k : Fin 1024)

theorem grp_at (P : FVec Ideal S1x256x1024 .f32) (WG : FVec Ideal S4x256x256 .f32) : k0_pay5 (F := Ideal) P WG (ix2 r k)
    = groups WG (fun k => P (ix3 0 r k)) k := by
  have p (i i' : Fin 1024) (h : (i : ℕ) = i') : P (ix3 0 r i) = P (ix3 0 r i') := by rw [Fin.ext h]
  have w (g g' : Fin 4) (x j j' : Fin 256) (h : (g : ℕ) = g') (h' : (j : ℕ) = j') : WG (ix3 g x j) = WG (ix3 g' x j') := by
    rw [Fin.ext h, Fin.ext h']
  have hk := k.isLt
  unfold groups
  pointwise [k0_pay5]
  by_cases h0 : (k : ℕ) < 256
  · rw [dif_pos h0]
    exact Finset.sum_congr rfl fun x _ => congrArg₂ (· * ·) (p _ _ (by show (x : ℕ) = k / 256 * 256 + x; omega))
      (w _ _ x _ _ (by show 0 = (k : ℕ) / 256; omega) (by show (k : ℕ) = k % 256; omega))
  rw [dif_neg h0]
  by_cases h1 : (k : ℕ) - 256 < 256
  · rw [dif_pos h1]
    exact Finset.sum_congr rfl fun x _ => congrArg₂ (· * ·) (p _ _ (by show 256 + (x : ℕ) = k / 256 * 256 + x; omega))
      (w _ _ x _ _ (by show 1 = (k : ℕ) / 256; omega) (by show (k : ℕ) - 256 = k % 256; omega))
  rw [dif_neg h1]
  by_cases h2 : (k : ℕ) - 256 - 256 < 256
  · rw [dif_pos h2]
    exact Finset.sum_congr rfl fun x _ => congrArg₂ (· * ·) (p _ _ (by show 512 + (x : ℕ) = k / 256 * 256 + x; omega))
      (w _ _ x _ _ (by show 2 = (k : ℕ) / 256; omega) (by show (k : ℕ) - 256 - 256 = k % 256; omega))
  rw [dif_neg h2]
  exact Finset.sum_congr rfl fun x _ => congrArg₂ (· * ·) (p _ _ (by show 768 + (x : ℕ) = k / 256 * 256 + x; omega))
      (w _ _ x _ _ (by show 3 = (k : ℕ) / 256; omega) (by show (k : ℕ) - 256 - 256 - 256 = k % 256; omega))

/-- A block's result. -/
abbrev outBlock (P G X : FVec Ideal S1x256x1024 .f32) (M : FVec Ideal S1x1x1x1024 .f32) (WG : FVec Ideal S4x256x256 .f32)
    (SC : FVec Ideal S1x1024 .f32) (W : FVec Ideal S1024x1024 .bf16) : FVec Ideal S1x256x1024 .f32 :=
  k0_pay1 (k0_pay2 G) (k0_pay3 X) (k0_pay4 M) (k0_pay5 P WG) (k0_pay6 SC) W

theorem out_at (P G X : FVec Ideal S1x256x1024 .f32) (M : FVec Ideal S1x1x1x1024 .f32) (WG : FVec Ideal S4x256x256 .f32)
    (SC : FVec Ideal S1x1024 .f32) (W : FVec Ideal S1024x1024 .bf16) (z : Fin 1) : outBlock P G X M WG SC W (ix3 z r k)
    = X (ix3 0 r k) + M (ix4 0 0 0 k)
      * dotAt W (gated WG (fun k => P (ix3 0 r k)) (fun k => SC (ix2 0 k)) (fun k => G (ix3 0 r k))) k := by
  unfold dotAt gated silu sg
  simp only [← grp_at]
  unfold outBlock
  generalize k0_pay5 (F := Ideal) P WG = A
  pointwise [k0_pay1, k0_pay2, k0_pay3, k0_pay4, k0_pay6]

theorem idx : ∀ t : Fin cfg0.N, win0_0.index t = ![t.val / 9, t.val % 9, 0] ∧ win0_1.index t = ![t.val / 9, t.val % 9, 0]
    ∧ win0_2.index t = ![t.val / 9, t.val % 9, 0] ∧ win0_3.index t = ![t.val / 9, t.val % 9 / 8, 0, 0]
    ∧ win0_4.index t = ![0, 0, 0] ∧ win0_5.index t = ![0, 0] ∧ win0_6.index t = ![0, 0]
    ∧ win0_7.index t = ![t.val / 9, t.val % 9, 0] ∧ t.val < 18 :=
  (by decide +kernel : ∀ t : Fin grid0.N, _)

/-- The batch element of a grid point. -/
def bOf (t : Fin cfg0.N) : Fin 2 := ⟨t.val / 9, by have := (idx t).2.2.2.2.2.2.2.2; omega⟩
/-- The position of a grid point's row. -/
def lOf (t : Fin cfg0.N) (r : Fin 256) : Fin 2304 := ⟨t.val % 9 * 256 + r, by omega⟩

theorem seg_of (t : Fin cfg0.N) (r : Fin 256) : ((seg (lOf t r) : Fin 2) : ℕ) = t.val % 9 / 8 := by
  unfold seg lOf
  split <;> rename_i h <;> simp only at h ⊢
  · show 0 = _; omega
  · show 1 = _; omega

variable (m : (ℓ : Loc nD τ sig) → Buf (Elt Ideal) ℓ) (c : Dev nD) (t : Fin cfg0.N)

/-- The arrays at launch. -/
abbrev aP : FVec Ideal S2x2304x1024 .f32 := m ((c.tc : Thread nD τ).loc main_arg0)
@[inherit_doc aP] abbrev aG : FVec Ideal S2x2304x1024 .f32 := m ((c.tc : Thread nD τ).loc main_arg1)
@[inherit_doc aP] abbrev aX : FVec Ideal S2x2304x1024 .f32 := m ((c.tc : Thread nD τ).loc main_arg2)
@[inherit_doc aP] abbrev aM : FVec Ideal S2x2x1x1024 .f32 := m ((c.tc : Thread nD τ).loc main_arg3)
@[inherit_doc aP] abbrev aWG : FVec Ideal S4x256x256 .f32 := m ((c.tc : Thread nD τ).loc main_arg4)
@[inherit_doc aP] abbrev aSC : FVec Ideal S1x1024 .f32 := m ((c.tc : Thread nD τ).loc main_arg5)
@[inherit_doc aP] abbrev aW : FVec Ideal S1024x1024 .bf16 := m ((c.tc : Thread nD τ).loc main_arg6)

theorem blk_p : iblk m c 0 t (ix3 0 r k) = aP m c (ix3 (bOf t) (lOf t r) k) := by
  blk_ext [iblk, V, bOf, lOf, idx t]

theorem blk_g : iblk m c 1 t (ix3 0 r k) = aG m c (ix3 (bOf t) (lOf t r) k) := by
  blk_ext [iblk, V, bOf, lOf, idx t]

theorem blk_x : iblk m c 2 t (ix3 0 r k) = aX m c (ix3 (bOf t) (lOf t r) k) := by
  blk_ext [iblk, V, bOf, lOf, idx t]

theorem blk_m : iblk m c 3 t (ix4 0 0 0 k) = aM m c (ix4 (bOf t) (seg (lOf t r)) 0 k) := by
  blk_ext [iblk, V, bOf, seg_of t r, idx t]

theorem blk_wg : iblk m c 4 t = aWG m c := by
  funext y
  idx_vars y
  blk_ext [iblk, V, idx t]

theorem blk_sc : iblk m c 5 t (ix2 0 k) = aSC m c (ix2 0 k) := by
  blk_ext [iblk, V, idx t]

theorem blk_w (j : Fin 1024) : iblk m c 6 t (ix2 j k) = aW m c (ix2 j k) := by
  blk_ext [iblk, V, idx t]

theorem out7 : out0_7 (iblk m c 0 t) (iblk m c 1 t) (iblk m c 2 t) (iblk m c 3 t) (iblk m c 4 t) (iblk m c 5 t) (iblk m c 6 t)
    = outBlock (iblk m c 0 t) (iblk m c 1 t) (iblk m c 2 t) (iblk m c 3 t) (iblk m c 4 t) (iblk m c 5 t) (iblk m c 6 t) := by
  unfold out0_7
  frame_out

theorem final : (dats m 0 c).arrAt 7 cfg0.N = hOut (aP m c) (aG m c) (aX m c) (aM m c) (aWG m c) (aSC m c) (aW m c) := by
  refine (dats m 0 c).arrAt_eq_of_covers 7 _ (by decide +kernel) fun t hf y => ?_
  blk_simp
  rw [after0_7, out7]
  idx_vars y
  have e : (win0_7.blk t).view.emb (ix3 y0 y1 y2) = ix3 (bOf t) (lOf t y1) y2 := by
    blk_ext [bOf, lOf, idx t]
  refine (out_at y1 y2 _ _ _ _ _ _ _ y0).trans (Eq.trans ?_ ((congrArg _ e).trans (hOut_at _ _ _ _ _ _ _ _ _ _)).symm)
  refine congrArg₂ (· + ·) (blk_x y1 y2 m c t) (congrArg₂ (· * ·) (blk_m y1 y2 m c t) ?_)
  refine Finset.sum_congr rfl fun j _ => congrArg₂ (· * ·) ?_ (blk_w y2 m c t j)
  refine congrFun (congr (congr (congrArg₂ gated (blk_wg m c t) ?_) ?_) ?_) j
  · exact funext fun k => blk_p y1 k m c t
  · exact funext fun k => blk_sc k m c t
  · exact funext fun k => blk_g y1 k m c t

end Cert.Kernel11Ideal.Array

end
-- ==== Proof.OutClaims.lean ====
/- The frames, named constants and value claims of the calls after the mixers: the gated output projections of the latent
   attention, the convolution mixer, the pooling mixer and the chunk mixer, added to the rows, and the chunk mixer's gradient. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal.Run
public import proofs.«01_k».proof.Proof.ChOut
public import proofs.«01_k».proof.Proof.MlFwd
public import proofs.«01_k».proof.Proof.CvFwd
public import proofs.«01_k».proof.Proof.PlFwd
public import proofs.«01_k».proof.Proof.ChFwd
public import Idealize.ShloMosaic.Lib.Claim

@[expose] public section

set_option maxRecDepth 16384

noncomputable section

namespace Cert.Proof

open Idealize.ShloMosaic Idealize.SL.Sem

/-- The frame of the latent attention's output projection, at the machine's floats. -/
theorem frame_k9 : Cert.quiescent_Kernel9 := fun m ρ _ => Cert.Kernel9.Gen.frame m ρ

/-- The frame of its idealization. -/
theorem frame_ki9 : Cert.quiescent_Kernel9Ideal := fun m ρ _ => Cert.Kernel9Ideal.Gen.frame m ρ

/-- The frame of its reference. -/
theorem frame_ri9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- No constant was named in it. -/
theorem preserves9 : Cert.preserves_Kernel9_Kernel9Ideal := trivial

/-- Its rows are the reference's. -/
theorem algebraic9 : Cert.algebraic_Kernel9Ideal_Reference9Ideal := by
  intro m ρ m' ρ' _ hagree
  refine ⟨fun c => (Cert.Kernel9Ideal.Gen.dats m 0 c).arrAt 5 Cert.Kernel9Ideal.cfg0.N,
    Cert.Kernel9Ideal.Value.run_blocks (F := Ideal) m ρ, ?_⟩
  refine (θ_run Cert.Reference9Ideal.defs _ _).mono (fun r h c => ?_) (Cert.Reference9Ideal.Value.run (F := Ideal) m' ρ')
  obtain ⟨e0, e1, e2, e3, e4⟩ := hagree c
  obtain ⟨h0, hrest⟩ := h c
  refine ⟨h0.trans (Eq.trans ?_ (Cert.Kernel9Ideal.Array.final m c).symm), hrest⟩
  rw [e0, e1, e2, e3, e4]
  rfl

/-- The frame of the convolution mixer's output projection, at the machine's floats. -/
theorem frame_k10 : Cert.quiescent_Kernel10 := fun m ρ _ => Cert.Kernel10.Gen.frame m ρ

/-- The frame of its idealization. -/
theorem frame_ki10 : Cert.quiescent_Kernel10Ideal := fun m ρ _ => Cert.Kernel10Ideal.Gen.frame m ρ

/-- The frame of its reference. -/
theorem frame_ri10 : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- No constant was named in it. -/
theorem preserves10 : Cert.preserves_Kernel10_Kernel10Ideal := trivial

/-- Its rows are the reference's. -/
theorem algebraic10 : Cert.algebraic_Kernel10Ideal_Reference10Ideal := by
  intro m ρ m' ρ' _ hagree
  refine ⟨fun c => (Cert.Kernel10Ideal.Gen.dats m 0 c).arrAt 7 Cert.Kernel10Ideal.cfg0.N,
    Cert.Kernel10Ideal.Value.run_blocks (F := Ideal) m ρ, ?_⟩
  refine (θ_run Cert.Reference10Ideal.defs _ _).mono (fun r h c => ?_) (Cert.Reference10Ideal.Value.run (F := Ideal) m' ρ')
  obtain ⟨e0, e1, e2, e3, e4, e5, e6⟩ := hagree c
  obtain ⟨h0, hrest⟩ := h c
  refine ⟨h0.trans (Eq.trans ?_ (Cert.Kernel10Ideal.Array.final m c).symm), hrest⟩
  unfold Cert.Reference10Ideal.Value.res_main_v45
  rw [e0, e1, e2, e3, e4, e5, e6]
  rfl

/-- The frame of the pooling mixer's output projection, at the machine's floats. -/
theorem frame_k11 : Cert.quiescent_Kernel11 := fun m ρ _ => Cert.Kernel11.Gen.frame m ρ

/-- The frame of its idealization. -/
theorem frame_ki11 : Cert.quiescent_Kernel11Ideal := fun m ρ _ => Cert.Kernel11Ideal.Gen.frame m ρ

/-- The frame of its reference. -/
theorem frame_ri11 : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- No constant was named in it. -/
theorem preserves11 : Cert.preserves_Kernel11_Kernel11Ideal := trivial

/-- Its rows are the reference's. -/
theorem algebraic11 : Cert.algebraic_Kernel11Ideal_Reference11Ideal := by
  intro m ρ m' ρ' _ hagree
  refine ⟨fun c => (Cert.Kernel11Ideal.Gen.dats m 0 c).arrAt 7 Cert.Kernel11Ideal.cfg0.N,
    Cert.Kernel11Ideal.Value.run_blocks (F := Ideal) m ρ, ?_⟩
  refine (θ_run Cert.Reference11Ideal.defs _ _).mono (fun r h c => ?_) (Cert.Reference11Ideal.Value.run (F := Ideal) m' ρ')
  obtain ⟨e0, e1, e2, e3, e4, e5, e6⟩ := hagree c
  obtain ⟨h0, hrest⟩ := h c
  refine ⟨h0.trans (Eq.trans ?_ (Cert.Kernel11Ideal.Array.final m c).symm), hrest⟩
  rw [e0, e1, e2, e3, e4, e5, e6]
  rfl

/-- The frame of the chunk mixer's output projection, at the machine's floats. -/
theorem frame_k12 : Cert.quiescent_Kernel12 := fun m ρ _ => Cert.Kernel12.Gen.frame m ρ

/-- The frame of its idealization. -/
theorem frame_ki12 : Cert.quiescent_Kernel12Ideal := fun m ρ _ => Cert.Kernel12Ideal.Gen.frame m ρ

/-- The frame of its reference. -/
theorem frame_ri12 : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- No constant was named in it. -/
theorem preserves12 : Cert.preserves_Kernel12_Kernel12Ideal := trivial

/-- Its rows are the reference's. -/
theorem algebraic12 : Cert.algebraic_Kernel12Ideal_Reference12Ideal := by
  intro m ρ m' ρ' _ hagree
  refine ⟨fun c => (Cert.Kernel12Ideal.Gen.dats m 0 c).arrAt 10 Cert.Kernel12Ideal.cfg0.N,
    Cert.Kernel12Ideal.Value.run_blocks (F := Ideal) m ρ, ?_⟩
  refine (θ_run Cert.Reference12Ideal.defs _ _).mono (fun r h c => ?_) (Cert.Reference12Ideal.Value.run (F := Ideal) m' ρ')
  obtain ⟨e0, e1, e2, e3, e4, e5, e6, e7, e8, e9⟩ := hagree c
  obtain ⟨h0, hrest⟩ := h c
  refine ⟨h0.trans (Eq.trans ?_ (Cert.Kernel12Ideal.Array.final m c).symm), hrest⟩
  rw [e0, e1, e2, e3, e4, e5, e6, e7, e8, e9]
  rfl

/-- The frame of the chunk mixer's gradient, at the machine's floats. -/
theorem frame_k13 : Cert.quiescent_Kernel13 := fun m ρ _ => Cert.Kernel13.Gen.frame m ρ

/-- The frame of its idealization. -/
theorem frame_ki13 : Cert.quiescent_Kernel13Ideal := fun m ρ _ => Cert.Kernel13Ideal.Gen.frame m ρ

/-- The frame of its reference. -/
theorem frame_ri13 : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

/-- No constant was named in it. -/
theorem preserves13 : Cert.preserves_Kernel13_Kernel13Ideal := trivial

/-- Its three arrays are the reference's gradients. -/
theorem algebraic13 : Cert.algebraic_Kernel13Ideal_Reference13Ideal := by
  intro m ρ m' ρ' _ hagree
  refine ⟨fun c => (Cert.Kernel13Ideal.Gen.dats m 0 c).arrAt 11 Cert.Kernel13Ideal.cfg0.N,
    fun c => (Cert.Kernel13Ideal.Gen.dats m 0 c).arrAt 13 Cert.Kernel13Ideal.cfg0.N,
    fun c => (Cert.Kernel13Ideal.Gen.dats m 0 c).arrAt 19 Cert.Kernel13Ideal.cfg0.N,
    (θ_run Cert.Kernel13Ideal.defs _ _).mono (fun r h c => ?_) (Cert.Kernel13Ideal.Value.run_blocks (F := Ideal) m ρ), ?_⟩
  · obtain ⟨h0, _, h2, _, _, _, _, _, h8, hk⟩ := h c
    exact ⟨h0, h2, h8, hk⟩
  refine (θ_run Cert.Reference13Ideal.defs _ _).mono (fun r h c => ?_) (Cert.Reference13Ideal.Value.run (F := Ideal) m' ρ')
  obtain ⟨e0, e1, e2, _, e4, e5, e6, e7, e8, e9, e10⟩ := hagree c
  obtain ⟨h0, h1, h2, h3⟩ := h c
  refine ⟨h0.trans ?_, h1.trans ?_, h2.trans ?_, h3⟩
  · refine Eq.trans ?_ (Cert.Kernel13Ideal.Array.final_du m c).symm
    rw [e1, e2, e4, e5, e6, e7, e8, e9, e10]
    rfl
  · refine Eq.trans ?_ (Cert.Kernel13Ideal.Array.final_dg m c).symm
    unfold Cert.Reference13Ideal.Value.res_main_v49
    rw [e0, e1, e2, e4, e5, e6, e7, e8, e9, e10]
    rfl
  · refine Eq.trans ?_ (Cert.Kernel13Ideal.Array.final_dw m c).symm
    rw [e0, e1, e2, e4, e5, e6, e7, e8, e10]
    rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Pre
public import proofs.«01_k».proof.Proof.Array
public import proofs.«01_k».proof.Proof.Ref
public import proofs.«01_k».proof.Proof.FwdArray
public import proofs.«01_k».proof.Proof.ProjArray
public import proofs.«01_k».proof.Proof.InClaims
public import proofs.«01_k».proof.Proof.MlOut
public import proofs.«01_k».proof.Proof.OutClaims

@[expose] public section

set_option maxRecDepth 16384

noncomputable section

namespace Cert.Proof

open Idealize.ShloMosaic Idealize.ShloMosaic.TcCoe Idealize.SL.Sem Cert.Attn

instance : Cert.Pre_finite.Facts := preFacts

instance : Cert.Pre_finite2.Facts := preFacts2

/-- The kernel's frame, at the machine's floats. -/
theorem frame_k : Cert.quiescent_Kernel := fun m ρ _ => Cert.Kernel.Gen.frame m ρ

/-- The idealized kernel's frame. -/
theorem frame_ki : Cert.quiescent_KernelIdeal := fun m ρ _ => Cert.KernelIdeal.Gen.frame m ρ

/-- The reference's frame: the host's run read at the arguments; it declares no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one constant that was named. -/
theorem preserves : Cert.preserves_Kernel_KernelIdeal :=
  IdealRules.named_const.statement Cert.KernelIdeal.κ "ln2" .f32 0x3F317218#32 ((Real.log 2 : ℝ) : EReal) rfl

/-- The kernel's three arrays are the reference's gradients. -/
theorem algebraic : Cert.algebraic_KernelIdeal_ReferenceIdeal_pre_finite := by
  intro m ρ m' ρ' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨hq, hk, hv, hg⟩ := finite_of_pre _ _ _ _ (hpre c)
  obtain ⟨e0, e1, e2, e3⟩ := hagree c
  obtain ⟨h0, h1, h2, h3⟩ := h c
  refine ⟨h0.trans ?_, h1.trans ?_, h2.trans ?_, h3⟩
  · refine (res_dq m' c).trans (Eq.trans ?_ (Cert.KernelIdeal.Array.final_dq hq hk hv hg).symm)
    rw [rowMax_eq]
    unfold rQ rK rW rG
    rw [e0, e1, e2, e3]
  · refine (res_dk m' c).trans (Eq.trans ?_ (Cert.KernelIdeal.Array.final_dk hq hk hv hg).symm)
    rw [rowMax_eq]
    unfold rQ rK rW rG
    rw [e0, e1, e2, e3]
  · refine Eq.trans (b := dvOf (rG m' c) (prob (expOff (scores (rQ m' c) (rK m' c)) (rowMax (scores (rQ m' c) (rK m' c))))))
      rfl (Eq.trans ?_ (Cert.KernelIdeal.Array.final_dv hq hk).symm)
    rw [rowMax_eq]
    unfold rQ rK rG
    rw [e0, e1, e3]

/-- The forward kernel's frame, at the machine's floats. -/
theorem frame_k2 : Cert.quiescent_Kernel2 := fun m ρ _ => Cert.Kernel2.Gen.frame m ρ

/-- The idealized forward kernel's frame. -/
theorem frame_ki2 : Cert.quiescent_Kernel2Ideal := fun m ρ _ => Cert.Kernel2Ideal.Gen.frame m ρ

/-- The forward reference's frame. -/
theorem frame_ri2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The one constant that was named in the forward kernel. -/
theorem preserves2 : Cert.preserves_Kernel2_Kernel2Ideal :=
  IdealRules.named_const.statement Cert.Kernel2Ideal.κ "log2e" .f32 0x3FB8AA3B#32 (((Real.log 2)⁻¹ : ℝ) : EReal) rfl

/-- The forward kernel's two arrays are the reference's result and log-sum-exp. -/
theorem algebraic2 : Cert.algebraic_Kernel2Ideal_Reference2Ideal_pre_finite2 := by
  intro m ρ m' ρ' hpre hagree
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    Cert.Kernel2Ideal.Value.run_blocks (F := Ideal) m ρ, ?_⟩
  refine (θ_run Cert.Reference2Ideal.defs _ _).mono (fun r h c => ?_) (Cert.Reference2Ideal.Value.run (F := Ideal) m' ρ')
  obtain ⟨hq, hk⟩ := finite_of_pre2 _ _ _ (hpre c)
  obtain ⟨e0, e1, e2⟩ := hagree c
  obtain ⟨h0, h1, h2⟩ := h c
  refine ⟨h0.trans ?_, h1.trans ?_, h2⟩
  · refine Eq.trans (b := outOf (m' ((c.tc : Thread Cert.Reference2Ideal.nD Cert.Reference2Ideal.τ).loc Cert.Reference2Ideal.main_arg2))
      (prob (expOff (scores (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1)))
        (rowMax (scores (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1)))))))
      rfl (Eq.trans ?_ (Cert.Kernel2Ideal.Array.final_o hq hk).symm)
    rw [rowMax_eq, e0, e1, e2]
  · refine Eq.trans ?_ (Cert.Kernel2Ideal.Array.final_l hq hk).symm
    rw [e0, e1]
    rfl

/-- The projection gradient's frame, at the machine's floats. -/
theorem frame_k3 : Cert.quiescent_Kernel3 := fun m ρ _ => Cert.Kernel3.Gen.frame m ρ

/-- The idealized projection gradient's frame. -/
theorem frame_ki3 : Cert.quiescent_Kernel3Ideal := fun m ρ _ => Cert.Kernel3Ideal.Gen.frame m ρ

/-- The frame of the projection gradient's reference. -/
theorem frame_ri3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- No constant was named in the projection gradient. -/
theorem preserves3 : Cert.preserves_Kernel3_Kernel3Ideal := trivial

/-- The projection gradient's three arrays are the reference's gradients. -/
theorem algebraic3 : Cert.algebraic_Kernel3Ideal_Reference3Ideal := by
  intro m ρ m' ρ' _ hagree
  refine ⟨fun c => (Cert.Kernel3Ideal.Gen.dats m 0 c).arrAt 9 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    (θ_run Cert.Kernel3Ideal.defs _ _).mono (fun r h c => ?_) (Cert.Kernel3Ideal.Value.run_blocks (F := Ideal) m ρ), ?_⟩
  · obtain ⟨h0, _, _, h3, h4, hk⟩ := h c
    exact ⟨h0, h3, h4, hk⟩
  refine (θ_run Cert.Reference3Ideal.defs _ _).mono (fun r h c => ?_) (Cert.Reference3Ideal.Value.run (F := Ideal) m' ρ')
  obtain ⟨e0, e1, e2, e3, e4, e5, e6, e7, e8⟩ := hagree c
  obtain ⟨h0, h1, h2, h3⟩ := h c
  refine ⟨h0.trans ?_, h1.trans ?_, h2.trans ?_, h3⟩
  · refine Eq.trans ?_ (Cert.Kernel3Ideal.Array.final_dx m c).symm
    unfold Cert.Reference3Ideal.Value.res_main_v58
    rw [e0, e2, e3, e4, e5, e6, e7, e8]
    rfl
  · refine Eq.trans ?_ (Cert.Kernel3Ideal.Array.final_dn m c).symm
    rw [e0, e2, e4, e5, e6, e7]
    rfl
  · refine Eq.trans ?_ (Cert.Kernel3Ideal.Array.final_dw m c).symm
    rw [e0, e1, e2, e3, e5, e6, e7]
    rfl

/-- The output projection gradient's frame, at the machine's floats. -/
theorem frame_k8 : Cert.quiescent_Kernel8 := fun m ρ _ => Cert.Kernel8.Gen.frame m ρ

/-- The idealized output projection gradient's frame. -/
theorem frame_ki8 : Cert.quiescent_Kernel8Ideal := fun m ρ _ => Cert.Kernel8Ideal.Gen.frame m ρ

/-- The frame of the output projection gradient's reference. -/
theorem frame_ri8 : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

/-- No constant was named in the output projection gradient. -/
theorem preserves8 : Cert.preserves_Kernel8_Kernel8Ideal := trivial

/-- The output projection gradient's three arrays are the reference's gradients. -/
theorem algebraic8 : Cert.algebraic_Kernel8Ideal_Reference8Ideal := by
  intro m ρ m' ρ' _ hagree
  refine ⟨fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 9 Cert.Kernel8Ideal.cfg0.N,
    (θ_run Cert.Kernel8Ideal.defs _ _).mono (fun r h c => ?_) (Cert.Kernel8Ideal.Value.run_blocks (F := Ideal) m ρ), ?_⟩
  · obtain ⟨h0, h1, _, h3, hk⟩ := h c
    exact ⟨h0, h1, h3, hk⟩
  refine (θ_run Cert.Reference8Ideal.defs _ _).mono (fun r h c => ?_) (Cert.Reference8Ideal.Value.run (F := Ideal) m' ρ')
  obtain ⟨e0, e1, _, e3, e4, e5⟩ := hagree c
  obtain ⟨h0, h1, h2, h3⟩ := h c
  refine ⟨h0.trans ?_, h1.trans ?_, h2.trans ?_, h3⟩
  · refine Eq.trans ?_ (Cert.Kernel8Ideal.Array.final_dt m c).symm
    rw [e1, e3, e4, e5]
    rfl
  · refine Eq.trans ?_ (Cert.Kernel8Ideal.Array.final_dg m c).symm
    rw [e0, e1, e3, e4, e5]
    rfl
  · refine Eq.trans ?_ (Cert.Kernel8Ideal.Array.final_dw m c).symm
    rw [e0, e1, e3, e5]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  preFacts, preFacts2,
  frame_k, frame_ki, fun m ρ _ => frame_ki m ρ trivial, frame_ri, fun m ρ _ => frame_ri m ρ trivial,
  frame_k2, frame_ki2, fun m ρ _ => frame_ki2 m ρ trivial, frame_ri2, fun m ρ _ => frame_ri2 m ρ trivial,
  frame_k3, frame_ki3, frame_ri3, frame_k4, frame_ki4, frame_ri4,
  frame_k5, frame_ki5, frame_ri5, frame_k6, frame_ki6, frame_ri6,
  frame_k7, frame_ki7, frame_ri7, frame_k8, frame_ki8, frame_ri8,
  frame_k9, frame_ki9, frame_ri9, frame_k10, frame_ki10, frame_ri10,
  frame_k11, frame_ki11, frame_ri11, frame_k12, frame_ki12, frame_ri12,
  frame_k13, frame_ki13, frame_ri13,
  preserves, algebraic, preserves2, algebraic2, preserves3, algebraic3,
  preserves4, algebraic4, preserves5, algebraic5, preserves6, algebraic6, preserves7, algebraic7, preserves8, algebraic8,
  preserves9, algebraic9, preserves10, algebraic10, preserves11, algebraic11, preserves12, algebraic12,
  preserves13, algebraic13⟩

end Cert.Proof

end
